-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biases_absent_weights_finite [hPre_biases_absent_weights_finite : Cert.Pre_biases_absent_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_biases_absent_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biases_absent_weights_finite [hPre_biases_absent_weights_finite : Cert.Pre_biases_absent_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biases_absent_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_biases_absent_weights_finite [hKernelIdeal : Cert.KernelIdeal.Facts] [hPre_biases_absent_weights_finite : Cert.Pre_biases_absent_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biases_absent_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_biases_absent_weights_finite [hReferenceIdeal : Cert.ReferenceIdeal.Facts] [hPre_biases_absent_weights_finite : Cert.Pre_biases_absent_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biases_absent_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_biases_absent_weights_finite [hKernelIdeal : Cert.KernelIdeal.Facts] [hReferenceIdeal : Cert.ReferenceIdeal.Facts] [hPre_biases_absent_weights_finite : Cert.Pre_biases_absent_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biases_absent_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_biases_absent_weights_finite : Cert.Pre_biases_absent_weights_finite.Facts),
    quiescent_Kernel (hKernel := hKernel)
    ∧ quiescent_KernelIdeal (hKernelIdeal := hKernelIdeal)
    ∧ quiescent_KernelIdeal_pre_biases_absent_weights_finite (hKernelIdeal := hKernelIdeal) (hPre_biases_absent_weights_finite := hPre_biases_absent_weights_finite)
    ∧ quiescent_ReferenceIdeal (hReferenceIdeal := hReferenceIdeal)
    ∧ quiescent_ReferenceIdeal_pre_biases_absent_weights_finite (hReferenceIdeal := hReferenceIdeal) (hPre_biases_absent_weights_finite := hPre_biases_absent_weights_finite)
    ∧ preserves_Kernel_KernelIdeal
    ∧ algebraic_KernelIdeal_ReferenceIdeal_pre_biases_absent_weights_finite (hKernelIdeal := hKernelIdeal) (hReferenceIdeal := hReferenceIdeal) (hPre_biases_absent_weights_finite := hPre_biases_absent_weights_finite)
-- ==== Pre_biases_absent_weights_finite.lean ====
abbrev S512x2048 : Shape := ⟨2, ![512, 2048]⟩
abbrev S1x100 : Shape := ⟨2, ![1, 100]⟩
abbrev S100 : Shape := ⟨1, ![100]⟩
abbrev S100x50 : Shape := ⟨2, ![100, 50]⟩
abbrev S50 : Shape := ⟨1, ![50]⟩
abbrev S50x16 : Shape := ⟨2, ![50, 16]⟩
abbrev S16 : Shape := ⟨1, ![16]⟩
abbrev S_ : Shape := ⟨0, ![]⟩

class Facts : Prop where
  bcast_S_S100 : S_.BroadcastsInDim S100 (![] : Fin 0 → Fin S100.rank)
  reducesTo_S100_S_d0 : S100.ReducesTo [0] S_
  h_S_ : 0 < S_.numel
  bcast_S_S50 : S_.BroadcastsInDim S50 (![] : Fin 0 → Fin S50.rank)
  reducesTo_S50_S_d0 : S50.ReducesTo [0] S_
  bcast_S_S16 : S_.BroadcastsInDim S16 (![] : Fin 0 → Fin S16.rank)
  reducesTo_S16_S_d0 : S16.ReducesTo [0] S_
  bcast_S_S100x50 : S_.BroadcastsInDim S100x50 (![] : Fin 0 → Fin S100x50.rank)
  reducesTo_S100x50_S_d0_1 : S100x50.ReducesTo [0, 1] S_
  bcast_S_S50x16 : S_.BroadcastsInDim S50x16 (![] : Fin 0 → Fin S50x16.rank)
  reducesTo_S50x16_S_d0_1 : S50x16.ReducesTo [0, 1] S_

variable [Facts]

def fn_part1 {F : FTy → Type} [FloatOps F] (main_arg5 : FVec F S50x16 .f32) (main_v15 : IVec S_ 1) : IVec S_ 1 :=
  let main_v16 : FVec F S50x16 .f32 := Host.absf main_arg5
  let main_cst_6 : FVec F S_ .f32 := constant S_ .f32 0x7F800000#32
  let main_v17 : FVec F S50x16 .f32 := broadcastInDim S50x16 ![] bcast_S_S50x16 main_cst_6
  let main_v18 : IVec S50x16 1 := cmpf .olt main_v16 main_v17
  let main_c_7 : IVec S_ 1 := constantI S_ 1 1#1
  let main_v19 : IVec S_ 1 := (fun x v => Host.reduce IntOp.andi x v reducesTo_S50x16_S_d0_1 h_S_) main_v18 main_c_7
  let main_v20 : IVec S_ 1 := andi main_v15 main_v19
  main_v20

def fn {F : FTy → Type} [FloatOps F] (main_arg0 : FVec F S512x2048 .f32) (main_arg1 : FVec F S1x100 .f32) (main_arg2 : FVec F S100 .f32) (main_arg3 : FVec F S100x50 .f32) (main_arg4 : FVec F S50 .f32) (main_arg5 : FVec F S50x16 .f32) (main_arg6 : FVec F S16 .f32) : IVec S_ 1 :=
  let main_cst : FVec F S_ .f32 := constant S_ .f32 0x00000000#32
  let main_v0 : FVec F S100 .f32 := broadcastInDim S100 ![] bcast_S_S100 main_cst
  let main_v1 : IVec S100 1 := cmpf .oeq main_arg2 main_v0
  let main_c : IVec S_ 1 := constantI S_ 1 1#1
  let main_v2 : IVec S_ 1 := (fun x v => Host.reduce IntOp.andi x v reducesTo_S100_S_d0 h_S_) main_v1 main_c
  let main_cst_0 : FVec F S_ .f32 := constant S_ .f32 0x00000000#32
  let main_v3 : FVec F S50 .f32 := broadcastInDim S50 ![] bcast_S_S50 main_cst_0
  let main_v4 : IVec S50 1 := cmpf .oeq main_arg4 main_v3
  let main_c_1 : IVec S_ 1 := constantI S_ 1 1#1
  let main_v5 : IVec S_ 1 := (fun x v => Host.reduce IntOp.andi x v reducesTo_S50_S_d0 h_S_) main_v4 main_c_1
  let main_v6 : IVec S_ 1 := andi main_v2 main_v5
  let main_cst_2 : FVec F S_ .f32 := constant S_ .f32 0x00000000#32
  let main_v7 : FVec F S16 .f32 := broadcastInDim S16 ![] bcast_S_S16 main_cst_2
  let main_v8 : IVec S16 1 := cmpf .oeq main_arg6 main_v7
  let main_c_3 : IVec S_ 1 := constantI S_ 1 1#1
  let main_v9 : IVec S_ 1 := (fun x v => Host.reduce IntOp.andi x v reducesTo_S16_S_d0 h_S_) main_v8 main_c_3
  let main_v10 : IVec S_ 1 := andi main_v6 main_v9
  let main_v11 : FVec F S100x50 .f32 := Host.absf main_arg3
  let main_cst_4 : FVec F S_ .f32 := constant S_ .f32 0x7F800000#32
  let main_v12 : FVec F S100x50 .f32 := broadcastInDim S100x50 ![] bcast_S_S100x50 main_cst_4
  let main_v13 : IVec S100x50 1 := cmpf .olt main_v11 main_v12
  let main_c_5 : IVec S_ 1 := constantI S_ 1 1#1
  let main_v14 : IVec S_ 1 := (fun x v => Host.reduce IntOp.andi x v reducesTo_S100x50_S_d0_1 h_S_) main_v13 main_c_5
  let main_v15 : IVec S_ 1 := andi main_v10 main_v14
  fn_part1 (F := F) main_arg5 main_v15
-- ==== Kernel.lean ====
abbrev S512x2048 : Shape := ⟨2, ![512, 2048]⟩
abbrev S1x100 : Shape := ⟨2, ![1, 100]⟩
abbrev S100 : Shape := ⟨1, ![100]⟩
abbrev S100x50 : Shape := ⟨2, ![100, 50]⟩
abbrev S50 : Shape := ⟨1, ![50]⟩
abbrev S50x16 : Shape := ⟨2, ![50, 16]⟩
abbrev S16 : Shape := ⟨1, ![16]⟩
abbrev S2048x512 : Shape := ⟨2, ![2048, 512]⟩
abbrev S64x16384 : Shape := ⟨2, ![64, 16384]⟩
abbrev S100x1 : Shape := ⟨2, ![100, 1]⟩
abbrev S50x100 : Shape := ⟨2, ![50, 100]⟩
abbrev S16x50 : Shape := ⟨2, ![16, 50]⟩
abbrev S16x16384 : Shape := ⟨2, ![16, 16384]⟩
abbrev S1x8 : Shape := ⟨2, ![1, 8]⟩
abbrev S1x16384 : Shape := ⟨2, ![1, 16384]⟩
abbrev S100x16384 : Shape := ⟨2, ![100, 16384]⟩
abbrev S50x16384 : Shape := ⟨2, ![50, 16384]⟩
abbrev S16x512 : Shape := ⟨2, ![16, 512]⟩
abbrev S1x8192 : Shape := ⟨2, ![1, 8192]⟩
abbrev S100x8192 : Shape := ⟨2, ![100, 8192]⟩
abbrev S50x8192 : Shape := ⟨2, ![50, 8192]⟩
abbrev S16x8192 : Shape := ⟨2, ![16, 8192]⟩
abbrev S8x512 : Shape := ⟨2, ![8, 512]⟩
abbrev S8x1x512 : Shape := ⟨3, ![8, 1, 512]⟩
abbrev S8x2x512 : Shape := ⟨3, ![8, 2, 512]⟩
abbrev S8x16384 : Shape := ⟨2, ![8, 16384]⟩
abbrev S1x512 : Shape := ⟨2, ![1, 512]⟩
abbrev S32x512 : Shape := ⟨2, ![32, 512]⟩

abbrev nBuf : Space → Nat
  | .hbm => 14
  | .vmem => 8
  | .smem => 0
  | _ => 0

abbrev bufTy : (tb : Table) → Fin (tcTables nBuf tb) → BufTy
  | .hbm, ⟨0, _⟩ => ⟨S512x2048, .f32⟩
  | .hbm, ⟨1, _⟩ => ⟨S1x100, .f32⟩
  | .hbm, ⟨2, _⟩ => ⟨S100, .f32⟩
  | .hbm, ⟨3, _⟩ => ⟨S100x50, .f32⟩
  | .hbm, ⟨4, _⟩ => ⟨S50, .f32⟩
  | .hbm, ⟨5, _⟩ => ⟨S50x16, .f32⟩
  | .hbm, ⟨6, _⟩ => ⟨S16, .f32⟩
  | .hbm, ⟨7, _⟩ => ⟨S2048x512, .f32⟩
  | .hbm, ⟨8, _⟩ => ⟨S64x16384, .f32⟩
  | .hbm, ⟨9, _⟩ => ⟨S100x1, .f32⟩
  | .hbm, ⟨10, _⟩ => ⟨S50x100, .f32⟩
  | .hbm, ⟨11, _⟩ => ⟨S16x50, .f32⟩
  | .hbm, ⟨12, _⟩ => ⟨S2048x512, .f32⟩
  | .hbm, ⟨13, _⟩ => ⟨S512x2048, .f32⟩
  | .local _ .vmem, ⟨0, _⟩ => ⟨S64x16384, .f32⟩
  | .local _ .vmem, ⟨1, _⟩ => ⟨S100x1, .f32⟩
  | .local _ .vmem, ⟨2, _⟩ => ⟨S50x100, .f32⟩
  | .local _ .vmem, ⟨3, _⟩ => ⟨S16x50, .f32⟩
  | .local _ .vmem, ⟨4, _⟩ => ⟨S2048x512, .f32⟩
  | .local _ .vmem, ⟨5, _⟩ => ⟨S64x16384, .f32⟩
  | .local _ .vmem, ⟨6, _⟩ => ⟨S16x16384, .f32⟩
  | .local _ .vmem, ⟨7, _⟩ => ⟨S16x16384, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v29 : BitVec 32 := Scalar.addi c0_i32 c32_i32
  let c1_i32 : BitVec 32 := 1#32
  ⟨c0_i32, v29, c1_i32⟩
def k0_off1 (k0_t1 : Fin k0_t1_loop.trips) : Fin 2 → Nat :=
  let c2_i32_20 : BitVec 32 := 2#32
  let c0_i32 : BitVec 32 := 0#32
  let c1_i32 : BitVec 32 := 1#32
  let arg8 : BitVec 32 := Scf.iv c0_i32 c1_i32 k0_t1
  let v35 : BitVec 32 := Scalar.muli c2_i32_20 arg8
  let c1_i32_21 : BitVec 32 := 1#32
  let v36 : BitVec 32 := Scalar.addi v35 c1_i32_21
  let v37 : Index := Scalar.indexCast v36
  let c0_22 : Index := 0#32
  ![v37.toNat, 0]
def k0_off2 (k0_t1 : Fin k0_t1_loop.trips) : Fin 2 → Nat :=
  let c2_i32_20 : BitVec 32 := 2#32
  let c0_i32 : BitVec 32 := 0#32
  let c1_i32 : BitVec 32 := 1#32
  let arg8 : BitVec 32 := Scf.iv c0_i32 c1_i32 k0_t1
  let v35 : BitVec 32 := Scalar.muli c2_i32_20 arg8
  let c1_i32_21 : BitVec 32 := 1#32
  let v36 : BitVec 32 := Scalar.addi v35 c1_i32_21
  let v231 : Index := Scalar.indexCast v36
  let c8192 : Index := 8192#32
  ![v231.toNat, 8192]
def k0_off3 (k0_t1 : Fin k0_t1_loop.trips) : Fin 2 → Nat :=
  let c2_i32 : BitVec 32 := 2#32
  let c0_i32 : BitVec 32 := 0#32
  let c1_i32 : BitVec 32 := 1#32
  let arg8 : BitVec 32 := Scf.iv c0_i32 c1_i32 k0_t1
  let v34 : BitVec 32 := Scalar.muli c2_i32 arg8
  let v427 : Index := Scalar.indexCast v34
  let c0_72 : Index := 0#32
  ![v427.toNat, 0]
def k0_off4 (k0_t1 : Fin k0_t1_loop.trips) : Fin 2 → Nat :=
  let c2_i32_20 : BitVec 32 := 2#32
  let c0_i32 : BitVec 32 := 0#32
  let c1_i32 : BitVec 32 := 1#32
  let arg8 : BitVec 32 := Scf.iv c0_i32 c1_i32 k0_t1
  let v35 : BitVec 32 := Scalar.muli c2_i32_20 arg8
  let c1_i32_21 : BitVec 32 := 1#32
  let v36 : BitVec 32 := Scalar.addi v35 c1_i32_21
  let c1_i32_73 : BitVec 32 := 1#32
  let v431 : BitVec 32 := Scalar.addi v36 c1_i32_73
  let c63_i32 : BitVec 32 := 63#32
  let v432 : BitVec 32 := Scalar.minsi v431 c63_i32
  let v433 : Index := Scalar.indexCast v432
  let c0_74 : Index := 0#32
  ![v433.toNat, 0]
def k0_off5 (k0_t1 : Fin k0_t1_loop.trips) : Fin 2 → Nat :=
  let c2_i32_20 : BitVec 32 := 2#32
  let c0_i32 : BitVec 32 := 0#32
  let c1_i32 : BitVec 32 := 1#32
  let arg8 : BitVec 32 := Scf.iv c0_i32 c1_i32 k0_t1
  let v35 : BitVec 32 := Scalar.muli c2_i32_20 arg8
  let c1_i32_21 : BitVec 32 := 1#32
  let v36 : BitVec 32 := Scalar.addi v35 c1_i32_21
  let c1_i32_73 : BitVec 32 := 1#32
  let v431 : BitVec 32 := Scalar.addi v36 c1_i32_73
  let c63_i32 : BitVec 32 := 63#32
  let v432 : BitVec 32 := Scalar.minsi v431 c63_i32
  let v627 : Index := Scalar.indexCast v432
  let c8192_114 : Index := 8192#32
  ![v627.toNat, 8192]
def k0_off6 (k0_t1 : Fin k0_t1_loop.trips) : Fin 2 → Nat :=
  let c2_i32_20 : BitVec 32 := 2#32
  let c0_i32 : BitVec 32 := 0#32
  let c1_i32 : BitVec 32 := 1#32
  let arg8 : BitVec 32 := Scf.iv c0_i32 c1_i32 k0_t1
  let v35 : BitVec 32 := Scalar.muli c2_i32_20 arg8
  let c1_i32_21 : BitVec 32 := 1#32
  let v36 : BitVec 32 := Scalar.addi v35 c1_i32_21
  let v823 : Index := Scalar.indexCast v36
  let c0_155 : Index := 0#32
  ![v823.toNat, 0]
@[reducible] def k0_t2_loop : Scf.Loop 32 :=
  let c0_i32_17 : BitVec 32 := 0#32
  let c64_i32 : BitVec 32 := 64#32
  let v32 : BitVec 32 := Scalar.addi c0_i32_17 c64_i32
  let c1_i32_18 : BitVec 32 := 1#32
  ⟨c0_i32_17, v32, c1_i32_18⟩
def k0_off7 (k0_t2 : Fin k0_t2_loop.trips) : Fin 2 → Nat :=
  let c63_i32 : BitVec 32 := 63#32
  let c0_i32_17 : BitVec 32 := 0#32
  let c1_i32_18 : BitVec 32 := 1#32
  let arg8 : BitVec 32 := Scf.iv c0_i32_17 c1_i32_18 k0_t2
  let v34 : BitVec 32 := Scalar.subi c63_i32 arg8
  let v35 : Index := Scalar.indexCast v34
  let c0_20 : Index := 0#32
  ![v35.toNat, 0]
def k0_off8 (k0_t2 : Fin k0_t2_loop.trips) : Fin 2 → Nat :=
  let c63_i32 : BitVec 32 := 63#32
  let c0_i32_17 : BitVec 32 := 0#32
  let c1_i32_18 : BitVec 32 := 1#32
  let arg8 : BitVec 32 := Scf.iv c0_i32_17 c1_i32_18 k0_t2
  let v34 : BitVec 32 := Scalar.subi c63_i32 arg8
  let c32_i32_116 : BitVec 32 := 32#32
  let v359 : BitVec 32 := Scalar.muli v34 c32_i32_116
  let v360 : Index := Scalar.indexCast v359
  let c0_117 : Index := 0#32
  ![v360.toNat, 0]
abbrev stage0_0 : Fin 1 → Memref sig .tc .vmem S64x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S100x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S50x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S512x2048 : Shape := ⟨2, ![512, 2048]⟩
abbrev S1x100 : Shape := ⟨2, ![1, 100]⟩
abbrev S100 : Shape := ⟨1, ![100]⟩
abbrev S100x50 : Shape := ⟨2, ![100, 50]⟩
abbrev S50 : Shape := ⟨1, ![50]⟩
abbrev S50x16 : Shape := ⟨2, ![50, 16]⟩
abbrev S16 : Shape := ⟨1, ![16]⟩
abbrev S16x2 : Shape := ⟨2, ![16, 2]⟩
abbrev S_ : Shape := ⟨0, ![]⟩
abbrev S512x16 : Shape := ⟨2, ![512, 16]⟩
abbrev S2048x512 : Shape := ⟨2, ![2048, 512]⟩
abbrev S2048x512x16 : Shape := ⟨3, ![2048, 512, 16]⟩
abbrev S1x512 : Shape := ⟨2, ![1, 512]⟩
abbrev S512 : Shape := ⟨1, ![512]⟩
abbrev S512x1 : Shape := ⟨2, ![512, 1]⟩
abbrev S512x100 : Shape := ⟨2, ![512, 100]⟩
abbrev S512x50 : Shape := ⟨2, ![512, 50]⟩
abbrev S1x50 : Shape := ⟨2, ![1, 50]⟩
abbrev S1x16 : Shape := ⟨2, ![1, 16]⟩
abbrev S16x2x1 : Shape := ⟨3, ![16, 2, 1]⟩
abbrev S512x16x2 : Shape := ⟨3, ![512, 16, 2]⟩
abbrev S512x16x1 : Shape := ⟨3, ![512, 16, 1]⟩
abbrev S1x512x16 : Shape := ⟨3, ![1, 512, 16]⟩
abbrev S512x2 : Shape := ⟨2, ![512, 2]⟩

abbrev nBuf : Space → Nat
  | .hbm => 149
  | .vmem => 0
  | .smem => 0
  | _ => 0

abbrev hbmTy0_0 (i : Nat) : BufTy := match i % 128 with
  | 0 => ⟨S512x2048, .f32⟩
  | 1 => ⟨S1x100, .f32⟩
  | 2 => ⟨S100, .f32⟩
  | 3 => ⟨S100x50, .f32⟩
  | 4 => ⟨S50, .f32⟩
  | 5 => ⟨S50x16, .f32⟩
  | 6 => ⟨S16, .f32⟩
  | 7 => ⟨S16x2, .i32⟩
  | 8 => ⟨S16, .i32⟩
  | 9 => ⟨S_, .f32⟩
  | 10 => ⟨S512x16, .f32⟩
  | 11 => ⟨S2048x512, .f32⟩
  | 12 => ⟨S_, .i32⟩
  | 13 => ⟨S2048x512x16, .i32⟩
  | 14 => ⟨S_, .i32⟩
  | 15 => ⟨S2048x512, .f32⟩
  | 16 => ⟨S1x100, .f32⟩
  | 17 => ⟨S100, .f32⟩
  | 18 => ⟨S100x50, .f32⟩
  | 19 => ⟨S50, .f32⟩
  | 20 => ⟨S50x16, .f32⟩
  | 21 => ⟨S16, .f32⟩
  | 22 => ⟨S16x2, .i32⟩
  | 23 => ⟨S16, .i32⟩
  | 24 => ⟨S_, .i32⟩
  | 25 => ⟨S512x16, .f32⟩
  | 26 => ⟨S2048x512x16, .i32⟩
  | 27 => ⟨S_, .i32⟩
  | 28 => ⟨S_, .i1⟩
  | 29 => ⟨S_, .i32⟩
  | 30 => ⟨S1x512, .f32⟩
  | 31 => ⟨S512, .f32⟩
  | 32 => ⟨S512x1, .f32⟩
  | 33 => ⟨S512x100, .f32⟩
  | 34 => ⟨S1x100, .f32⟩
  | 35 => ⟨S512x100, .f32⟩
  | 36 => ⟨S512x100, .f32⟩
  | 37 => ⟨S512x100, .f32⟩
  | 38 => ⟨S512x100, .f32⟩
  | 39 => ⟨S_, .f32⟩
  | 40 => ⟨S512x100, .f32⟩
  | 41 => ⟨S512x100, .f32⟩
  | 42 => ⟨S_, .f32⟩
  | 43 => ⟨S512x100, .f32⟩
  | 44 => ⟨S512x100, .f32⟩
  | 45 => ⟨S512x50, .f32⟩
  | 46 => ⟨S1x50, .f32⟩
  | 47 => ⟨S512x50, .f32⟩
  | 48 => ⟨S512x50, .f32⟩
  | 49 => ⟨S_, .f32⟩
  | 50 => ⟨S512x50, .f32⟩
  | 51 => ⟨S512x50, .f32⟩
  | 52 => ⟨S512x16, .f32⟩
  | 53 => ⟨S1x16, .f32⟩
  | 54 => ⟨S512x16, .f32⟩
  | 55 => ⟨S512x16, .f32⟩
  | 56 => ⟨S_, .i32⟩
  | 57 => ⟨S16x2, .i32⟩
  | 58 => ⟨S16x2, .i1⟩
  | 59 => ⟨S_, .i32⟩
  | 60 => ⟨S16x2, .i32⟩
  | 61 => ⟨S16x2, .i32⟩
  | 62 => ⟨S16x2, .i32⟩
  | 63 => ⟨S16x2x1, .i32⟩
  | 64 => ⟨S512x16x2, .f32⟩
  | 65 => ⟨S512x16x1, .f32⟩
  | 66 => ⟨S512x16x2, .f32⟩
  | 67 => ⟨S512x16x2, .f32⟩
  | 68 => ⟨S_, .f32⟩
  | 69 => ⟨S512x16, .f32⟩
  | 70 => ⟨S512x16x2, .i32⟩
  | 71 => ⟨S_, .f32⟩
  | 72 => ⟨S_, .i32⟩
  | 73 => ⟨S512x16, .f32⟩
  | 74 => ⟨S512x16, .i32⟩
  | 75 => ⟨S1x16, .i32⟩
  | 76 => ⟨S_, .i32⟩
  | 77 => ⟨S1x16, .i32⟩
  | 78 => ⟨S1x16, .i1⟩
  | 79 => ⟨S_, .i32⟩
  | 80 => ⟨S1x16, .i32⟩
  | 81 => ⟨S1x16, .i32⟩
  | 82 => ⟨S1x16, .i32⟩
  | 83 => ⟨S_, .i32⟩
  | 84 => ⟨S512x16, .i32⟩
  | 85 => ⟨S512x16, .i1⟩
  | 86 => ⟨S_, .i32⟩
  | 87 => ⟨S512x16, .i32⟩
  | 88 => ⟨S512x16, .i32⟩
  | 89 => ⟨S512x16, .i32⟩
  | 90 => ⟨S512x16, .i32⟩
  | 91 => ⟨S512x16x1, .i32⟩
  | 92 => ⟨S512x16x1, .i32⟩
  | 93 => ⟨S512x16x2, .i32⟩
  | 94 => ⟨S512x16, .i32⟩
  | 95 => ⟨S1x512x16, .i32⟩
  | 96 => ⟨S_, .i32⟩
  | 97 => ⟨S_, .i32⟩
  | 98 => ⟨S2048x512x16, .i32⟩
  | 99 => ⟨S_, .i32⟩
  | 100 => ⟨S_, .i32⟩
  | 101 => ⟨S_, .i32⟩
  | 102 => ⟨S512, .i32⟩
  | 103 => ⟨S_, .f32⟩
  | 104 => ⟨S2048x512, .f32⟩
  | 105 => ⟨S_, .i32⟩
  | 106 => ⟨S2048x512x16, .i32⟩
  | 107 => ⟨S_, .i32⟩
  | 108 => ⟨S512, .i32⟩
  | 109 => ⟨S2048x512, .f32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S1x512x16, .i32⟩
  | 119 => ⟨S512x16, .i32⟩
  | 120 => ⟨S512, .i32⟩
  | 121 => ⟨S_, .i32⟩
  | 122 => ⟨S512, .i32⟩
  | 123 => ⟨S512, .i1⟩
  | 124 => ⟨S_, .i32⟩
  | 125 => ⟨S512, .i32⟩
  | 126 => ⟨S512, .i32⟩
  | 127 => ⟨S512, .i32⟩
  | _ => ⟨S512x2048, .f32⟩

abbrev hbmTy0_1 (i : Nat) : BufTy := match i % 128 with
  | 0 => ⟨S_, .i32⟩
  | 1 => ⟨S512, .i32⟩
  | 2 => ⟨S512, .i1⟩
  | 3 => ⟨S_, .i32⟩
  | 4 => ⟨S512, .i32⟩
  | 5 => ⟨S512, .i32⟩
  | 6 => ⟨S512, .i32⟩
  | 7 => ⟨S512x1, .i32⟩
  | 8 => ⟨S512x1, .i32⟩
  | 9 => ⟨S512x2, .i32⟩
  | 10 => ⟨S512, .i32⟩
  | 11 => ⟨S_, .i32⟩
  | 12 => ⟨S512, .i32⟩
  | 13 => ⟨S512, .i1⟩
  | 14 => ⟨S512, .f32⟩
  | 15 => ⟨S1x512, .f32⟩
  | 16 => ⟨S_, .i32⟩
  | 17 => ⟨S2048x512, .f32⟩
  | 18 => ⟨S_, .i32⟩
  | 19 => ⟨S_, .i32⟩
  | 20 => ⟨S512x2048, .f32⟩
  | _ => ⟨S512x2048, .f32⟩

abbrev hbmTy (i : Nat) : BufTy := match i / 128 with
  | 0 => hbmTy0_0 i
  | 1 => hbmTy0_1 i
  | _ => ⟨S512x2048, .f32⟩

abbrev bufTy : (tb : Table) → Fin (tcTables nBuf tb) → BufTy
  | .hbm, ⟨i, _⟩ => hbmTy i
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_c_1 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev main_v4_7 : Ref sig .tc := ⟨.hbm, 22, rfl⟩
abbrev main_v4_8 : Ref sig .tc := ⟨.hbm, 23, rfl⟩
abbrev main_v4_9 : Ref sig .tc := ⟨.hbm, 24, rfl⟩
abbrev main_v4_10 : Ref sig .tc := ⟨.hbm, 25, rfl⟩
abbrev main_v4_11 : Ref sig .tc := ⟨.hbm, 26, rfl⟩
abbrev main_while0c_c_16 : Ref sig .tc := ⟨.hbm, 27, rfl⟩
abbrev main_while0c_v9 : Ref sig .tc := ⟨.hbm, 28, rfl⟩
abbrev main_while0b_call0_c : Ref sig .tc := ⟨.hbm, 29, rfl⟩
abbrev main_while0b_call0_v0 : Ref sig .tc := ⟨.hbm, 30, rfl⟩
abbrev main_while0b_v9 : Ref sig .tc := ⟨.hbm, 31, rfl⟩
abbrev main_while0b_v10 : Ref sig .tc := ⟨.hbm, 32, rfl⟩
abbrev main_while0b_v11 : Ref sig .tc := ⟨.hbm, 33, rfl⟩
abbrev main_while0b_v12 : Ref sig .tc := ⟨.hbm, 34, rfl⟩
abbrev main_while0b_v13 : Ref sig .tc := ⟨.hbm, 35, rfl⟩
abbrev main_while0b_v14 : Ref sig .tc := ⟨.hbm, 36, rfl⟩
abbrev main_while0b_v15 : Ref sig .tc := ⟨.hbm, 37, rfl⟩
abbrev main_while0b_v16 : Ref sig .tc := ⟨.hbm, 38, rfl⟩
abbrev main_while0b_cst_16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_cst_17 : Ref sig .tc := ⟨.hbm, 42, rfl⟩
abbrev main_while0b_v19 : Ref sig .tc := ⟨.hbm, 43, rfl⟩
abbrev main_while0b_v20 : Ref sig .tc := ⟨.hbm, 44, rfl⟩
abbrev main_while0b_v21 : Ref sig .tc := ⟨.hbm, 45, rfl⟩
abbrev main_while0b_v22 : Ref sig .tc := ⟨.hbm, 46, rfl⟩
abbrev main_while0b_v23 : Ref sig .tc := ⟨.hbm, 47, rfl⟩
abbrev main_while0b_v24 : Ref sig .tc := ⟨.hbm, 48, rfl⟩
abbrev main_while0b_call1_cst : Ref sig .tc := ⟨.hbm, 49, rfl⟩
abbrev main_while0b_call1_v0 : Ref sig .tc := ⟨.hbm, 50, rfl⟩
abbrev main_while0b_v25 : Ref sig .tc := ⟨.hbm, 51, rfl⟩
abbrev main_while0b_v26 : Ref sig .tc := ⟨.hbm, 52, rfl⟩
abbrev main_while0b_v27 : Ref sig .tc := ⟨.hbm, 53, rfl⟩
abbrev main_while0b_v28 : Ref sig .tc := ⟨.hbm, 54, rfl⟩
abbrev main_while0b_v29 : Ref sig .tc := ⟨.hbm, 55, rfl⟩
abbrev main_while0b_c_18 : Ref sig .tc := ⟨.hbm, 56, rfl⟩
abbrev main_while0b_v30 : Ref sig .tc := ⟨.hbm, 57, rfl⟩
abbrev main_while0b_v31 : Ref sig .tc := ⟨.hbm, 58, rfl⟩
abbrev main_while0b_c_19 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_cst_20 : Ref sig .tc := ⟨.hbm, 68, rfl⟩
abbrev main_while0b_v40 : Ref sig .tc := ⟨.hbm, 69, rfl⟩
abbrev main_while0b_call2_v0 : Ref sig .tc := ⟨.hbm, 70, rfl⟩
abbrev main_while0b_call2_cst : Ref sig .tc := ⟨.hbm, 71, rfl⟩
abbrev main_while0b_call2_c : Ref sig .tc := ⟨.hbm, 72, rfl⟩
abbrev main_while0b_call2_v1_0 : Ref sig .tc := ⟨.hbm, 73, rfl⟩
abbrev main_while0b_v41 : Ref sig .tc := ⟨.hbm, 74, rfl⟩
abbrev main_while0b_v42 : Ref sig .tc := ⟨.hbm, 75, rfl⟩
abbrev main_while0b_c_21 : Ref sig .tc := ⟨.hbm, 76, rfl⟩
abbrev main_while0b_v43 : Ref sig .tc := ⟨.hbm, 77, rfl⟩
abbrev main_while0b_v44 : Ref sig .tc := ⟨.hbm, 78, rfl⟩
abbrev main_while0b_c_22 : Ref sig .tc := ⟨.hbm, 79, rfl⟩
abbrev main_while0b_v45 : Ref sig .tc := ⟨.hbm, 80, rfl⟩
abbrev main_while0b_v46 : Ref sig .tc := ⟨.hbm, 81, rfl⟩
abbrev main_while0b_v47 : Ref sig .tc := ⟨.hbm, 82, rfl⟩
abbrev main_while0b_c_23 : Ref sig .tc := ⟨.hbm, 83, rfl⟩
abbrev main_while0b_v48 : Ref sig .tc := ⟨.hbm, 84, rfl⟩
abbrev main_while0b_v49 : Ref sig .tc := ⟨.hbm, 85, rfl⟩
abbrev main_while0b_c_24 : Ref sig .tc := ⟨.hbm, 86, rfl⟩
abbrev main_while0b_v50 : Ref sig .tc := ⟨.hbm, 87, rfl⟩
abbrev main_while0b_v51 : Ref sig .tc := ⟨.hbm, 88, rfl⟩
abbrev main_while0b_v52 : Ref sig .tc := ⟨.hbm, 89, rfl⟩
abbrev main_while0b_v53 : Ref sig .tc := ⟨.hbm, 90, rfl⟩
abbrev main_while0b_v54 : Ref sig .tc := ⟨.hbm, 91, rfl⟩
abbrev main_while0b_v55 : Ref sig .tc := ⟨.hbm, 92, rfl⟩
abbrev main_while0b_v56 : Ref sig .tc := ⟨.hbm, 93, rfl⟩
abbrev main_while0b_v57 : Ref sig .tc := ⟨.hbm, 94, rfl⟩
abbrev main_while0b_call3_v0 : Ref sig .tc := ⟨.hbm, 95, rfl⟩
abbrev main_while0b_call3_c : Ref sig .tc := ⟨.hbm, 96, rfl⟩
abbrev main_while0b_call3_c_0 : Ref sig .tc := ⟨.hbm, 97, rfl⟩
abbrev main_while0b_v58 : Ref sig .tc := ⟨.hbm, 98, rfl⟩
abbrev main_while0b_c_25 : Ref sig .tc := ⟨.hbm, 99, rfl⟩
abbrev main_while0b_v59 : Ref sig .tc := ⟨.hbm, 100, rfl⟩
abbrev main_c_2 : Ref sig .tc := ⟨.hbm, 101, rfl⟩
abbrev main_v5 : Ref sig .tc := ⟨.hbm, 102, rfl⟩
abbrev main_cst_3 : Ref sig .tc := ⟨.hbm, 103, rfl⟩
abbrev main_v6 : Ref sig .tc := ⟨.hbm, 104, rfl⟩
abbrev main_c_4 : Ref sig .tc := ⟨.hbm, 105, rfl⟩
abbrev main_v7_0 : Ref sig .tc := ⟨.hbm, 106, rfl⟩
abbrev main_v7_1 : Ref sig .tc := ⟨.hbm, 107, rfl⟩
abbrev main_v7_2 : Ref sig .tc := ⟨.hbm, 108, rfl⟩
abbrev main_v7_3 : Ref sig .tc := ⟨.hbm, 109, rfl⟩
abbrev main_while1c_c_8 : Ref sig .tc := ⟨.hbm, 110, rfl⟩
abbrev main_while1c_v9 : Ref sig .tc := ⟨.hbm, 111, rfl⟩
abbrev main_while1b_c_8 : Ref sig .tc := ⟨.hbm, 112, rfl⟩
abbrev main_while1b_v9 : Ref sig .tc := ⟨.hbm, 113, rfl⟩
abbrev main_while1b_c_9 : Ref sig .tc := ⟨.hbm, 114, rfl⟩
abbrev main_while1b_v10 : Ref sig .tc := ⟨.hbm, 115, rfl⟩
abbrev main_while1b_call4_c : Ref sig .tc := ⟨.hbm, 116, rfl⟩
abbrev main_while1b_call4_c_0 : Ref sig .tc := ⟨.hbm, 117, rfl⟩
abbrev main_while1b_call4_v0 : Ref sig .tc := ⟨.hbm, 118, rfl⟩
abbrev main_while1b_v11 : Ref sig .tc := ⟨.hbm, 119, rfl⟩
abbrev main_while1b_v12 : Ref sig .tc := ⟨.hbm, 120, rfl⟩
abbrev main_while1b_c_10 : Ref sig .tc := ⟨.hbm, 121, rfl⟩
abbrev main_while1b_v13 : Ref sig .tc := ⟨.hbm, 122, rfl⟩
abbrev main_while1b_v14 : Ref sig .tc := ⟨.hbm, 123, rfl⟩
abbrev main_while1b_c_11 : Ref sig .tc := ⟨.hbm, 124, rfl⟩
abbrev main_while1b_v15 : Ref sig .tc := ⟨.hbm, 125, rfl⟩
abbrev main_while1b_v16 : Ref sig .tc := ⟨.hbm, 126, rfl⟩
abbrev main_while1b_v17 : Ref sig .tc := ⟨.hbm, 127, rfl⟩
abbrev main_while1b_c_12 : Ref sig .tc := ⟨.hbm, 128, rfl⟩
abbrev main_while1b_v18 : Ref sig .tc := ⟨.hbm, 129, rfl⟩
abbrev main_while1b_v19 : Ref sig .tc := ⟨.hbm, 130, rfl⟩
abbrev main_while1b_c_13 : Ref sig .tc := ⟨.hbm, 131, rfl⟩
abbrev main_while1b_v20 : Ref sig .tc := ⟨.hbm, 132, rfl⟩
abbrev main_while1b_v21 : Ref sig .tc := ⟨.hbm, 133, rfl⟩
abbrev main_while1b_v22 : Ref sig .tc := ⟨.hbm, 134, rfl⟩
abbrev main_while1b_v23 : Ref sig .tc := ⟨.hbm, 135, rfl⟩
abbrev main_while1b_v24 : Ref sig .tc := ⟨.hbm, 136, rfl⟩
abbrev main_while1b_v25 : Ref sig .tc := ⟨.hbm, 137, rfl⟩
abbrev main_while1b_v26 : Ref sig .tc := ⟨.hbm, 138, rfl⟩
abbrev main_while1b_c_14 : Ref sig .tc := ⟨.hbm, 139, rfl⟩
abbrev main_while1b_v27 : Ref sig .tc := ⟨.hbm, 140, rfl⟩
abbrev main_while1b_v28 : Ref sig .tc := ⟨.hbm, 141, rfl⟩
abbrev main_while1b_v29 : Ref sig .tc := ⟨.hbm, 142, rfl⟩
abbrev main_while1b_call5_v0 : Ref sig .tc := ⟨.hbm, 143, rfl⟩
abbrev main_while1b_call5_c : Ref sig .tc := ⟨.hbm, 144, rfl⟩
abbrev main_while1b_v30 : Ref sig .tc := ⟨.hbm, 145, rfl⟩
abbrev main_while1b_c_15 : Ref sig .tc := ⟨.hbm, 146, rfl⟩
abbrev main_while1b_v31 : Ref sig .tc := ⟨.hbm, 147, rfl⟩
abbrev main_v8 : Ref sig .tc := ⟨.hbm, 148, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Proof.PI.Body.lean ====
/- The kernel's run: the body's triple with the result block it leaves, and the launch.
   The body reads one scratch buffer before it stores it, so the generated kit leaves this module to be written;
   both counted loops are passed by their generated invariants. -/
module

public import proofs.«01_k».proof.Proof.Gen.KernelIdeal.Frame
public import proofs.«01_k».proof.Proof.Gen.KernelIdeal.Points
public import proofs.«01_k».proof.Proof.Gen.KernelIdeal.Loops
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The body on whole memrefs at contents `f0` … `f7`: it runs, keeps the four inputs, and leaves the result
    memref at the contents named by the first component (a function of all eight, found by the run) and the
    scratch buffers at some contents. -/
@[irreducible] def kernelRun (c : Dev nD) (arg0 : Memref sig .tc .vmem S64x16384 .f32) (harg0 : arg0.IsWhole) (arg1 : Memref sig .tc .vmem S100x1 .f32) (harg1 : arg1.IsWhole) (arg2 : Memref sig .tc .vmem S50x100 .f32) (harg2 : arg2.IsWhole) (arg3 : Memref sig .tc .vmem S16x50 .f32) (harg3 : arg3.IsWhole) (arg4 : Memref sig .tc .vmem S2048x512 .f32) (harg4 : arg4.IsWhole) (arg5 : Memref sig .tc .vmem S64x16384 .f32) (harg5 : arg5.IsWhole) (arg6 : Memref sig .tc .vmem S16x16384 .f32) (harg6 : arg6.IsWhole) (arg7 : Memref sig .tc .vmem S16x16384 .f32) (harg7 : arg7.IsWhole) (f0 : BufTy.Contents (Elt F) arg0.view.ty) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) :
    { OUT : BufTy.Contents (Elt F) arg4.view.ty // ∀ (E : Set ℕ) (K : PUnit → sProp 𝕄),
      iprop(((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7))
          ∗ (iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} OUT) ∗ (∃ g5, arg5.view.loc (c : Thread nD τ) ↦[arg5.view.set]{fullShare} g5) ∗ (∃ g6, arg6.view.loc (c : Thread nD τ) ↦[arg6.view.set]{fullShare} g6) ∗ (∃ g7, arg7.view.loc (c : Thread nD τ) ↦[arg7.view.set]{fullShare} g7)) -∗ K ⟨⟩))
        ⊢ wp frame (wpE (defs₀ (F := F)) Variants.none (c : Thread nD τ) none) E (cc0__viterbi_kernel arg0 harg0 arg1 harg1 arg2 harg2 arg3 harg3 arg4 harg4 arg5 harg5 arg6 harg6 arg7 harg7) K } := by
  refine ⟨?_, fun E K => ?run⟩
  case run =>
    simp only [cc0__viterbi_kernel_eq_skeleton]; unfold cc0__viterbi_kernel_skel
    iintro ⟨⟨H0, H1, H2, H3, H4, H5, H6, H7⟩, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

/-! ## The launch -/

variable (m : (ℓ : Loc nD τ sig) → Buf (Elt F) ℓ) (ρ : Dev nD → PrngReg)

/-- The proof data: the inputs' blocks stay in place; of the result window nothing is named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => FloatOps.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Which windows are forgotten: the result's. -/
def fgt (w : Fin cfg0.W) : Bool := w == 4

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

set_option maxHeartbeats 1600000 in
/-- The body keeps the inputs' blocks, and gives back the scratch buffers and the result block at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 owns
  simp only [before0_0, before0_1, before0_2, before0_3]
  rw [show (dats m 0 c).Φ t.castSucc = Pipeline.ΦA spec0 c from rfl,
    show (dats m 0 c).Φ t.succ = Pipeline.ΦA spec0 c from rfl,
    show (dats m 0 c).owesAt () t.succ = (dats m 0 c).owesAt () t.castSucc from rfl,
    after0_0, after0_1, after0_2, after0_3]
  unfold Pipeline.ΦA
  rw [scopedRest0_eq]
  iintro ⟨⟨⟨⟨%f5, H5⟩, ⟨%f6, H6⟩, ⟨%f7, H7⟩⟩, Hp⟩, Ho, ⟨%d0, %f0, %hf0, H0⟩, ⟨%d1, %f1, %hf1, H1⟩, ⟨%d2, %f2, %hf2, H2⟩, ⟨%d3, %f3, %hf3, H3⟩, ⟨%X4, %f4, %hf4, H4⟩⟩
  obtain ⟨OUT, hrun⟩ := kernelRun c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (Memref.whole cc0_scratch0) (Memref.isWhole_whole _) (Memref.whole cc0_scratch1) (Memref.isWhole_whole _) (Memref.whole cc0_scratch2) (Memref.isWhole_whole _) f0 f1 f2 f3 f4 f5 f6 f7
  iapply (hrun Set.univ _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · simp only [Memref.view_whole, View.set_whole]; iexact H5
    isplitl [H6]; · simp only [Memref.view_whole, View.set_whole]; iexact H6
    simp only [Memref.view_whole, View.set_whole]; iexact H7
  iintro ⟨H0, H1, H2, H3, H4, ⟨%g5, H5⟩, ⟨%g6, H6⟩, ⟨%g7, H7⟩⟩
  isplitl [H5 H6 H7 Hp]
  · isplitl [H5 H6 H7]
    · isplitl [H5]; · iexists g5; simp only [Memref.view_whole, View.set_whole]; iexact H5
      isplitl [H6]; · iexists g6; simp only [Memref.view_whole, View.set_whole]; iexact H6
      iexists g7; simp only [Memref.view_whole, View.set_whole]; iexact H7
    · iexact Hp
  isplitl [Ho]; · iexact Ho
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  iexists (st0_4 t).view.read (Elt F) OUT; iexists OUT; isplitr; · ipureintro; rfl
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with the result window forgotten. -/
theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

/-- The only line after the region writes the final transpose's buffer. -/
theorem sfx_writes : ∀ ops ∈ ([hostOps1] : List (List (HloOp τ sig (Elt F)))), ∀ op ∈ ops, ∀ b : Ref sig .tc,
    Proc.devRef .tc b ∈ op.writes → b ∈ ({main_v6} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb ⊢
  exact (Proc.tc : Proc τ).devRef_injective hb

-- the launch theorem's implicit arguments are found by unifying its conclusion with this one, which takes
-- unfolding plain definitions in a metavariable's type
set_option backward.isDefEq.respectTransparency.types false in
/-- THE LAUNCH: every buffer outside the pipeline but the last line's ends as launched, every counter at zero. -/
theorem run_main_quiescent : θ_run defs (onTc (τ := τ) (main (F := F))) (s₀ m ρ)
    (fun r => (Pipeline.RDat.FramePostR cfg0 (fun c => (dats m 0 c).toRForget fgt) {main_v6} (fun c b => V0 m c (Proc.devRef .tc b))) r ∧ r.2.sem = fun _ => 0) :=
  Pipeline.θ_run_frame_around_T_forget (Q' := _) cfgs (dats m) (0 : Fin 1) launch0 defs₀ Variants.none fgt {main_v6} m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- THE FRAME: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c),
     ((h.1 c).2 main_arg2 (Finset.mem_sdiff.mpr ⟨Pipeline.mem_restRefs_of main_arg2 (by decide) (by decide), by decide⟩)).trans (V_main_arg2 m c),
     ((h.1 c).2 main_arg3 (Finset.mem_sdiff.mpr ⟨Pipeline.mem_restRefs_of main_arg3 (by decide) (by decide), by decide⟩)).trans (V_main_arg3 m c),
     ((h.1 c).2 main_arg4 (Finset.mem_sdiff.mpr ⟨Pipeline.mem_restRefs_of main_arg4 (by decide) (by decide), by decide⟩)).trans (V_main_arg4 m c),
     ((h.1 c).2 main_arg5 (Finset.mem_sdiff.mpr ⟨Pipeline.mem_restRefs_of main_arg5 (by decide) (by decide), by decide⟩)).trans (V_main_arg5 m c),
     ((h.1 c).2 main_arg6 (Finset.mem_sdiff.mpr ⟨Pipeline.mem_restRefs_of main_arg6 (by decide) (by decide), by decide⟩)).trans (V_main_arg6 m c)⟩, h.2⟩)
    (run_main_quiescent m ρ)

end Cert.KernelIdeal.Hand

end
-- ==== Proof.R.Ops.lean ====
/- The reference's operation lists: @main's stretches and its two loops' regions, the calls of the module-local
   functions written out, with the references each list writes. -/
module

public import proofs.«01_k».proof.Proof.Gen.ReferenceIdeal
public import Idealize.ShloMosaic.Lib.Pipeline.RegionsLoop
public import Idealize.ShloMosaic.Lib.StableHlo.RunLoop
public import Idealize.ShloMosaic.Lib.Scf.ExitTest
public import Idealize.ShloMosaic.Lib.Scf.Counter

@[expose] public section

noncomputable section

namespace Cert.ReferenceIdeal.Hand

open Cert.ReferenceIdeal Cert.ReferenceIdeal.Gen
open Idealize.ShloMosaic Idealize.ShloMosaic.TcCoe

variable {F : FTy → Type} [FloatOps F]

/-- @main's argument arrays. -/
abbrev argRefs : List (Ref sig .tc) := [main_arg0, main_arg1, main_arg2, main_arg3, main_arg4, main_arg5, main_arg6]

/-- The operations in order: @main's operations before the first loop. -/
abbrev preOps : List (HloOp τ sig (Elt F)) :=
  [ StableHlo.nullary main_c (fun i => lit0 (S16x2.rowMajor i)),
    StableHlo.nullary main_v0 (iotaInDim S16 32 0),
    StableHlo.nullary main_cst (constant S_ .f32 0x00000000#32),
    StableHlo.unary main_cst main_v1 (broadcastInDim S512x16 ![] bcast_S_S512x16 : (⟨S_, .f32⟩ : BufTy).Contents (Elt F) → (⟨S512x16, .f32⟩ : BufTy).Contents (Elt F)),
    StableHlo.unary main_arg0 main_v2 ((transpose S2048x512 [1, 0] · transposes_S512x2048_S2048x512_1_0) : (⟨S512x2048, .f32⟩ : BufTy).Contents (Elt F) → (⟨S2048x512, .f32⟩ : BufTy).Contents (Elt F)),
    StableHlo.nullary main_c_0 (constantI S_ 32 0#32),
    StableHlo.unary main_c_0 main_v3 (broadcastInDim S2048x512x16 ![] bcast_S_S2048x512x16 : (⟨S_, .i32⟩ : BufTy).Contents (Elt F) → (⟨S2048x512x16, .i32⟩ : BufTy).Contents (Elt F)),
    StableHlo.nullary main_c_1 (constantI S_ 32 0#32),
    StableHlo.unary main_v2 main_v4_0 id,
    StableHlo.unary main_arg1 main_v4_1 id,
    StableHlo.unary main_arg2 main_v4_2 id,
    StableHlo.unary main_arg3 main_v4_3 id,
    StableHlo.unary main_arg4 main_v4_4 id,
    StableHlo.unary main_arg5 main_v4_5 id,
    StableHlo.unary main_arg6 main_v4_6 id,
    StableHlo.unary main_c main_v4_7 id,
    StableHlo.unary main_v0 main_v4_8 id,
    StableHlo.unary main_c_1 main_v4_9 id,
    StableHlo.unary main_v1 main_v4_10 id,
    StableHlo.unary main_v3 main_v4_11 id ]

theorem preOps_sub : (preOps : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The references they write. -/
abbrev preOps_W : List (Ref sig .tc) := [main_c, main_v0, main_cst, main_v1, main_v2, main_c_0, main_v3, main_c_1, main_v4_0, main_v4_1, main_v4_2, main_v4_3, main_v4_4, main_v4_5, main_v4_6, main_v4_7, main_v4_8, main_v4_9, main_v4_10, main_v4_11]

theorem preOps_writes : (preOps : List (HloOp τ sig (Elt F))).Forall fun op => op.writes ⊆ (preOps_W.map (Proc.devRef (τ := τ) .tc)).toFinset :=
  StableHlo.forall_writes_sub_of_map rfl

theorem preOps_fresh : (preOps : List (HloOp τ sig (Elt F))).Forall fun op => op.fresh = ∅ := by
  simp only [List.Forall]; repeat' constructor

theorem preOps_args : ∀ a ∈ argRefs, a ∉ preOps_W := by decide

/-- The operations in order: those between the two loops. -/
abbrev midOps : List (HloOp τ sig (Elt F)) :=
  [ StableHlo.nullary main_c_2 (constantI S_ 32 0#32),
    StableHlo.unary main_c_2 main_v5 (broadcastInDim S512 ![] bcast_S_S512 : (⟨S_, .i32⟩ : BufTy).Contents (Elt F) → (⟨S512, .i32⟩ : BufTy).Contents (Elt F)),
    StableHlo.nullary main_cst_3 (constant S_ .f32 0x00000000#32),
    StableHlo.unary main_cst_3 main_v6 (broadcastInDim S2048x512 ![] bcast_S_S2048x512 : (⟨S_, .f32⟩ : BufTy).Contents (Elt F) → (⟨S2048x512, .f32⟩ : BufTy).Contents (Elt F)),
    StableHlo.nullary main_c_4 (constantI S_ 32 0#32),
    StableHlo.unary main_v4_11 main_v7_0 id,
    StableHlo.unary main_c_4 main_v7_1 id,
    StableHlo.unary main_v5 main_v7_2 id,
    StableHlo.unary main_v6 main_v7_3 id ]

theorem midOps_sub : (midOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩

/-- The references they write. -/
abbrev midOps_W : List (Ref sig .tc) := [main_c_2, main_v5, main_cst_3, main_v6, main_c_4, main_v7_0, main_v7_1, main_v7_2, main_v7_3]

theorem midOps_writes : (midOps : List (HloOp τ sig (Elt F))).Forall fun op => op.writes ⊆ (midOps_W.map (Proc.devRef (τ := τ) .tc)).toFinset :=
  StableHlo.forall_writes_sub_of_map rfl

theorem midOps_fresh : (midOps : List (HloOp τ sig (Elt F))).Forall fun op => op.fresh = ∅ := by
  simp only [List.Forall]; repeat' constructor

theorem midOps_args : ∀ a ∈ argRefs, a ∉ midOps_W := by decide

/-- The operations in order: that after the second loop. -/
abbrev postOps : List (HloOp τ sig (Elt F)) :=
  [ StableHlo.unary main_v7_3 main_v8 ((transpose S512x2048 [1, 0] · transposes_S2048x512_S512x2048_1_0) : (⟨S2048x512, .f32⟩ : BufTy).Contents (Elt F) → (⟨S512x2048, .f32⟩ : BufTy).Contents (Elt F)) ]

theorem postOps_sub : (postOps : List (HloOp τ sig (Elt F))).Forall fun op => op.bufs ⊆ StableHlo.tcRefs τ sig :=
  StableHlo.unary_bufs_sub ..

/-- The references they write. -/
abbrev postOps_W : List (Ref sig .tc) := [main_v8]

theorem postOps_writes : (postOps : List (HloOp τ sig (Elt F))).Forall fun op => op.writes ⊆ (postOps_W.map (Proc.devRef (τ := τ) .tc)).toFinset :=
  StableHlo.forall_writes_sub_of_map rfl

theorem postOps_fresh : (postOps : List (HloOp τ sig (Elt F))).Forall fun op => op.fresh = ∅ := by
  simp only [List.Forall]; repeat' constructor

theorem postOps_args : ∀ a ∈ argRefs, a ∉ postOps_W := by decide

/-- The operations in order: the first loop's condition. -/
abbrev cond0Ops : List (HloOp τ sig (Elt F)) :=
  [ StableHlo.nullary main_while0c_c_16 (constantI S_ 32 2048#32),
    StableHlo.binary main_v4_9 main_while0c_c_16 main_while0c_v9 (cmpi .slt : (⟨S_, .i32⟩ : BufTy).Contents (Elt F) → (⟨S_, .i32⟩ : BufTy).Contents (Elt F) → (⟨S_, .i1⟩ : BufTy).Contents (Elt F)) ]

theorem cond0Ops_sub : (cond0Ops : List (HloOp τ sig (Elt F))).Forall fun op => op.bufs ⊆ StableHlo.tcRefs τ sig :=
  ⟨StableHlo.nullary_bufs_sub .., StableHlo.binary_bufs_sub ..⟩

/-- The references they write. -/
abbrev cond0Ops_W : List (Ref sig .tc) := [main_while0c_c_16, main_while0c_v9]

theorem cond0Ops_writes : (cond0Ops : List (HloOp τ sig (Elt F))).Forall fun op => op.writes ⊆ (cond0Ops_W.map (Proc.devRef (τ := τ) .tc)).toFinset :=
  StableHlo.forall_writes_sub_of_map rfl

theorem cond0Ops_fresh : (cond0Ops : List (HloOp τ sig (Elt F))).Forall fun op => op.fresh = ∅ := by
  simp only [List.Forall]; repeat' constructor

theorem cond0Ops_args : ∀ a ∈ argRefs, a ∉ cond0Ops_W := by decide

/-- The operations in order: the first loop's body, its calls written out. -/
abbrev body0Ops : List (HloOp τ sig (Elt F)) :=
  [ StableHlo.TRef.nullary (.of main_while0b_call0_c : StableHlo.TRef sig ⟨S_, .i32⟩) (constantI S_ 32 0#32),
    StableHlo.TRef.unaryIndexed (.of main_v4_0 : StableHlo.TRef sig ⟨S2048x512, .f32⟩) ![(.of main_v4_9 : StableHlo.TRef sig ⟨S_, .i32⟩), (.of main_while0b_call0_c : StableHlo.TRef sig ⟨S_, .i32⟩)] (.of main_while0b_call0_v0 : StableHlo.TRef sig ⟨S1x512, .f32⟩) (fun x i => Host.dynamicSlice S1x512 x (fun k => (i k (Shape.Idx.first h_S_)).toInt) sliceFits_S2048x512_S1x512),
    StableHlo.TRef.reshape (.of main_while0b_call0_v0 : StableHlo.TRef sig ⟨S1x512, .f32⟩) (.of main_while0b_v9 : StableHlo.TRef sig ⟨S512, .f32⟩) (rfl : (.f32 : EltTy) = .f32) shapeCasts_S1x512_S512,
    StableHlo.unary main_while0b_v9 main_while0b_v10 (broadcastInDim S512x1 ![0] bcast_S512_S512x1_0 : (⟨S512, .f32⟩ : BufTy).Contents (Elt F) → (⟨S512x1, .f32⟩ : BufTy).Contents (Elt F)),
    StableHlo.binary main_while0b_v10 main_v4_1 main_while0b_v11 ((fun l r => Host.dotGeneral dot_S512x1_S1x100_S512x100_1_0_0_1_n_n none l r) : (⟨S512x1, .f32⟩ : BufTy).Contents (Elt F) → (⟨S1x100, .f32⟩ : BufTy).Contents (Elt F) → (⟨S512x100, .f32⟩ : BufTy).Contents (Elt F)),
    StableHlo.unary main_v4_2 main_while0b_v12 (broadcastInDim S1x100 ![1] bcast_S100_S1x100_1 : (⟨S100, .f32⟩ : BufTy).Contents (Elt F) → (⟨S1x100, .f32⟩ : BufTy).Contents (Elt F)),
    StableHlo.unary main_while0b_v12 main_while0b_v13 (broadcastInDim S512x100 ![0, 1] bcast_S1x100_S512x100_0_1 : (⟨S1x100, .f32⟩ : BufTy).Contents (Elt F) → (⟨S512x100, .f32⟩ : BufTy).Contents (Elt F)),
    StableHlo.binary main_while0b_v11 main_while0b_v13 main_while0b_v14 (addf : (⟨S512x100, .f32⟩ : BufTy).Contents (Elt F) → (⟨S512x100, .f32⟩ : BufTy).Contents (Elt F) → (⟨S512x100, .f32⟩ : BufTy).Contents (Elt F)),
    StableHlo.unary main_while0b_v14 main_while0b_v15 (Host.negf : (⟨S512x100, .f32⟩ : BufTy).Contents (Elt F) → (⟨S512x100, .f32⟩ : BufTy).Contents (Elt F)),
    StableHlo.unary main_while0b_v15 main_while0b_v16 (Host.exp : (⟨S512x100, .f32⟩ : BufTy).Contents (Elt F) → (⟨S512x100, .f32⟩ : BufTy).Contents (Elt F)),
    StableHlo.nullary main_while0b_cst_16 (constant S_ .f32 0x3F800000#32),
    StableHlo.unary main_while0b_cst_16 main_while0b_v17 (broadcastInDim S512x100 ![] bcast_S_S512x100 : (⟨S_, .f32⟩ : BufTy).Contents (Elt F) → (⟨S512x100, .f32⟩ : BufTy).Contents (Elt F)),
    StableHlo.binary main_while0b_v17 main_while0b_v16 main_while0b_v18 (addf : (⟨S512x100, .f32⟩ : BufTy).Contents (Elt F) → (⟨S512x100, .f32⟩ : BufTy).Contents (Elt F) → (⟨S512x100, .f32⟩ : BufTy).Contents (Elt F)),
    StableHlo.nullary main_while0b_cst_17 (constant S_ .f32 0x3F800000#32),
    StableHlo.unary main_while0b_cst_17 main_while0b_v19 (broadcastInDim S512x100 ![] bcast_S_S512x100 : (⟨S_, .f32⟩ : BufTy).Contents (Elt F) → (⟨S512x100, .f32⟩ : BufTy).Contents (Elt F)),
    StableHlo.binary main_while0b_v19 main_while0b_v18 main_while0b_v20 (Host.divf : (⟨S512x100, .f32⟩ : BufTy).Contents (Elt F) → (⟨S512x100, .f32⟩ : BufTy).Contents (Elt F) → (⟨S512x100, .f32⟩ : BufTy).Contents (Elt F)),
    StableHlo.binary main_while0b_v20 main_v4_3 main_while0b_v21 ((fun l r => Host.dotGeneral dot_S512x100_S100x50_S512x50_1_0_0_1_n_n none l r) : (⟨S512x100, .f32⟩ : BufTy).Contents (Elt F) → (⟨S100x50, .f32⟩ : BufTy).Contents (Elt F) → (⟨S512x50, .f32⟩ : BufTy).Contents (Elt F)),
    StableHlo.unary main_v4_4 main_while0b_v22 (broadcastInDim S1x50 ![1] bcast_S50_S1x50_1 : (⟨S50, .f32⟩ : BufTy).Contents (Elt F) → (⟨S1x50, .f32⟩ : BufTy).Contents (Elt F)),
    StableHlo.unary main_while0b_v22 main_while0b_v23 (broadcastInDim S512x50 ![0, 1] bcast_S1x50_S512x50_0_1 : (⟨S1x50, .f32⟩ : BufTy).Contents (Elt F) → (⟨S512x50, .f32⟩ : BufTy).Contents (Elt F)),
    StableHlo.binary main_while0b_v21 main_while0b_v23 main_while0b_v24 (addf : (⟨S512x50, .f32⟩ : BufTy).Contents (Elt F) → (⟨S512x50, .f32⟩ : BufTy).Contents (Elt F) → (⟨S512x50, .f32⟩ : BufTy).Contents (Elt F)),
    StableHlo.TRef.nullary (.of main_while0b_call1_cst : StableHlo.TRef sig ⟨S_, .f32⟩) (constant S_ .f32 0x00000000#32),
    StableHlo.TRef.unary (.of main_while0b_call1_cst : StableHlo.TRef sig ⟨S_, .f32⟩) (.of main_while0b_call1_v0 : StableHlo.TRef sig ⟨S512x50, .f32⟩) (broadcastInDim S512x50 ![] bcast_S_S512x50),
    StableHlo.TRef.binary (.of main_while0b_v24 : StableHlo.TRef sig ⟨S512x50, .f32⟩) (.of main_while0b_call1_v0 : StableHlo.TRef sig ⟨S512x50, .f32⟩) (.of main_while0b_v25 : StableHlo.TRef sig ⟨S512x50, .f32⟩) maximumf,
    StableHlo.binary main_while0b_v25 main_v4_5 main_while0b_v26 ((fun l r => Host.dotGeneral dot_S512x50_S50x16_S512x16_1_0_0_1_n_n none l r) : (⟨S512x50, .f32⟩ : BufTy).Contents (Elt F) → (⟨S50x16, .f32⟩ : BufTy).Contents (Elt F) → (⟨S512x16, .f32⟩ : BufTy).Contents (Elt F)),
    StableHlo.unary main_v4_6 main_while0b_v27 (broadcastInDim S1x16 ![1] bcast_S16_S1x16_1 : (⟨S16, .f32⟩ : BufTy).Contents (Elt F) → (⟨S1x16, .f32⟩ : BufTy).Contents (Elt F)),
    StableHlo.unary main_while0b_v27 main_while0b_v28 (broadcastInDim S512x16 ![0, 1] bcast_S1x16_S512x16_0_1 : (⟨S1x16, .f32⟩ : BufTy).Contents (Elt F) → (⟨S512x16, .f32⟩ : BufTy).Contents (Elt F)),
    StableHlo.binary main_while0b_v26 main_while0b_v28 main_while0b_v29 (addf : (⟨S512x16, .f32⟩ : BufTy).Contents (Elt F) → (⟨S512x16, .f32⟩ : BufTy).Contents (Elt F) → (⟨S512x16, .f32⟩ : BufTy).Contents (Elt F)),
    StableHlo.nullary main_while0b_c_18 (constantI S_ 32 0#32),
    StableHlo.unary main_while0b_c_18 main_while0b_v30 (broadcastInDim S16x2 ![] bcast_S_S16x2 : (⟨S_, .i32⟩ : BufTy).Contents (Elt F) → (⟨S16x2, .i32⟩ : BufTy).Contents (Elt F)),
    StableHlo.binary main_v4_7 main_while0b_v30 main_while0b_v31 (cmpi .slt : (⟨S16x2, .i32⟩ : BufTy).Contents (Elt F) → (⟨S16x2, .i32⟩ : BufTy).Contents (Elt F) → (⟨S16x2, .i1⟩ : BufTy).Contents (Elt F)),
    StableHlo.nullary main_while0b_c_19 (constantI S_ 32 16#32),
    StableHlo.unary main_while0b_c_19 main_while0b_v32 (broadcastInDim S16x2 ![] bcast_S_S16x2 : (⟨S_, .i32⟩ : BufTy).Contents (Elt F) → (⟨S16x2, .i32⟩ : BufTy).Contents (Elt F)),
    StableHlo.binary main_v4_7 main_while0b_v32 main_while0b_v33 (addi : (⟨S16x2, .i32⟩ : BufTy).Contents (Elt F) → (⟨S16x2, .i32⟩ : BufTy).Contents (Elt F) → (⟨S16x2, .i32⟩ : BufTy).Contents (Elt F)),
    StableHlo.ternary main_while0b_v31 main_while0b_v33 main_v4_7 main_while0b_v34 (select : (⟨S16x2, .i1⟩ : BufTy).Contents (Elt F) → (⟨S16x2, .i32⟩ : BufTy).Contents (Elt F) → (⟨S16x2, .i32⟩ : BufTy).Contents (Elt F) → (⟨S16x2, .i32⟩ : BufTy).Contents (Elt F)),
    StableHlo.unary main_while0b_v34 main_while0b_v35 (broadcastInDim S16x2x1 ![0, 1] bcast_S16x2_S16x2x1_0_1 : (⟨S16x2, .i32⟩ : BufTy).Contents (Elt F) → (⟨S16x2x1, .i32⟩ : BufTy).Contents (Elt F)),
    StableHlo.binary main_v4_10 main_while0b_v35 main_while0b_v36 ((fun x i => Host.gather gather_S512x16_S16x2x1_S512x16x2_0_1_n_n_1_2_5121 x i) : (⟨S512x16, .f32⟩ : BufTy).Contents (Elt F) → (⟨S16x2x1, .i32⟩ : BufTy).Contents (Elt F) → (⟨S512x16x2, .f32⟩ : BufTy).Contents (Elt F)),
    StableHlo.unary main_while0b_v29 main_while0b_v37 (broadcastInDim S512x16x1 ![0, 1] bcast_S512x16_S512x16x1_0_1 : (⟨S512x16, .f32⟩ : BufTy).Contents (Elt F) → (⟨S512x16x1, .f32⟩ : BufTy).Contents (Elt F)),
    StableHlo.unary main_while0b_v37 main_while0b_v38 (broadcastInDim S512x16x2 ![0, 1, 2] bcast_S512x16x1_S512x16x2_0_1_2 : (⟨S512x16x1, .f32⟩ : BufTy).Contents (Elt F) → (⟨S512x16x2, .f32⟩ : BufTy).Contents (Elt F)),
    StableHlo.binary main_while0b_v36 main_while0b_v38 main_while0b_v39 (addf : (⟨S512x16x2, .f32⟩ : BufTy).Contents (Elt F) → (⟨S512x16x2, .f32⟩ : BufTy).Contents (Elt F) → (⟨S512x16x2, .f32⟩ : BufTy).Contents (Elt F)),
    StableHlo.nullary main_while0b_cst_20 (constant S_ .f32 0x7F800000#32),
    StableHlo.binary main_while0b_v39 main_while0b_cst_20 main_while0b_v40 ((fun x v => Host.reduce FloatOps.minimumf x v reducesTo_S512x16x2_S512x16_d2 h_S_) : (⟨S512x16x2, .f32⟩ : BufTy).Contents (Elt F) → (⟨S_, .f32⟩ : BufTy).Contents (Elt F) → (⟨S512x16, .f32⟩ : BufTy).Contents (Elt F)),
    StableHlo.TRef.nullary (.of main_while0b_call2_v0 : StableHlo.TRef sig ⟨S512x16x2, .i32⟩) (iotaInDim S512x16x2 32 2),
    StableHlo.TRef.nullary (.of main_while0b_call2_cst : StableHlo.TRef sig ⟨S_, .f32⟩) (constant S_ .f32 0x7F800000#32),
    StableHlo.TRef.nullary (.of main_while0b_call2_c : StableHlo.TRef sig ⟨S_, .i32⟩) (constantI S_ 32 0#32),
    StableHlo.TRef.quaternary (.of main_while0b_v39 : StableHlo.TRef sig ⟨S512x16x2, .f32⟩) (.of main_while0b_call2_v0 : StableHlo.TRef sig ⟨S512x16x2, .i32⟩) (.of main_while0b_call2_cst : StableHlo.TRef sig ⟨S_, .f32⟩) (.of main_while0b_call2_c : StableHlo.TRef sig ⟨S_, .i32⟩) (.of main_while0b_call2_v1_0 : StableHlo.TRef sig ⟨S512x16, .f32⟩) (fun x y u v j => (Host.argReduce reducer_argmin_f32_i32 x y u v reducesTo_S512x16x2_S512x16_d2 h_S_ j).1),
    StableHlo.TRef.quaternary (.of main_while0b_v39 : StableHlo.TRef sig ⟨S512x16x2, .f32⟩) (.of main_while0b_call2_v0 : StableHlo.TRef sig ⟨S512x16x2, .i32⟩) (.of main_while0b_call2_cst : StableHlo.TRef sig ⟨S_, .f32⟩) (.of main_while0b_call2_c : StableHlo.TRef sig ⟨S_, .i32⟩) (.of main_while0b_v41 : StableHlo.TRef sig ⟨S512x16, .i32⟩) (fun x y u v j => (Host.argReduce reducer_argmin_f32_i32 x y u v reducesTo_S512x16x2_S512x16_d2 h_S_ j).2),
    StableHlo.unary main_v4_8 main_while0b_v42 (broadcastInDim S1x16 ![1] bcast_S16_S1x16_1 : (⟨S16, .i32⟩ : BufTy).Contents (Elt F) → (⟨S1x16, .i32⟩ : BufTy).Contents (Elt F)),
    StableHlo.nullary main_while0b_c_21 (constantI S_ 32 0#32),
    StableHlo.unary main_while0b_c_21 main_while0b_v43 (broadcastInDim S1x16 ![] bcast_S_S1x16 : (⟨S_, .i32⟩ : BufTy).Contents (Elt F) → (⟨S1x16, .i32⟩ : BufTy).Contents (Elt F)),
    StableHlo.binary main_while0b_v42 main_while0b_v43 main_while0b_v44 (cmpi .slt : (⟨S1x16, .i32⟩ : BufTy).Contents (Elt F) → (⟨S1x16, .i32⟩ : BufTy).Contents (Elt F) → (⟨S1x16, .i1⟩ : BufTy).Contents (Elt F)),
    StableHlo.nullary main_while0b_c_22 (constantI S_ 32 16#32),
    StableHlo.unary main_while0b_c_22 main_while0b_v45 (broadcastInDim S1x16 ![] bcast_S_S1x16 : (⟨S_, .i32⟩ : BufTy).Contents (Elt F) → (⟨S1x16, .i32⟩ : BufTy).Contents (Elt F)),
    StableHlo.binary main_while0b_v42 main_while0b_v45 main_while0b_v46 (addi : (⟨S1x16, .i32⟩ : BufTy).Contents (Elt F) → (⟨S1x16, .i32⟩ : BufTy).Contents (Elt F) → (⟨S1x16, .i32⟩ : BufTy).Contents (Elt F)),
    StableHlo.ternary main_while0b_v44 main_while0b_v46 main_while0b_v42 main_while0b_v47 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    StableHlo.nullary main_while0b_c_23 (constantI S_ 32 0#32),
    StableHlo.unary main_while0b_c_23 main_while0b_v48 (broadcastInDim S512x16 ![] bcast_S_S512x16 : (⟨S_, .i32⟩ : BufTy).Contents (Elt F) → (⟨S512x16, .i32⟩ : BufTy).Contents (Elt F)),
    StableHlo.binary main_while0b_v41 main_while0b_v48 main_while0b_v49 (cmpi .slt : (⟨S512x16, .i32⟩ : BufTy).Contents (Elt F) → (⟨S512x16, .i32⟩ : BufTy).Contents (Elt F) → (⟨S512x16, .i1⟩ : BufTy).Contents (Elt F)),
    StableHlo.nullary main_while0b_c_24 (constantI S_ 32 2#32),
    StableHlo.unary main_while0b_c_24 main_while0b_v50 (broadcastInDim S512x16 ![] bcast_S_S512x16 : (⟨S_, .i32⟩ : BufTy).Contents (Elt F) → (⟨S512x16, .i32⟩ : BufTy).Contents (Elt F)),
    StableHlo.binary main_while0b_v41 main_while0b_v50 main_while0b_v51 (addi : (⟨S512x16, .i32⟩ : BufTy).Contents (Elt F) → (⟨S512x16, .i32⟩ : BufTy).Contents (Elt F) → (⟨S512x16, .i32⟩ : BufTy).Contents (Elt F)),
    StableHlo.ternary main_while0b_v49 main_while0b_v51 main_while0b_v41 main_while0b_v52 (select : (⟨S512x16, .i1⟩ : BufTy).Contents (Elt F) → (⟨S512x16, .i32⟩ : BufTy).Contents (Elt F) → (⟨S512x16, .i32⟩ : BufTy).Contents (Elt F) → (⟨S512x16, .i32⟩ : BufTy).Contents (Elt F)),
    StableHlo.unary main_while0b_v47 main_while0b_v53 (broadcastInDim S512x16 ![0, 1] bcast_S1x16_S512x16_0_1 : (⟨S1x16, .i32⟩ : BufTy).Contents (Elt F) → (⟨S512x16, .i32⟩ : BufTy).Contents (Elt F)),
    StableHlo.unary main_while0b_v53 main_while0b_v54 (broadcastInDim S512x16x1 ![0, 1] bcast_S512x16_S512x16x1_0_1 : (⟨S512x16, .i32⟩ : BufTy).Contents (Elt F) → (⟨S512x16x1, .i32⟩ : BufTy).Contents (Elt F)),
    StableHlo.unary main_while0b_v52 main_while0b_v55 (broadcastInDim S512x16x1 ![0, 1] bcast_S512x16_S512x16x1_0_1 : (⟨S512x16, .i32⟩ : BufTy).Contents (Elt F) → (⟨S512x16x1, .i32⟩ : BufTy).Contents (Elt F)),
    StableHlo.binary main_while0b_v54 main_while0b_v55 main_while0b_v56 ((fun a b => concatenate S512x16x2 2 [⟨S512x16x1, a⟩, ⟨S512x16x1, b⟩] concatenates_S512x16x1_S512x16x1_S512x16x2_d2) : (⟨S512x16x1, .i32⟩ : BufTy).Contents (Elt F) → (⟨S512x16x1, .i32⟩ : BufTy).Contents (Elt F) → (⟨S512x16x2, .i32⟩ : BufTy).Contents (Elt F)),
    StableHlo.binary main_v4_7 main_while0b_v56 main_while0b_v57 ((fun x i => Host.gather gather_S16x2_S512x16x2_S512x16_n_01_n_n_01_2_11 x i) : (⟨S16x2, .i32⟩ : BufTy).Contents (Elt F) → (⟨S512x16x2, .i32⟩ : BufTy).Contents (Elt F) → (⟨S512x16, .i32⟩ : BufTy).Contents (Elt F)),
    StableHlo.TRef.unary (.of main_while0b_v57 : StableHlo.TRef sig ⟨S512x16, .i32⟩) (.of main_while0b_call3_v0 : StableHlo.TRef sig ⟨S1x512x16, .i32⟩) (broadcastInDim S1x512x16 ![1, 2] bcast_S512x16_S1x512x16_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v4_11 : StableHlo.TRef sig ⟨S2048x512x16, .i32⟩) (.of main_while0b_call3_v0 : StableHlo.TRef sig ⟨S1x512x16, .i32⟩) ![(.of main_v4_9 : StableHlo.TRef sig ⟨S_, .i32⟩), (.of main_while0b_call3_c : StableHlo.TRef sig ⟨S_, .i32⟩), (.of main_while0b_call3_c_0 : StableHlo.TRef sig ⟨S_, .i32⟩)] (.of main_while0b_v58 : StableHlo.TRef sig ⟨S2048x512x16, .i32⟩) (fun x u i => Host.dynamicUpdateSlice x u (fun k => (i k (Shape.Idx.first h_S_)).toInt) updateFits_S2048x512x16_S1x512x16),
    StableHlo.nullary main_while0b_c_25 (constantI S_ 32 1#32),
    StableHlo.binary main_v4_9 main_while0b_c_25 main_while0b_v59 (addi : (⟨S_, .i32⟩ : BufTy).Contents (Elt F) → (⟨S_, .i32⟩ : BufTy).Contents (Elt F) → (⟨S_, .i32⟩ : BufTy).Contents (Elt F)),
    StableHlo.unary main_while0b_v59 main_v4_9 id,
    StableHlo.unary main_while0b_v40 main_v4_10 id,
    StableHlo.unary main_while0b_v58 main_v4_11 id ]

theorem body0Ops_sub : (body0Ops : List (HloOp τ sig (Elt F))).Forall fun op => op.bufs ⊆ StableHlo.tcRefs τ sig :=
  ⟨StableHlo.nullary_bufs_sub .., StableHlo.unaryIndexed_bufs_sub .., StableHlo.reshape_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub ..⟩

/-- The references they write. -/
abbrev body0Ops_W : List (Ref sig .tc) := [main_while0b_call0_c, main_while0b_call0_v0, main_while0b_v9, main_while0b_v10, main_while0b_v11, main_while0b_v12, main_while0b_v13, main_while0b_v14, main_while0b_v15, main_while0b_v16, main_while0b_cst_16, main_while0b_v17, main_while0b_v18, main_while0b_cst_17, main_while0b_v19, main_while0b_v20, main_while0b_v21, main_while0b_v22, main_while0b_v23, main_while0b_v24, main_while0b_call1_cst, main_while0b_call1_v0, main_while0b_v25, main_while0b_v26, main_while0b_v27, main_while0b_v28, main_while0b_v29, main_while0b_c_18, main_while0b_v30, main_while0b_v31, main_while0b_c_19, main_while0b_v32, main_while0b_v33, main_while0b_v34, main_while0b_v35, main_while0b_v36, main_while0b_v37, main_while0b_v38, main_while0b_v39, main_while0b_cst_20, main_while0b_v40, main_while0b_call2_v0, main_while0b_call2_cst, main_while0b_call2_c, main_while0b_call2_v1_0, main_while0b_v41, main_while0b_v42, main_while0b_c_21, main_while0b_v43, main_while0b_v44, main_while0b_c_22, main_while0b_v45, main_while0b_v46, main_while0b_v47, main_while0b_c_23, main_while0b_v48, main_while0b_v49, main_while0b_c_24, main_while0b_v50, main_while0b_v51, main_while0b_v52, main_while0b_v53, main_while0b_v54, main_while0b_v55, main_while0b_v56, main_while0b_v57, main_while0b_call3_v0, main_while0b_call3_c, main_while0b_call3_c_0, main_while0b_v58, main_while0b_c_25, main_while0b_v59, main_v4_9, main_v4_10, main_v4_11]

theorem body0Ops_writes : (body0Ops : List (HloOp τ sig (Elt F))).Forall fun op => op.writes ⊆ (body0Ops_W.map (Proc.devRef (τ := τ) .tc)).toFinset :=
  StableHlo.forall_writes_sub_of_map rfl

theorem body0Ops_fresh : (body0Ops : List (HloOp τ sig (Elt F))).Forall fun op => op.fresh = ∅ := by
  simp only [List.Forall]; repeat' constructor

theorem body0Ops_args : ∀ a ∈ argRefs, a ∉ body0Ops_W := by decide

/-- The operations in order: the second loop's condition. -/
abbrev cond1Ops : List (HloOp τ sig (Elt F)) :=
  [ StableHlo.nullary main_while1c_c_8 (constantI S_ 32 2048#32),
    StableHlo.binary main_v7_1 main_while1c_c_8 main_while1c_v9 (cmpi .slt : (⟨S_, .i32⟩ : BufTy).Contents (Elt F) → (⟨S_, .i32⟩ : BufTy).Contents (Elt F) → (⟨S_, .i1⟩ : BufTy).Contents (Elt F)) ]

theorem cond1Ops_sub : (cond1Ops : List (HloOp τ sig (Elt F))).Forall fun op => op.bufs ⊆ StableHlo.tcRefs τ sig :=
  ⟨StableHlo.nullary_bufs_sub .., StableHlo.binary_bufs_sub ..⟩

/-- The references they write. -/
abbrev cond1Ops_W : List (Ref sig .tc) := [main_while1c_c_8, main_while1c_v9]

theorem cond1Ops_writes : (cond1Ops : List (HloOp τ sig (Elt F))).Forall fun op => op.writes ⊆ (cond1Ops_W.map (Proc.devRef (τ := τ) .tc)).toFinset :=
  StableHlo.forall_writes_sub_of_map rfl

theorem cond1Ops_fresh : (cond1Ops : List (HloOp τ sig (Elt F))).Forall fun op => op.fresh = ∅ := by
  simp only [List.Forall]; repeat' constructor

theorem cond1Ops_args : ∀ a ∈ argRefs, a ∉ cond1Ops_W := by decide

/-- The operations in order: the second loop's body, its calls written out. -/
abbrev body1Ops : List (HloOp τ sig (Elt F)) :=
  [ StableHlo.nullary main_while1b_c_8 (constantI S_ 32 2048#32),
    StableHlo.binary main_while1b_c_8 main_v7_1 main_while1b_v9 (subi : (⟨S_, .i32⟩ : BufTy).Contents (Elt F) → (⟨S_, .i32⟩ : BufTy).Contents (Elt F) → (⟨S_, .i32⟩ : BufTy).Contents (Elt F)),
    StableHlo.nullary main_while1b_c_9 (constantI S_ 32 1#32),
    StableHlo.binary main_while1b_v9 main_while1b_c_9 main_while1b_v10 (subi : (⟨S_, .i32⟩ : BufTy).Contents (Elt F) → (⟨S_, .i32⟩ : BufTy).Contents (Elt F) → (⟨S_, .i32⟩ : BufTy).Contents (Elt F)),
    StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.unaryIndexed (.of main_v7_0 : StableHlo.TRef sig ⟨S2048x512x16, .i32⟩) ![(.of main_while1b_v10 : StableHlo.TRef sig ⟨S_, .i32⟩), (.of main_while1b_call4_c : StableHlo.TRef sig ⟨S_, .i32⟩), (.of main_while1b_call4_c_0 : StableHlo.TRef sig ⟨S_, .i32⟩)] (.of main_while1b_call4_v0 : StableHlo.TRef sig ⟨S1x512x16, .i32⟩) (fun x i => Host.dynamicSlice S1x512x16 x (fun k => (i k (Shape.Idx.first h_S_)).toInt) sliceFits_S2048x512x16_S1x512x16),
    StableHlo.TRef.reshape (.of main_while1b_call4_v0 : StableHlo.TRef sig ⟨S1x512x16, .i32⟩) (.of main_while1b_v11 : StableHlo.TRef sig ⟨S512x16, .i32⟩) (rfl : (.i32 : EltTy) = .i32) shapeCasts_S1x512x16_S512x16,
    StableHlo.nullary main_while1b_v12 (iotaInDim S512 32 0),
    StableHlo.nullary main_while1b_c_10 (constantI S_ 32 0#32),
    StableHlo.unary main_while1b_c_10 main_while1b_v13 (broadcastInDim S512 ![] bcast_S_S512 : (⟨S_, .i32⟩ : BufTy).Contents (Elt F) → (⟨S512, .i32⟩ : BufTy).Contents (Elt F)),
    StableHlo.binary main_while1b_v12 main_while1b_v13 main_while1b_v14 (cmpi .slt : (⟨S512, .i32⟩ : BufTy).Contents (Elt F) → (⟨S512, .i32⟩ : BufTy).Contents (Elt F) → (⟨S512, .i1⟩ : BufTy).Contents (Elt F)),
    StableHlo.nullary main_while1b_c_11 (constantI S_ 32 512#32),
    StableHlo.unary main_while1b_c_11 main_while1b_v15 (broadcastInDim S512 ![] bcast_S_S512 : (⟨S_, .i32⟩ : BufTy).Contents (Elt F) → (⟨S512, .i32⟩ : BufTy).Contents (Elt F)),
    StableHlo.binary main_while1b_v12 main_while1b_v15 main_while1b_v16 (addi : (⟨S512, .i32⟩ : BufTy).Contents (Elt F) → (⟨S512, .i32⟩ : BufTy).Contents (Elt F) → (⟨S512, .i32⟩ : BufTy).Contents (Elt F)),
    StableHlo.ternary main_while1b_v14 main_while1b_v16 main_while1b_v12 main_while1b_v17 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.nullary main_while1b_c_12 (constantI S_ 32 0#32),
    StableHlo.unary main_while1b_c_12 main_while1b_v18 (broadcastInDim S512 ![] bcast_S_S512 : (⟨S_, .i32⟩ : BufTy).Contents (Elt F) → (⟨S512, .i32⟩ : BufTy).Contents (Elt F)),
    StableHlo.binary main_v7_2 main_while1b_v18 main_while1b_v19 (cmpi .slt : (⟨S512, .i32⟩ : BufTy).Contents (Elt F) → (⟨S512, .i32⟩ : BufTy).Contents (Elt F) → (⟨S512, .i1⟩ : BufTy).Contents (Elt F)),
    StableHlo.nullary main_while1b_c_13 (constantI S_ 32 16#32),
    StableHlo.unary main_while1b_c_13 main_while1b_v20 (broadcastInDim S512 ![] bcast_S_S512 : (⟨S_, .i32⟩ : BufTy).Contents (Elt F) → (⟨S512, .i32⟩ : BufTy).Contents (Elt F)),
    StableHlo.binary main_v7_2 main_while1b_v20 main_while1b_v21 (addi : (⟨S512, .i32⟩ : BufTy).Contents (Elt F) → (⟨S512, .i32⟩ : BufTy).Contents (Elt F) → (⟨S512, .i32⟩ : BufTy).Contents (Elt F)),
    StableHlo.ternary main_while1b_v19 main_while1b_v21 main_v7_2 main_while1b_v22 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_while1b_v17 main_while1b_v23 (broadcastInDim S512x1 ![0] bcast_S512_S512x1_0 : (⟨S512, .i32⟩ : BufTy).Contents (Elt F) → (⟨S512x1, .i32⟩ : BufTy).Contents (Elt F)),
    StableHlo.unary main_while1b_v22 main_while1b_v24 (broadcastInDim S512x1 ![0] bcast_S512_S512x1_0 : (⟨S512, .i32⟩ : BufTy).Contents (Elt F) → (⟨S512x1, .i32⟩ : BufTy).Contents (Elt F)),
    StableHlo.binary main_while1b_v23 main_while1b_v24 main_while1b_v25 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    StableHlo.binary main_while1b_v11 main_while1b_v25 main_while1b_v26 ((fun x i => Host.gather gather_S512x16_S512x2_S512_n_01_n_n_01_1_11 x i) : (⟨S512x16, .i32⟩ : BufTy).Contents (Elt F) → (⟨S512x2, .i32⟩ : BufTy).Contents (Elt F) → (⟨S512, .i32⟩ : BufTy).Contents (Elt F)),
    StableHlo.nullary main_while1b_c_14 (constantI S_ 32 8#32),
    StableHlo.unary main_while1b_c_14 main_while1b_v27 (broadcastInDim S512 ![] bcast_S_S512 : (⟨S_, .i32⟩ : BufTy).Contents (Elt F) → (⟨S512, .i32⟩ : BufTy).Contents (Elt F)),
    StableHlo.binary main_while1b_v26 main_while1b_v27 main_while1b_v28 (cmpi .sge : (⟨S512, .i32⟩ : BufTy).Contents (Elt F) → (⟨S512, .i32⟩ : BufTy).Contents (Elt F) → (⟨S512, .i1⟩ : BufTy).Contents (Elt F)),
    StableHlo.unary main_while1b_v28 main_while1b_v29 (uitofp .f32 : (⟨S512, .i1⟩ : BufTy).Contents (Elt F) → (⟨S512, .f32⟩ : BufTy).Contents (Elt F)),
    StableHlo.TRef.unary (.of main_while1b_v29 : StableHlo.TRef sig ⟨S512, .f32⟩) (.of main_while1b_call5_v0 : StableHlo.TRef sig ⟨S1x512, .f32⟩) (broadcastInDim S1x512 ![1] bcast_S512_S1x512_1),
    StableHlo.TRef.nullary (.of main_while1b_call5_c : StableHlo.TRef sig ⟨S_, .i32⟩) (constantI S_ 32 0#32),
    StableHlo.TRef.binaryIndexed (.of main_v7_3 : StableHlo.TRef sig ⟨S2048x512, .f32⟩) (.of main_while1b_call5_v0 : StableHlo.TRef sig ⟨S1x512, .f32⟩) ![(.of main_while1b_v10 : StableHlo.TRef sig ⟨S_, .i32⟩), (.of main_while1b_call5_c : StableHlo.TRef sig ⟨S_, .i32⟩)] (.of main_while1b_v30 : StableHlo.TRef sig ⟨S2048x512, .f32⟩) (fun x u i => Host.dynamicUpdateSlice x u (fun k => (i k (Shape.Idx.first h_S_)).toInt) updateFits_S2048x512_S1x512),
    StableHlo.nullary main_while1b_c_15 (constantI S_ 32 1#32),
    StableHlo.binary main_v7_1 main_while1b_c_15 main_while1b_v31 (addi : (⟨S_, .i32⟩ : BufTy).Contents (Elt F) → (⟨S_, .i32⟩ : BufTy).Contents (Elt F) → (⟨S_, .i32⟩ : BufTy).Contents (Elt F)),
    StableHlo.unary main_while1b_v31 main_v7_1 id,
    StableHlo.unary main_while1b_v26 main_v7_2 id,
    StableHlo.unary main_while1b_v30 main_v7_3 id ]

theorem body1Ops_sub : (body1Ops : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub ..⟩

/-- The references they write. -/
abbrev body1Ops_W : List (Ref sig .tc) := [main_while1b_c_8, main_while1b_v9, main_while1b_c_9, main_while1b_v10, main_while1b_call4_c, main_while1b_call4_c_0, main_while1b_call4_v0, main_while1b_v11, main_while1b_v12, main_while1b_c_10, main_while1b_v13, main_while1b_v14, main_while1b_c_11, main_while1b_v15, main_while1b_v16, main_while1b_v17, main_while1b_c_12, main_while1b_v18, main_while1b_v19, main_while1b_c_13, main_while1b_v20, main_while1b_v21, main_while1b_v22, main_while1b_v23, main_while1b_v24, main_while1b_v25, main_while1b_v26, main_while1b_c_14, main_while1b_v27, main_while1b_v28, main_while1b_v29, main_while1b_call5_v0, main_while1b_call5_c, main_while1b_v30, main_while1b_c_15, main_while1b_v31, main_v7_1, main_v7_2, main_v7_3]

theorem body1Ops_writes : (body1Ops : List (HloOp τ sig (Elt F))).Forall fun op => op.writes ⊆ (body1Ops_W.map (Proc.devRef (τ := τ) .tc)).toFinset :=
  StableHlo.forall_writes_sub_of_map rfl

theorem body1Ops_fresh : (body1Ops : List (HloOp τ sig (Elt F))).Forall fun op => op.fresh = ∅ := by
  simp only [List.Forall]; repeat' constructor

theorem body1Ops_args : ∀ a ∈ argRefs, a ∉ body1Ops_W := by decide

end Cert.ReferenceIdeal.Hand

end

end
-- ==== Proof.R.Run.lean ====
/- The reference's run: five segments (a stretch, a counted loop of 2048 trips, a stretch, a counted loop of 2048
   trips, a stretch) by the loop kit, and the frame. -/
module

public import proofs.«01_k».proof.Proof.R.Ops

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

local notation "𝕄" => MT nD τ sig Unit (Elt F) ℕ (Option PUnit) ℕ

/-- No pipeline: no admissibility data, no ticket, no cell, no level. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev 𝒱₀ : Variants := Variants.none
abbrev L : GSem nD τ sig → Finset Unit := fun _ => ∅
abbrev lv : GSem nD τ sig → Unit → ℕ := fun _ _ => 0
theorem hinj : Function.Injective (Pipeline.cellOf (nD := nD) (τ := τ) (Pipeline.pin (pcfgs (F := F)) adm)) := fun p _ _ => p.1.elim0

variable (m : (ℓ : Loc nD τ sig) → Buf (Elt F) ℓ) (ρ : Dev nD → PrngReg)

abbrev body0I : List (List (HloOp τ sig (Elt F))) := [body0Ops]
abbrev body1I : List (List (HloOp τ sig (Elt F))) := [body1Ops]
theorem body0I_plain : Plain (body0I (F := F)) := .cons body0Ops_sub .nil
theorem body1I_plain : Plain (body1I (F := F)) := .cons body1Ops_sub .nil

/-! ## The contents at each boundary -/

/-- The buffers at launch; at the first loop's entry, before its `k`-th condition and after it; likewise the second
    loop's; at the end. -/
abbrev W0 : Dev nD → Valuation τ sig (Elt F) := fun c b => m ((c : Dev nD), b)
abbrev W1 : Dev nD → Valuation τ sig (Elt F) := fun c => after preOps (W0 m c)
abbrev W1k (k : ℕ) (c : Dev nD) : Valuation τ sig (Elt F) := atTrip cond0Ops body0I (W1 m) k c
abbrev W2 : Dev nD → Valuation τ sig (Elt F) := fun c => after cond0Ops (W1k m 2048 c)
abbrev W3 : Dev nD → Valuation τ sig (Elt F) := fun c => after midOps (W2 m c)
abbrev W3k (k : ℕ) (c : Dev nD) : Valuation τ sig (Elt F) := atTrip cond1Ops body1I (W3 m) k c
abbrev W4 : Dev nD → Valuation τ sig (Elt F) := fun c => after cond1Ops (W3k m 2048 c)
abbrev W5 : Dev nD → Valuation τ sig (Elt F) := fun c => after postOps (W4 m c)

/-- A trip is the condition's operations, then the body's. -/
theorem W1k_succ (k : ℕ) (c : Dev nD) : W1k m (k + 1) c = after body0Ops (after cond0Ops (W1k m k c)) := rfl
theorem W3k_succ (k : ℕ) (c : Dev nD) : W3k m (k + 1) c = after body1Ops (after cond1Ops (W3k m k c)) := rfl

/-- A buffer that neither the first loop's condition nor its body writes stays as at the loop's entry. -/
theorem W1k_keep (c : Dev nD) {b : Ref sig .tc} (hc : b ∉ cond0Ops_W) (hb : b ∉ body0Ops_W) :
    ∀ k, W1k m k c (Proc.devRef .tc b) = W1 m c (Proc.devRef .tc b)
  | 0 => rfl
  | k + 1 => by
    rw [W1k_succ, after_of_writes_sub body0Ops _ body0Ops_writes hb, after_of_writes_sub cond0Ops _ cond0Ops_writes hc]
    exact W1k_keep c hc hb k
/-- The same of the second loop. -/
theorem W3k_keep (c : Dev nD) {b : Ref sig .tc} (hc : b ∉ cond1Ops_W) (hb : b ∉ body1Ops_W) :
    ∀ k, W3k m k c (Proc.devRef .tc b) = W3 m c (Proc.devRef .tc b)
  | 0 => rfl
  | k + 1 => by
    rw [W3k_succ, after_of_writes_sub body1Ops _ body1Ops_writes hb, after_of_writes_sub cond1Ops _ cond1Ops_writes hc]
    exact W3k_keep c hc hb k

/-- No operation writes an argument. -/
theorem W5_args (c : Dev nD) : ∀ a ∈ argRefs, W5 m c (Proc.devRef .tc a) = m ((c : Thread nD τ).loc a) := fun a ha => by
  dsimp only [W5, W4, W3, W2]
  rw [after_of_writes_sub postOps _ postOps_writes (postOps_args a ha),
    after_of_writes_sub cond1Ops _ cond1Ops_writes (cond1Ops_args a ha),
    W3k_keep m c (cond1Ops_args a ha) (body1Ops_args a ha),
    show W3 m c = after midOps (W2 m c) from rfl, after_of_writes_sub midOps _ midOps_writes (midOps_args a ha),
    show W2 m c = after cond0Ops (W1k m 2048 c) from rfl, after_of_writes_sub cond0Ops _ cond0Ops_writes (cond0Ops_args a ha),
    W1k_keep m c (cond0Ops_args a ha) (body0Ops_args a ha)]
  exact after_of_writes_sub preOps _ preOps_writes (preOps_args a ha)

/-! ## The trip counters, the conditions -/

theorem ctr0_cond (V : Valuation τ sig (Elt F)) : after cond0Ops V (Proc.devRef .tc main_v4_9) = V (Proc.devRef .tc main_v4_9) :=
  after_of_writes_sub cond0Ops V cond0Ops_writes (by decide)
theorem ctr0_step (X : Valuation τ sig (Elt F)) :
    after body0Ops X (Proc.devRef .tc main_v4_9) = addi (X (Proc.devRef .tc main_v4_9)) (constantI S_ 32 1#32) := by
  after_results
  rfl
theorem ctr0_entry (c : Dev nD) : W1 m c (Proc.devRef .tc main_v4_9) = fun _ => (0#32 : BitVec 32) := by
  simp only [W1]
  generalize W0 m c = X
  after_results
  rfl
/-- Before the `k`-th condition the counter is `k`. -/
theorem ctr0_at (c : Dev nD) : ∀ k, W1k m k c (Proc.devRef .tc main_v4_9) = fun _ => Scf.iv 0#32 1#32 k
  | 0 => by rw [show W1k m 0 c = W1 m c from rfl, ctr0_entry, Scf.iv_zero]
  | k + 1 => by
    rw [W1k_succ, ctr0_step, ctr0_cond, ctr0_at c k, Scf.iv_succ]
    rfl

-- `iapply` of a rule stated for any thread at the TensorCore thread unifies only when unification may unfold plain definitions in a metavariable's type
set_option backward.isDefEq.respectTransparency.types false in
/-- The condition holds at exactly the first 2048 tests, whatever rides along. -/
theorem cond0_spec (Rc : Dev nD → sProp 𝕄) : LoopCond (pcfgs (F := F)) defs₀ 𝒱₀ loops Rc (main_while0_cond (F := F)) cond0Ops body0I (W1 m) 2048 := by
  intro k hk c bd
  have hctr := ctr0_at m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (W1k m k c) main_v4_9 HostLoop.idx0)
        (HloOp.result _ (W1k m k c) main_while0c_c_16 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

theorem ctr1_cond (V : Valuation τ sig (Elt F)) : after cond1Ops V (Proc.devRef .tc main_v7_1) = V (Proc.devRef .tc main_v7_1) :=
  after_of_writes_sub cond1Ops V cond1Ops_writes (by decide)
theorem ctr1_step (X : Valuation τ sig (Elt F)) :
    after body1Ops X (Proc.devRef .tc main_v7_1) = addi (X (Proc.devRef .tc main_v7_1)) (constantI S_ 32 1#32) := by
  after_results
  rfl
theorem ctr1_entry (c : Dev nD) : W3 m c (Proc.devRef .tc main_v7_1) = fun _ => (0#32 : BitVec 32) := by
  simp only [W3]
  generalize W2 m c = X
  after_results
  rfl
/-- Before the `k`-th condition the counter is `k`. -/
theorem ctr1_at (c : Dev nD) : ∀ k, W3k m k c (Proc.devRef .tc main_v7_1) = fun _ => Scf.iv 0#32 1#32 k
  | 0 => by rw [show W3k m 0 c = W3 m c from rfl, ctr1_entry, Scf.iv_zero]
  | k + 1 => by
    rw [W3k_succ, ctr1_step, ctr1_cond, ctr1_at c k, Scf.iv_succ]
    rfl

-- `iapply` of a rule stated for any thread at the TensorCore thread unifies only when unification may unfold plain definitions in a metavariable's type
set_option backward.isDefEq.respectTransparency.types false in
/-- The condition holds at exactly the first 2048 tests, whatever rides along. -/
theorem cond1_spec (Rc : Dev nD → sProp 𝕄) : LoopCond (pcfgs (F := F)) defs₀ 𝒱₀ loops Rc (main_while1_cond (F := F)) cond1Ops body1I (W3 m) 2048 := by
  intro k hk c bd
  have hctr := ctr1_at m c k
  unfold main_while1_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (W3k m k c) main_v7_1 HostLoop.idx0)
        (HloOp.result _ (W3k m k c) main_while1c_c_8 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

/-! ## The segments -/

/-- What a device carries beside its buffers: it owes nothing. -/
abbrev Rc (c : Dev nD) : sProp 𝕄 := iprop(∃ W, owes (c : Thread nD τ) (0 : CellTallies nD τ sig Unit) W)

abbrev KitSeg : Type 1 := Pipeline.CSeg (pcfgs (F := F)) adm defs₀ 𝒱₀ L lv loops tk

abbrev ofOps (ops : List (HloOp τ sig (Elt F))) (hs : ops.Forall fun op => op.bufs ⊆ tcRefs τ sig)
    (hf : ops.Forall fun op => op.fresh = ∅) (V : Dev nD → Valuation τ sig (Elt F)) : KitSeg (F := F) :=
  Pipeline.CSeg.ofOps _ _ _ _ _ _ _ _ (ucRefs τ sig) ops
    (fun op h => sub_ucRefs op ((List.forall_iff_forall_mem.mp hs) op h))
    (fun op h => (List.forall_iff_forall_mem.mp hf) op h) V Rc

theorem body0_chain : main_while0_body (F := F) = Pipeline.chain (body0I.map fun ops => (seq ops : Prog _ PUnit)) := by
  chain_rfl
theorem body1_chain : main_while1_body (F := F) = Pipeline.chain (body1I.map fun ops => (seq ops : Prog _ PUnit)) := by
  chain_rfl

abbrev seg0 : KitSeg (F := F) := ofOps preOps preOps_sub preOps_fresh (W0 m)
set_option maxRecDepth 8192 in
abbrev seg1 : KitSeg (F := F) :=
  loopSeg _ _ _ _ _ _ _ _ 0 (main_while0_cond (F := F)) (main_while0_body (F := F)) rfl cond0Ops body0I body0I_plain
    body0_chain 2048 (W1 m) Rc (cond0_spec m Rc)
abbrev seg2 : KitSeg (F := F) := ofOps midOps midOps_sub midOps_fresh (W2 m)
abbrev seg3 : KitSeg (F := F) :=
  loopSeg _ _ _ _ _ _ _ _ 1 (main_while1_cond (F := F)) (main_while1_body (F := F)) rfl cond1Ops body1I body1I_plain
    body1_chain 2048 (W3 m) Rc (cond1_spec m Rc)
abbrev seg4 : KitSeg (F := F) := ofOps postOps postOps_sub postOps_fresh (W4 m)
abbrev segs : List (KitSeg (F := F)) := [seg0 m, seg1 m, seg2 m, seg3 m, seg4 m]

set_option maxRecDepth 8192 in
theorem main_run (c : Dev nD) : main (F := F) c = Pipeline.CSeg.runL (segs m) := by chain_rfl
theorem segs_disjoint : (segs m).Pairwise fun s s' => Disjoint s.T s'.T :=
  Pipeline.CSeg.pairwise_disjoint_of_T_empty _ fun s _ => Finset.eq_empty_of_isEmpty s.T

abbrev T₀ (c : Dev nD) : sProp 𝕄 := iprop(held (c : Thread nD τ) (ucRefs τ sig) (W0 m c) ∗ Rc c)
abbrev Tₙ (c : Dev nD) : sProp 𝕄 := held (c : Thread nD τ) (ucRefs τ sig) (W5 m c)

/-! ## The run, the frame -/

-- the kit's implicit arguments are found by unifying its conclusion with this one, which takes unfolding plain definitions in a metavariable's type
set_option backward.isDefEq.respectTransparency.types false in
/-- THE RUN: from any memory, with the semaphores at zero, every weakly fair execution of @main terminates, and every
    final state has every unscoped buffer at `W5` and every semaphore counter at zero. -/
theorem run_main : θ_run defs (onTc (τ := τ) (main (F := F))) ⟨m, fun _ => 0, ρ⟩
    (fun r => (∀ (c : Dev nD), ∀ b ∈ ucRefs τ sig, r.2.mem ((c : Dev nD), b) = W5 m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm hinj defs₀ 𝒱₀ L lv loops tk m ρ main (segs m)
    (fun c Q => by rw [main_run m c]) (segs_disjoint m)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := T₀ m) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = held (c : Thread nD τ) (ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W5 m c b)
    (hfin := fun c s' => by
      unfold Tₙ held
      iintro ⟨Hh, HSI⟩
      ihave Hr := (pointsTo_read_all (ucRefs τ sig) (fun b => ((c : Dev nD), b)) (fun b => W5 m c b) s') $$ [Hh HSI]
      · isplitl [Hh] <;> iassumption
      icases Hr with ⟨%h, HSI⟩
      imodintro
      isplitr; · ipureintro; exact h
      iexact HSI)
    (hQ := fun s h hs => ⟨h, sem_eq_zero hs fun c sm hsm => absurd hsm (by revert sm; decide)⟩)

/-- What the run leaves in an unscoped buffer of the TensorCore. -/
theorem run_main_at {r : PUnit × MemSt nD τ sig (Elt F)} (h : ∀ (c : Dev nD), ∀ b ∈ ucRefs τ sig, r.2.mem ((c : Dev nD), b) = W5 m c b)
    (c : Dev nD) (b : Ref sig .tc) (hb : (Proc.devRef .tc b : DevRef τ sig).isScoped = false) :
    r.2.mem ((c.tc : Thread nD τ).loc b) = W5 m c (Proc.devRef .tc b) := h c _ (devRef_mem_ucRefs b hb)

/-- THE FRAME: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    have hk : ∀ a ∈ argRefs, (Proc.devRef .tc a : DevRef τ sig).isScoped = false := by decide
    have ha : ∀ a ∈ argRefs, _ := fun a ha => (run_main_at m h.1 c a (hk a ha)).trans (W5_args m c a ha)
    ⟨ha main_arg0 (by decide), ha main_arg1 (by decide), ha main_arg2 (by decide), ha main_arg3 (by decide),
     ha main_arg4 (by decide), ha main_arg5 (by decide), ha main_arg6 (by decide)⟩, h.2⟩)
    (run_main m ρ)

end Cert.ReferenceIdeal.Hand

end

end
-- ==== Proof.M.Pre.lean ====
/- The precondition read: no bias, and finite second and third weights. -/
module

public import proofs.«01_k».proof.Pre_biases_absent_weights_finite
public import Idealize.ShloMosaic.Lib.ValueIdx
public import Idealize.ShloMosaic.Lib.IdealHost
public import Idealize.ShloMosaic.PureOps.Reduce

@[expose] public section

noncomputable section

namespace Cert.Pre_biases_absent_weights_finite

open Idealize.ShloMosaic Idealize.ShloMosaic.ValueIdx

instance facts : Facts where
  bcast_S_S100 := by decide
  reducesTo_S100_S_d0 := by decide
  h_S_ := by decide
  bcast_S_S50 := by decide
  reducesTo_S50_S_d0 := by decide
  bcast_S_S16 := by decide
  reducesTo_S16_S_d0 := by decide
  bcast_S_S100x50 := by decide
  reducesTo_S100x50_S_d0_1 := by decide
  bcast_S_S50x16 := by decide
  reducesTo_S50x16_S_d0_1 := by decide

theorem and_one {a b : BitVec 1} (h : IntOp.andi a b = 1#1) : a = 1#1 ∧ b = 1#1 := by
  revert a b
  decide

/-- A conjunction over a list that holds, holds of each member. -/
theorem all_of_fold {ι : Type} (f : ι → BitVec 1) : ∀ (l : List ι) (a : BitVec 1), l.foldl (fun r n => IntOp.andi r (f n)) a = 1#1 →
    a = 1#1 ∧ ∀ n ∈ l, f n = 1#1
  | [], a, h => ⟨h, fun n hn => absurd hn List.not_mem_nil⟩
  | x :: l, a, h => by
    obtain ⟨h1, h2⟩ := all_of_fold f l _ h
    obtain ⟨h3, h4⟩ := and_one h1
    refine ⟨h3, fun n hn => ?_⟩
    rcases List.mem_cons.1 hn with rfl | hn
    · exact h4
    · exact h2 n hn

/-- The same of a mask reduced over every axis. -/
theorem all_of_reduce {s : Shape} {axes : List (Fin s.rank)} (x : s.Idx → BitVec 1) (v : S_.Idx → BitVec 1) (h : s.ReducesTo axes S_) (hu : 0 < S_.numel)
    (j : S_.Idx) (e : Host.reduce IntOp.andi x v h hu j = 1#1) (i : s.Idx) : x i = 1#1 := by
  unfold Host.reduce at e
  have hm := (all_of_fold (fun n => x (s.rowMajor.symm n)) _ _ e).2 (s.rowMajor i)
    (List.mem_filter.2 ⟨List.mem_finRange _, decide_eq_true (funext fun a => a.elim0)⟩)
  rwa [Equiv.symm_apply_apply] at hm

theorem eq_zero_of_mask {s : Shape} (x : FVec Ideal s .f32) (h : S_.BroadcastsInDim s (![] : Fin 0 → Fin s.rank)) (i : s.Idx)
    (e : cmpf .oeq x (broadcastInDim s ![] h (constant (F := Ideal) S_ .f32 0x00000000#32)) i = 1#1) : x i = (0 : EReal) := by
  have e' : Ideal.cmp .oeq (x i) (broadcastInDim s ![] h (constant (F := Ideal) S_ .f32 0x00000000#32) i) = 1#1 := e
  rw [broadcastInDim_scalar_apply, show constant (F := Ideal) S_ .f32 0x00000000#32 ix0 = (0 : EReal) from Ideal.ofBits_zero_f32] at e'
  by_contra hne
  simp [Ideal.cmp, hne] at e'

theorem real_of_mask {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) : ∃ r : ℝ, x i = (r : EReal) := by
  have e' : Ideal.cmp .olt (max (x i) (-(x i)) : EReal) (broadcastInDim s ![] h (constant (F := Ideal) S_ .f32 0x7F800000#32) i) = 1#1 := e
  rw [broadcastInDim_scalar_apply, show constant (F := Ideal) S_ .f32 0x7F800000#32 ix0 = (⊤ : EReal) from by
    show Ideal.ofBits .f32 0x7F800000#32 = (⊤ : EReal)
    simp [Ideal.ofBits, Ideal.ieee]] at e'
  generalize x i = z at e'
  induction z using EReal.rec with
  | bot => simp [Ideal.cmp] at e'
  | top => simp [Ideal.cmp] at e'
  | coe r => exact ⟨r, rfl⟩

/-- What the precondition says. -/
theorem read (y : FVec Ideal S512x2048 .f32) (w1 : FVec Ideal S1x100 .f32) (b1 : FVec Ideal S100 .f32) (w2 : FVec Ideal S100x50 .f32)
    (b2 : FVec Ideal S50 .f32) (w3 : FVec Ideal S50x16 .f32) (b3 : FVec Ideal S16 .f32) (h : fn (F := Ideal) y w1 b1 w2 b2 w3 b3 = fun _ => 1#1) :
    (∀ i, b1 i = (0 : EReal)) ∧ (∀ i, b2 i = (0 : EReal)) ∧ (∀ i, b3 i = (0 : EReal)) ∧ (∀ i, ∃ r : ℝ, w2 i = (r : EReal)) ∧ (∀ i, ∃ r : ℝ, w3 i = (r : EReal)) := by
  have e := congrFun h ix0
  unfold fn fn_part1 at e
  obtain ⟨e, e5⟩ := and_one e
  obtain ⟨e, e4⟩ := and_one e
  obtain ⟨e, e3⟩ := and_one e
  obtain ⟨e1, e2⟩ := and_one e
  exact ⟨fun i => eq_zero_of_mask b1 _ i (all_of_reduce _ _ _ _ _ e1 i), fun i => eq_zero_of_mask b2 _ i (all_of_reduce _ _ _ _ _ e2 i),
    fun i => eq_zero_of_mask b3 _ i (all_of_reduce _ _ _ _ _ e3 i), fun i => real_of_mask w2 _ i (all_of_reduce _ _ _ _ _ e4 i),
    fun i => real_of_mask w3 _ i (all_of_reduce _ _ _ _ _ e5 i)⟩

end Cert.Pre_biases_absent_weights_finite

end
-- ==== Proof.M.Model.lean ====
/- The recursion both programs compute, at single entries: the path costs of the sixteen states, the decision
   taken for each pair of predecessors, and the walk back through the decisions. -/
module

public import Mathlib.Data.EReal.Operations
public import Idealize.ShloMosaic.PureOps.Ideal
import Mathlib.Tactic.NormNum
import Mathlib.Tactic.FinCases
public import Mathlib.Algebra.BigOperators.Fin

@[expose] public section

noncomputable section

namespace Viterbi

open Classical

/-- The two predecessors of state `s`. -/
def lo (s : Fin 16) : Fin 16 := ⟨s.val / 2, by omega⟩
def hi (s : Fin 16) : Fin 16 := ⟨s.val / 2 + 8, by omega⟩
/-- The pair of predecessors a state belongs to. -/
def half (s : Fin 16) : Fin 8 := ⟨s.val / 2, by omega⟩

/-- Path costs: from zero, each time step adds its prior to the cheaper predecessor. -/
def K (p : ℕ → Fin 16 → Fin 512 → EReal) : ℕ → Fin 16 → Fin 512 → EReal
  | 0 => fun _ _ => 0
  | t + 1 => fun s b => p t s b + min (K p t (lo s) b) (K p t (hi s) b)

/-- At step `t` the second predecessor of pair `j` is strictly cheaper. -/
def dec (p : ℕ → Fin 16 → Fin 512 → EReal) (t : ℕ) (j : Fin 8) (b : Fin 512) : Prop :=
  K p t ⟨j.val + 8, by omega⟩ b < K p t ⟨j.val, by omega⟩ b

/-- The decision as a number. -/
def bit (p : ℕ → Fin 16 → Fin 512 → EReal) (t : ℕ) (j : Fin 8) (b : Fin 512) : ℕ := if dec p t j b then 1 else 0

theorem bit_le (p : ℕ → Fin 16 → Fin 512 → EReal) (t : ℕ) (j : Fin 8) (b : Fin 512) : bit p t j b ≤ 1 := by
  unfold bit; split <;> omega

/-- A step's eight decisions packed in one number. -/
def word (p : ℕ → Fin 16 → Fin 512 → EReal) (t : ℕ) (b : Fin 512) : ℕ := ∑ j : Fin 8, 2 ^ j.val * bit p t j b

theorem word_lt (p : ℕ → Fin 16 → Fin 512 → EReal) (t : ℕ) (b : Fin 512) : word p t b < 256 := by
  unfold word
  have h := fun j => bit_le p t j b
  simp only [Fin.sum_univ_eight]
  have h0 := h 0; have h1 := h 1; have h2 := h 2; have h3 := h 3
  have h4 := h 4; have h5 := h 5; have h6 := h 6; have h7 := h 7
  norm_num; omega

/-- A decision is its bit of the packed number. -/
theorem word_bit (p : ℕ → Fin 16 → Fin 512 → EReal) (t : ℕ) (b : Fin 512) (j : Fin 8) :
    word p t b / 2 ^ j.val % 2 = bit p t j b := by
  unfold word
  have h := fun j => bit_le p t j b
  simp only [Fin.sum_univ_eight]
  have h0 := h 0; have h1 := h 1; have h2 := h 2; have h3 := h 3
  have h4 := h 4; have h5 := h 5; have h6 := h 6; have h7 := h 7
  fin_cases j
  · change _ / 2 ^ 0 % 2 = bit p t 0 b; norm_num; omega
  · change _ / 2 ^ 1 % 2 = bit p t 1 b; norm_num; omega
  · change _ / 2 ^ 2 % 2 = bit p t 2 b; norm_num; omega
  · change _ / 2 ^ 3 % 2 = bit p t 3 b; norm_num; omega
  · change _ / 2 ^ 4 % 2 = bit p t 4 b; norm_num; omega
  · change _ / 2 ^ 5 % 2 = bit p t 5 b; norm_num; omega
  · change _ / 2 ^ 6 % 2 = bit p t 6 b; norm_num; omega
  · change _ / 2 ^ 7 % 2 = bit p t 7 b; norm_num; omega

/-- The state before step `2047 − i`'s successor, walking back from state zero. -/
def st (p : ℕ → Fin 16 → Fin 512 → EReal) : ℕ → Fin 512 → Fin 16
  | 0 => fun _ => 0
  | i + 1 => fun b => ⟨(st p i b).val / 2 + 8 * bit p (2047 - i) (half (st p i b)) b, by
      have := bit_le p (2047 - i) (half (st p i b)) b; omega⟩

/-- The decoded bit found at the `i`-th step of the walk back. -/
def out (p : ℕ → Fin 16 → Fin 512 → EReal) (i : ℕ) (b : Fin 512) : ℕ := bit p (2047 - i) (half (st p i b)) b

theorem st_succ_val (p : ℕ → Fin 16 → Fin 512 → EReal) (i : ℕ) (b : Fin 512) :
    (st p (i + 1) b).val = (st p i b).val / 2 + 8 * out p i b := rfl

/-- Costs agree where priors do. -/
theorem K_congr {p q : ℕ → Fin 16 → Fin 512 → EReal} (n : ℕ) (h : ∀ t, t < n → p t = q t) (t : ℕ) (ht : t ≤ n) :
    K p t = K q t := by
  induction t with
  | zero => rfl
  | succ t ih => funext s b; simp only [K, ih (by omega), h t (by omega)]

end Viterbi
-- ==== Proof.PI.Step.lean ====
/- One time step of the forward pass and one step of the walk back, as vector operations read at an entry. -/
module

public import proofs.«01_k».proof.Proof.Gen.KernelIdeal.Loops
public import proofs.«01_k».proof.Proof.M.Model
public import Idealize.ShloMosaic.Lib.Claim
public import Idealize.ShloMosaic.Lib.ValueIdx
public import Idealize.ShloMosaic.Lib.Pipeline.Value
public import Idealize.ShloMosaic.Lib.MatmulPlain
public import Idealize.ShloMosaic.Lib.IdealHost

@[expose] public section

noncomputable section

namespace Cert.KernelIdeal.Hand

open Cert.KernelIdeal Cert.KernelIdeal.Gen
open Idealize.ShloMosaic Idealize.ShloMosaic.TcCoe Idealize.ShloMosaic.ValueIdx
open Classical
open Idealize.ShloMosaic.Pipeline

/-- Priors over time. -/
abbrev Priors := ℕ → Fin 16 → Fin 512 → EReal

/-- The vector holds the costs at time `t`. -/
def IsK (p : Priors) (t : ℕ) (v : FVec Ideal S16x512 .f32) : Prop := ∀ s b, v (ix2 s b) = Viterbi.K p t s b
/-- The vector holds the priors of time `t`. -/
def IsP (p : Priors) (t : ℕ) (v : FVec Ideal S16x512 .f32) : Prop := ∀ s b, v (ix2 s b) = p t s b
/-- The vector holds the decisions of time `t`. -/
def IsRow (p : Priors) (t : ℕ) (v : FVec Ideal S8x512 .f32) : Prop := ∀ j b, v (ix2 j b) = (((Viterbi.bit p t j b : ℕ) : ℝ) : EReal)

theorem lo_slice (v : FVec Ideal S16x512 .f32) (h) (j : Fin 8) (b : Fin 512) :
    extractStridedSlice S8x512 ![0, 0] v h (ix2 j b) = v (ix2 ⟨j.val, by omega⟩ b) :=
  extractStridedSlice_apply _ _ _ _ _ fun a => by fin_cases a <;> simp
theorem hi_slice (v : FVec Ideal S16x512 .f32) (h) (j : Fin 8) (b : Fin 512) :
    extractStridedSlice S8x512 ![8, 0] v h (ix2 j b) = v (ix2 ⟨j.val + 8, by omega⟩ b) :=
  extractStridedSlice_apply _ _ _ _ _ fun a => by
    fin_cases a
    · exact Nat.add_comm _ _
    · exact (Nat.zero_add _).symm

/-- Eight rows, each taken twice in succession. -/
theorem twice_apply (w : FVec Ideal S8x512 .f32) (h1 h2 h3) (s : Fin 16) (b : Fin 512) :
    shapeCast S16x512 (concatenate S8x2x512 1 [⟨S8x1x512, shapeCast S8x1x512 w h1⟩, ⟨S8x1x512, shapeCast S8x1x512 w h1⟩] h2) h3 (ix2 s b)
      = w (ix2 (Viterbi.half s) b) := by
  rw [shapeCast_apply _ _ _ (ix3 (Viterbi.half s) ⟨s.val % 2, by omega⟩ b) (by
    rw [Shape.rowMajor_val_three, Shape.rowMajor_val_two]
    show ((s.val / 2) * 2 + s.val % 2) * 512 + b.val = s.val * 512 + b.val
    omega)]
  have e : shapeCast S8x1x512 w h1 (ix3 (Viterbi.half s) 0 b) = w (ix2 (Viterbi.half s) b) := by
    rw [shapeCast_apply _ _ _ (ix2 (Viterbi.half s) b) (by
      rw [Shape.rowMajor_val_three, Shape.rowMajor_val_two]
      show (s.val / 2) * 512 + b.val = ((s.val / 2) * 1 + 0) * 512 + b.val
      omega)]
  rcases Nat.mod_two_eq_zero_or_one s.val with h | h
  · refine (concatenate_pair_apply_left (t := S8x2x512) (s₁ := S8x1x512) (s₂ := S8x1x512) (1 : Fin 3) _ _ _ _ rfl (ix3 (Viterbi.half s) 0 b) ?_).trans e
    intro a
    fin_cases a
    · rfl
    · exact h.symm
    · rfl
  · refine (concatenate_pair_apply_right (t := S8x2x512) (s₁ := S8x1x512) (s₂ := S8x1x512) (1 : Fin 3) _ _ _ _ rfl rfl (ix3 (Viterbi.half s) 0 b) ?_ ?_).trans e
    · intro a ha
      fin_cases a
      · rfl
      · exact absurd rfl ha
      · rfl
    · exact h.symm

/-- One forward step. -/
theorem carry_step {p : Priors} {t : ℕ} {r acc : FVec Ideal S16x512 .f32} {h0 h8 h1 h2 h3} (hr : IsP p t r) (ha : IsK p t acc) :
    IsK p (t + 1) (addf r (shapeCast S16x512 (concatenate S8x2x512 1
      [⟨S8x1x512, shapeCast S8x1x512 (minimumf (extractStridedSlice S8x512 ![0, 0] acc h0) (extractStridedSlice S8x512 ![8, 0] acc h8)) h1⟩,
       ⟨S8x1x512, shapeCast S8x1x512 (minimumf (extractStridedSlice S8x512 ![0, 0] acc h0) (extractStridedSlice S8x512 ![8, 0] acc h8)) h1⟩] h2) h3)) := by
  intro s b
  rw [addf_apply, twice_apply, minimumf_apply, lo_slice, hi_slice, hr, ha, ha]
  rfl

/-- One step's decisions. -/
theorem row_step {p : Priors} {t : ℕ} {acc : FVec Ideal S16x512 .f32} {h0 h8 h1} (ha : IsK p t acc) :
    IsRow p t (sitofp FTy.f32 (extui 32 (cmpf CmpFPredicate.olt (extractStridedSlice S8x512 ![8, 0] acc h8) (extractStridedSlice S8x512 ![0, 0] acc h0)) h1)) := by
  intro j b
  show FloatOps.sitofp FTy.f32 (BitVec.zeroExtend 32 (FloatOps.cmpf CmpFPredicate.olt (extractStridedSlice S8x512 ![8, 0] acc h8 (ix2 j b)) (extractStridedSlice S8x512 ![0, 0] acc h0 (ix2 j b)))) = _
  rw [lo_slice, hi_slice, ha, ha]
  unfold Viterbi.bit Viterbi.dec
  by_cases h : Viterbi.K p t ⟨j.val + 8, by omega⟩ b < Viterbi.K p t ⟨j.val, by omega⟩ b
  · rw [if_pos h, show FloatOps.cmpf (F := Ideal) (φ := .f32) CmpFPredicate.olt (Viterbi.K p t ⟨j.val + 8, by omega⟩ b) (Viterbi.K p t ⟨j.val, by omega⟩ b) = 1#1 from
      congrArg BitVec.ofBool (decide_eq_true h)]
    show ((((1#32 : BitVec 32).toInt : ℝ)) : EReal) = _
    simp
  · rw [if_neg h, show FloatOps.cmpf (F := Ideal) (φ := .f32) CmpFPredicate.olt (Viterbi.K p t ⟨j.val + 8, by omega⟩ b) (Viterbi.K p t ⟨j.val, by omega⟩ b) = 0#1 from
      congrArg BitVec.ofBool (decide_eq_false h)]
    show ((((0#32 : BitVec 32).toInt : ℝ)) : EReal) = _
    simp

/-! ### Packing a chunk's decisions -/

/-- Thirty-two rows of decisions side by side. -/
theorem rows_apply {p : Priors} {m : ℕ} (R : Fin 32 → FVec Ideal S8x512 .f32) (h)
    (hR : ∀ n : Fin 32, IsRow p (32 * m + n.val) (R n)) (j : Fin 8) (c : Fin 16384) :
    concatenate S8x16384 1 (List.ofFn fun n : Fin 32 => (⟨S8x512, R n⟩ : (s : Shape) × (s.Idx → Ideal .f32))) h (ix2 j c)
      = (((Viterbi.bit p (32 * m + c.val / 512) j ⟨c.val % 512, by omega⟩ : ℕ) : ℝ) : EReal) := by
  rw [← hR ⟨c.val / 512, by omega⟩]
  exact concatenate_ofFn_apply (t := S8x16384) (s₁ := S8x512) (1 : Fin 2) R h rfl 512 rfl (ix2 j c) ⟨c.val / 512, by omega⟩ rfl _ rfl (fun b hb => by
    fin_cases b
    · rfl
    · exact absurd rfl hb)

/-- The row of packed decisions of chunk `m`. -/
def IsPack (p : Priors) (m : ℕ) (v : FVec Ideal S1x16384 .f32) : Prop :=
  ∀ c : Fin 16384, v (ix2 0 c) = (((Viterbi.word p (32 * m + c.val / 512) ⟨c.val % 512, by omega⟩ : ℕ) : ℝ) : EReal)

/-- The powers of two the packing multiplies by. -/
theorem powers_apply (j : Fin 8) : (k0_pay343 : FVec Ideal S1x8 .f32) (ix2 0 j) = (((2 ^ j.val : ℕ) : ℝ) : EReal) := by
  show FloatOps.exp2 (F := Ideal) (φ := .f32) (FloatOps.sitofp (F := Ideal) FTy.f32 (iota .tc S1x8 32 [1] iota_S1x8_d1_w32 (ix2 0 j))) = _
  rw [iota_single_apply]
  show Ideal.exp2 ((((BitVec.ofNat 32 j.val).toInt : ℝ)) : EReal) = _
  have e : (BitVec.ofNat 32 j.val).toInt = (j.val : ℤ) := by
    fin_cases j <;> rfl
  rw [e]
  show ((Real.rpow 2 ((j.val : ℤ) : ℝ) : ℝ) : EReal) = _
  congr 1
  push_cast
  exact Real.rpow_natCast 2 j.val

/-- A finite sum of reals is the sum in the extended reals. -/
theorem coe_sum {n : ℕ} (f : Fin n → ℝ) : ((∑ j, f j : ℝ) : EReal) = ∑ j, (f j : EReal) := by
  induction n with
  | zero => simp
  | succ n ih => rw [Fin.sum_univ_succ, Fin.sum_univ_succ, EReal.coe_add, ih]

/-- Multiplying the decisions by the powers of two packs them. -/
theorem pack_step {p : Priors} {m : ℕ} (R : Fin 32 → FVec Ideal S8x512 .f32) (h) (h1)
    (hR : ∀ n : Fin 32, IsRow p (32 * m + n.val) (R n)) :
    IsPack p m (shapeCast S1x16384 (matmul dot_S1x8_S8x16384_S1x16384_1_0_0_1_n_n none (k0_pay343 : FVec Ideal S1x8 .f32)
      (concatenate S8x16384 1 (List.ofFn fun n : Fin 32 => (⟨S8x512, R n⟩ : (s : Shape) × (s.Idx → Ideal .f32))) h)
      (constant S1x16384 FTy.f32 0#32)) h1) := by
  intro c
  rw [shapeCast_apply _ _ _ (ix2 0 c) rfl]
  refine (Ideal.matmul_plain_apply (M := 1) (K := 8) (N := 16384) none _ _ _ (0 : Fin 1) c).trans ?_
  rw [constant_apply, Ideal.ofBits_zero_f32, zero_add]
  simp only [powers_apply, rows_apply R h hR]
  unfold Viterbi.word
  rw [Nat.cast_sum, coe_sum]
  refine Finset.sum_congr rfl fun j _ => ?_
  rw [← EReal.coe_mul, ← Nat.cast_mul]

/-! ### The walk back -/

/-- The vector holds the states after `i` steps back. -/
def IsS (p : Priors) (i : ℕ) (v : IVec S1x512 32) : Prop := ∀ b, v (ix2 0 b) = BitVec.ofNat 32 (Viterbi.st p i b).val
/-- The vector holds the packed decisions of time `t`. -/
def IsW (p : Priors) (t : ℕ) (v : FVec Ideal S1x512 .f32) : Prop := ∀ b, v (ix2 0 b) = (((Viterbi.word p t b : ℕ) : ℝ) : EReal)
/-- The vector holds the bits found at the `i`-th step back. -/
def IsBit (p : Priors) (i : ℕ) (v : IVec S1x512 32) : Prop := ∀ b, v (ix2 0 b) = BitVec.ofNat 32 (Viterbi.out p i b)

/-- A small natural number survives the conversion. -/
theorem fptosi_nat (n : ℕ) (h : n < 256) : FloatOps.fptosi (F := Ideal) (φ := .f32) 32 (((n : ℝ)) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  rfl

/-- Halving a state. -/
theorem shr_state (n : ℕ) (h : n < 16) : IntOp.shrui .vector (BitVec.ofNat 32 n) 1#32 = BitVec.ofNat 32 (n / 2) := by
  interval_cases n <;> rfl

/-- Reading one bit of the packed decisions. -/
theorem read_bit (w j : ℕ) (hw : w < 256) (hj : j < 8) :
    IntOp.shrui .vector (BitVec.ofNat 32 w) (BitVec.ofNat 32 j) &&& 1#32 = BitVec.ofNat 32 (w / 2 ^ j % 2) := by
  have hjn : (BitVec.ofNat 32 j).toNat = j := by rw [BitVec.toNat_ofNat]; omega
  have hwn : (BitVec.ofNat 32 w).toNat = w := by rw [BitVec.toNat_ofNat]; omega
  unfold IntOp.shrui
  rw [if_pos (by omega)]
  apply BitVec.eq_of_toNat_eq
  rw [BitVec.toNat_and, BitVec.ushiftRight_eq', BitVec.toNat_ushiftRight, hjn, hwn, Nat.shiftRight_eq_div_pow, BitVec.toNat_ofNat]
  show w / 2 ^ j &&& 1 = _
  rw [Nat.and_one_is_mod]
  show _ = w / 2 ^ j % 2 % 2 ^ 32
  omega

/-- The new state from the halved state and the bit. -/
theorem join_state (a d : ℕ) (ha : a < 8) (hd : d ≤ 1) :
    BitVec.ofNat 32 a + IntOp.shli .vector (BitVec.ofNat 32 d) 3#32 = BitVec.ofNat 32 (a + 8 * d) := by
  interval_cases a <;> interval_cases d <;> rfl

theorem bit_step {p : Priors} {i : ℕ} {d : FVec Ideal S1x512 .f32} {acc one : IVec S1x512 32} (h1 : ∀ b, one (ix2 0 b) = 1#32)
    (hd : IsW p (2047 - i) d) (ha : IsS p i acc) :
    IsBit p i (andi (shrui (fptosi 32 d) (shrui acc one)) one) := by
  intro b
  show IntOp.shrui .vector (FloatOps.fptosi (F := Ideal) (φ := .f32) 32 (d (ix2 0 b))) (IntOp.shrui .vector (acc (ix2 0 b)) (one (ix2 0 b))) &&& one (ix2 0 b) = _
  rw [hd, ha, h1, shr_state _ (Viterbi.st p i b).isLt, fptosi_nat _ (Viterbi.word_lt _ _ _),
    read_bit _ _ (Viterbi.word_lt _ _ _) (by omega)]
  exact congrArg (BitVec.ofNat 32) (Viterbi.word_bit p (2047 - i) b (Viterbi.half (Viterbi.st p i b)))

theorem state_step {p : Priors} {i : ℕ} {v acc one three : IVec S1x512 32} (h1 : ∀ b, one (ix2 0 b) = 1#32) (h3 : ∀ b, three (ix2 0 b) = 3#32)
    (hv : IsBit p i v) (ha : IsS p i acc) : IsS p (i + 1) (addi (shrui acc one) (shli v three)) := by
  intro b
  show IntOp.shrui .vector (acc (ix2 0 b)) (one (ix2 0 b)) + IntOp.shli .vector (v (ix2 0 b)) (three (ix2 0 b)) = _
  rw [hv, ha, h1, h3, shr_state _ (Viterbi.st p i b).isLt, join_state _ (Viterbi.out p i b) (by omega) (Viterbi.bit_le _ _ _ _)]
  rfl

/-! ### Priors -/

/-- The prior cost of state `s` at a sample `z`, in the kernel's spelling. -/
def kprior (v0 : Vec Ideal S100x1 .f32) (v4 : Vec Ideal S50x100 .f32) (v6 : Vec Ideal S16x50 .f32) (z : EReal) (s : Fin 16) : EReal :=
  ∑ i : Fin 50, v6 (ix2 s i) * max (∑ j : Fin 100, v4 (ix2 i j) *
    Ideal.div 1 (1 + Ideal.exp2 (Named.named (F := Ideal) κ (φ := .f32) "neg_log2_e" 0xBFB8AA3B#32 * v0 (ix2 j 0) * z))) 0

theorem prior_half (v0 : Vec Ideal S100x1 .f32) (v4 : Vec Ideal S50x100 .f32) (v6 : Vec Ideal S16x50 .f32) (z : Vec Ideal S1x8192 .f32)
    (h1 h2 h3 h4) (s : Fin 16) (c : Fin 8192) :
    shapeCast S16x8192 (matmul dot_S16x50_S50x8192_S16x8192_1_0_0_1_n_n none (k0_pay342 v6)
      (maximumf (matmul dot_S50x100_S100x8192_S50x8192_1_0_0_1_n_n none (k0_pay341 v4)
        (divf (broadcast S100x8192 (FloatOps.ofBits (F := Ideal) FTy.f32 1065353216#32)) (addf (broadcast S100x8192 (FloatOps.ofBits (F := Ideal) FTy.f32 1065353216#32))
          (exp2 (mulf (broadcastTo S100x8192 (k0_pay340 v0) h1) (broadcastTo S100x8192 (shapeCast S1x8192 z h2) h3)))))
        (constant S50x8192 FTy.f32 0#32)) (broadcast S50x8192 (FloatOps.ofBits (F := Ideal) FTy.f32 0#32))) (constant S16x8192 FTy.f32 0#32)) h4 (ix2 s c)
      = kprior v0 v4 v6 (z (ix2 0 c)) s := by
  rw [shapeCast_apply _ _ _ (ix2 s c) rfl]
  refine (Ideal.matmul_plain_apply (M := 16) (K := 50) (N := 8192) none _ _ _ s c).trans ?_
  rw [constant_apply, Ideal.ofBits_zero_f32, zero_add]
  refine Finset.sum_congr rfl fun i _ => ?_
  rw [maximumf_apply]
  refine congrArg₂ (· * ·) (shapeCast_apply _ _ _ (ix2 s i) rfl) (congrArg₂ max ?_ Ideal.ofBits_zero_f32)
  refine (Ideal.matmul_plain_apply (M := 50) (K := 100) (N := 8192) none _ _ _ i c).trans ?_
  rw [constant_apply, Ideal.ofBits_zero_f32, zero_add]
  refine Finset.sum_congr rfl fun j _ => ?_
  refine congrArg₂ (· * ·) (shapeCast_apply _ _ _ (ix2 i j) rfl) ?_
  show Ideal.div (Ideal.ofBits .f32 1065353216#32) (Ideal.ofBits .f32 1065353216#32 + Ideal.exp2 (Named.named (F := Ideal) κ (φ := .f32) "neg_log2_e" 0xBFB8AA3B#32 * (shapeCast S100x1 v0 shapeCasts_S100x1_S100x1 (ix2 j 0)) * (shapeCast S1x8192 z h2 (ix2 0 c)))) = _
  rw [shapeCast_apply _ _ _ (ix2 j 0) rfl, shapeCast_apply _ _ _ (ix2 0 c) rfl, Ideal.ofBits_one_f32]

theorem prior_full (v0 : Vec Ideal S100x1 .f32) (v4 : Vec Ideal S50x100 .f32) (v6 : Vec Ideal S16x50 .f32) (z : Vec Ideal S1x16384 .f32)
    (s : Fin 16) (c : Fin 16384) :
    k0_pay344 v0 v4 v6 z (ix2 s c) = kprior v0 v4 v6 (z (ix2 0 c)) s := by
  unfold k0_pay344
  rw [shapeCast_apply _ _ _ (ix2 s c) rfl]
  refine (Ideal.matmul_plain_apply (M := 16) (K := 50) (N := 16384) none _ _ _ s c).trans ?_
  rw [constant_apply, Ideal.ofBits_zero_f32, zero_add]
  refine Finset.sum_congr rfl fun i _ => ?_
  rw [maximumf_apply]
  refine congrArg₂ (· * ·) (shapeCast_apply _ _ _ (ix2 s i) rfl) (congrArg₂ max ?_ Ideal.ofBits_zero_f32)
  refine (Ideal.matmul_plain_apply (M := 50) (K := 100) (N := 16384) none _ _ _ i c).trans ?_
  rw [constant_apply, Ideal.ofBits_zero_f32, zero_add]
  refine Finset.sum_congr rfl fun j _ => ?_
  refine congrArg₂ (· * ·) (shapeCast_apply _ _ _ (ix2 i j) rfl) ?_
  show Ideal.div (Ideal.ofBits .f32 1065353216#32) (Ideal.ofBits .f32 1065353216#32 + Ideal.exp2 (Named.named (F := Ideal) κ (φ := .f32) "neg_log2_e" 0xBFB8AA3B#32 * (shapeCast S100x1 v0 shapeCasts_S100x1_S100x1 (ix2 j 0)) * (shapeCast S1x16384 z _ (ix2 0 c)))) = _
  rw [shapeCast_apply _ _ _ (ix2 j 0) rfl, shapeCast_apply _ _ _ (ix2 0 c) rfl, Ideal.ofBits_one_f32]

/-- The priors over time, from the samples laid out in chunks of thirty-two time steps. -/
def chunkPriors (g : EReal → Fin 16 → EReal) (Y : ℕ → ℕ → EReal) : Priors := fun t s b => g (Y (t / 32) (512 * (t % 32) + b.val)) s

theorem chunkPriors_at (g : EReal → Fin 16 → EReal) (Y : ℕ → ℕ → EReal) (m n : ℕ) (hn : n < 32) (s : Fin 16) (b : Fin 512) :
    chunkPriors g Y (32 * m + n) s b = g (Y m (512 * n + b.val)) s := by
  unfold chunkPriors
  rw [show (32 * m + n) / 32 = m by omega, show (32 * m + n) % 32 = n by omega]

end Cert.KernelIdeal.Hand
-- ==== Proof.PI.Forward.lean ====
/- One trip of the forward loop: thirty-two steps on the even chunk, then thirty-two on the odd one; each step is the
   one lemma of the step module, applied to the value before it. -/
module

public import proofs.«01_k».proof.Proof.PI.Step

@[expose] public section

noncomputable section

namespace Cert.KernelIdeal.Hand

open Cert.KernelIdeal Cert.KernelIdeal.Gen
open Idealize.ShloMosaic Idealize.ShloMosaic.TcCoe Idealize.ShloMosaic.ValueIdx

/-- The even chunk of a trip: from the costs before it, the costs after it and its packed decisions. -/
theorem forward_even (arg6 : Memref sig .tc .vmem S16x16384 .f32) (acc : FVec Ideal S16x512 .f32) (f6 : BufTy.Contents (Elt Ideal) arg6.view.ty)
    (p : Priors) (m : ℕ)
    (h6 : ∀ n o : ℕ, n < 32 → o = 512 * n → ∀ inb, IsP p (32 * m + n) (View.readAt (Elt Ideal) arg6.view (Rect.unit (s := S16x16384) ![0, o] S16x512.size inb).toLoadRect f6))
    (c0 : IsK p (32 * m) acc) :
    IsK p (32 * m + 32) (trip_k0_t1.sl.v424 arg6 acc f6) ∧ IsPack p m (trip_k0_t1.sl.v430 arg6 k0_pay343 acc f6) := by
  have r0 : IsRow p (32 * m + 0) (trip_k0_t1.sl.v61 acc) := row_step c0
  have c1 : IsK p (32 * m + 1) (trip_k0_t1.sl.v65 arg6 acc f6) := carry_step (t := 32 * m + 0) (h6 0 0 (by decide) (by decide) _) c0
  have r1 : IsRow p (32 * m + 1) (trip_k0_t1.sl.v72 arg6 acc f6) := row_step c1
  have c2 : IsK p (32 * m + 2) (trip_k0_t1.sl.v76 arg6 acc f6) := carry_step (t := 32 * m + 1) (h6 1 512 (by decide) (by decide) _) c1
  have r2 : IsRow p (32 * m + 2) (trip_k0_t1.sl.v83 arg6 acc f6) := row_step c2
  have c3 : IsK p (32 * m + 3) (trip_k0_t1.sl.v87 arg6 acc f6) := carry_step (t := 32 * m + 2) (h6 2 1024 (by decide) (by decide) _) c2
  have r3 : IsRow p (32 * m + 3) (trip_k0_t1.sl.v94 arg6 acc f6) := row_step c3
  have c4 : IsK p (32 * m + 4) (trip_k0_t1.sl.v98 arg6 acc f6) := carry_step (t := 32 * m + 3) (h6 3 1536 (by decide) (by decide) _) c3
  have r4 : IsRow p (32 * m + 4) (trip_k0_t1.sl.v105 arg6 acc f6) := row_step c4
  have c5 : IsK p (32 * m + 5) (trip_k0_t1.sl.v109 arg6 acc f6) := carry_step (t := 32 * m + 4) (h6 4 2048 (by decide) (by decide) _) c4
  have r5 : IsRow p (32 * m + 5) (trip_k0_t1.sl.v116 arg6 acc f6) := row_step c5
  have c6 : IsK p (32 * m + 6) (trip_k0_t1.sl.v120 arg6 acc f6) := carry_step (t := 32 * m + 5) (h6 5 2560 (by decide) (by decide) _) c5
  have r6 : IsRow p (32 * m + 6) (trip_k0_t1.sl.v127 arg6 acc f6) := row_step c6
  have c7 : IsK p (32 * m + 7) (trip_k0_t1.sl.v131 arg6 acc f6) := carry_step (t := 32 * m + 6) (h6 6 3072 (by decide) (by decide) _) c6
  have r7 : IsRow p (32 * m + 7) (trip_k0_t1.sl.v138 arg6 acc f6) := row_step c7
  have c8 : IsK p (32 * m + 8) (trip_k0_t1.sl.v142 arg6 acc f6) := carry_step (t := 32 * m + 7) (h6 7 3584 (by decide) (by decide) _) c7
  have r8 : IsRow p (32 * m + 8) (trip_k0_t1.sl.v149 arg6 acc f6) := row_step c8
  have c9 : IsK p (32 * m + 9) (trip_k0_t1.sl.v153 arg6 acc f6) := carry_step (t := 32 * m + 8) (h6 8 4096 (by decide) (by decide) _) c8
  have r9 : IsRow p (32 * m + 9) (trip_k0_t1.sl.v160 arg6 acc f6) := row_step c9
  have c10 : IsK p (32 * m + 10) (trip_k0_t1.sl.v164 arg6 acc f6) := carry_step (t := 32 * m + 9) (h6 9 4608 (by decide) (by decide) _) c9
  have r10 : IsRow p (32 * m + 10) (trip_k0_t1.sl.v171 arg6 acc f6) := row_step c10
  have c11 : IsK p (32 * m + 11) (trip_k0_t1.sl.v175 arg6 acc f6) := carry_step (t := 32 * m + 10) (h6 10 5120 (by decide) (by decide) _) c10
  have r11 : IsRow p (32 * m + 11) (trip_k0_t1.sl.v182 arg6 acc f6) := row_step c11
  have c12 : IsK p (32 * m + 12) (trip_k0_t1.sl.v186 arg6 acc f6) := carry_step (t := 32 * m + 11) (h6 11 5632 (by decide) (by decide) _) c11
  have r12 : IsRow p (32 * m + 12) (trip_k0_t1.sl.v193 arg6 acc f6) := row_step c12
  have c13 : IsK p (32 * m + 13) (trip_k0_t1.sl.v197 arg6 acc f6) := carry_step (t := 32 * m + 12) (h6 12 6144 (by decide) (by decide) _) c12
  have r13 : IsRow p (32 * m + 13) (trip_k0_t1.sl.v204 arg6 acc f6) := row_step c13
  have c14 : IsK p (32 * m + 14) (trip_k0_t1.sl.v208 arg6 acc f6) := carry_step (t := 32 * m + 13) (h6 13 6656 (by decide) (by decide) _) c13
  have r14 : IsRow p (32 * m + 14) (trip_k0_t1.sl.v215 arg6 acc f6) := row_step c14
  have c15 : IsK p (32 * m + 15) (trip_k0_t1.sl.v219 arg6 acc f6) := carry_step (t := 32 * m + 14) (h6 14 7168 (by decide) (by decide) _) c14
  have r15 : IsRow p (32 * m + 15) (trip_k0_t1.sl.v226 arg6 acc f6) := row_step c15
  have c16 : IsK p (32 * m + 16) (trip_k0_t1.sl.v230 arg6 acc f6) := carry_step (t := 32 * m + 15) (h6 15 7680 (by decide) (by decide) _) c15
  have r16 : IsRow p (32 * m + 16) (trip_k0_t1.sl.v255 arg6 acc f6) := row_step c16
  have c17 : IsK p (32 * m + 17) (trip_k0_t1.sl.v259 arg6 acc f6) := carry_step (t := 32 * m + 16) (h6 16 8192 (by decide) (by decide) _) c16
  have r17 : IsRow p (32 * m + 17) (trip_k0_t1.sl.v266 arg6 acc f6) := row_step c17
  have c18 : IsK p (32 * m + 18) (trip_k0_t1.sl.v270 arg6 acc f6) := carry_step (t := 32 * m + 17) (h6 17 8704 (by decide) (by decide) _) c17
  have r18 : IsRow p (32 * m + 18) (trip_k0_t1.sl.v277 arg6 acc f6) := row_step c18
  have c19 : IsK p (32 * m + 19) (trip_k0_t1.sl.v281 arg6 acc f6) := carry_step (t := 32 * m + 18) (h6 18 9216 (by decide) (by decide) _) c18
  have r19 : IsRow p (32 * m + 19) (trip_k0_t1.sl.v288 arg6 acc f6) := row_step c19
  have c20 : IsK p (32 * m + 20) (trip_k0_t1.sl.v292 arg6 acc f6) := carry_step (t := 32 * m + 19) (h6 19 9728 (by decide) (by decide) _) c19
  have r20 : IsRow p (32 * m + 20) (trip_k0_t1.sl.v299 arg6 acc f6) := row_step c20
  have c21 : IsK p (32 * m + 21) (trip_k0_t1.sl.v303 arg6 acc f6) := carry_step (t := 32 * m + 20) (h6 20 10240 (by decide) (by decide) _) c20
  have r21 : IsRow p (32 * m + 21) (trip_k0_t1.sl.v310 arg6 acc f6) := row_step c21
  have c22 : IsK p (32 * m + 22) (trip_k0_t1.sl.v314 arg6 acc f6) := carry_step (t := 32 * m + 21) (h6 21 10752 (by decide) (by decide) _) c21
  have r22 : IsRow p (32 * m + 22) (trip_k0_t1.sl.v321 arg6 acc f6) := row_step c22
  have c23 : IsK p (32 * m + 23) (trip_k0_t1.sl.v325 arg6 acc f6) := carry_step (t := 32 * m + 22) (h6 22 11264 (by decide) (by decide) _) c22
  have r23 : IsRow p (32 * m + 23) (trip_k0_t1.sl.v332 arg6 acc f6) := row_step c23
  have c24 : IsK p (32 * m + 24) (trip_k0_t1.sl.v336 arg6 acc f6) := carry_step (t := 32 * m + 23) (h6 23 11776 (by decide) (by decide) _) c23
  have r24 : IsRow p (32 * m + 24) (trip_k0_t1.sl.v343 arg6 acc f6) := row_step c24
  have c25 : IsK p (32 * m + 25) (trip_k0_t1.sl.v347 arg6 acc f6) := carry_step (t := 32 * m + 24) (h6 24 12288 (by decide) (by decide) _) c24
  have r25 : IsRow p (32 * m + 25) (trip_k0_t1.sl.v354 arg6 acc f6) := row_step c25
  have c26 : IsK p (32 * m + 26) (trip_k0_t1.sl.v358 arg6 acc f6) := carry_step (t := 32 * m + 25) (h6 25 12800 (by decide) (by decide) _) c25
  have r26 : IsRow p (32 * m + 26) (trip_k0_t1.sl.v365 arg6 acc f6) := row_step c26
  have c27 : IsK p (32 * m + 27) (trip_k0_t1.sl.v369 arg6 acc f6) := carry_step (t := 32 * m + 26) (h6 26 13312 (by decide) (by decide) _) c26
  have r27 : IsRow p (32 * m + 27) (trip_k0_t1.sl.v376 arg6 acc f6) := row_step c27
  have c28 : IsK p (32 * m + 28) (trip_k0_t1.sl.v380 arg6 acc f6) := carry_step (t := 32 * m + 27) (h6 27 13824 (by decide) (by decide) _) c27
  have r28 : IsRow p (32 * m + 28) (trip_k0_t1.sl.v387 arg6 acc f6) := row_step c28
  have c29 : IsK p (32 * m + 29) (trip_k0_t1.sl.v391 arg6 acc f6) := carry_step (t := 32 * m + 28) (h6 28 14336 (by decide) (by decide) _) c28
  have r29 : IsRow p (32 * m + 29) (trip_k0_t1.sl.v398 arg6 acc f6) := row_step c29
  have c30 : IsK p (32 * m + 30) (trip_k0_t1.sl.v402 arg6 acc f6) := carry_step (t := 32 * m + 29) (h6 29 14848 (by decide) (by decide) _) c29
  have r30 : IsRow p (32 * m + 30) (trip_k0_t1.sl.v409 arg6 acc f6) := row_step c30
  have c31 : IsK p (32 * m + 31) (trip_k0_t1.sl.v413 arg6 acc f6) := carry_step (t := 32 * m + 30) (h6 30 15360 (by decide) (by decide) _) c30
  have r31 : IsRow p (32 * m + 31) (trip_k0_t1.sl.v420 arg6 acc f6) := row_step c31
  have c32 : IsK p (32 * m + 32) (trip_k0_t1.sl.v424 arg6 acc f6) := carry_step (t := 32 * m + 31) (h6 31 15872 (by decide) (by decide) _) c31
  refine ⟨c32, ?_⟩
  refine pack_step (p := p) (m := m) ![trip_k0_t1.sl.v61 acc, trip_k0_t1.sl.v72 arg6 acc f6, trip_k0_t1.sl.v83 arg6 acc f6, trip_k0_t1.sl.v94 arg6 acc f6, trip_k0_t1.sl.v105 arg6 acc f6, trip_k0_t1.sl.v116 arg6 acc f6, trip_k0_t1.sl.v127 arg6 acc f6, trip_k0_t1.sl.v138 arg6 acc f6, trip_k0_t1.sl.v149 arg6 acc f6, trip_k0_t1.sl.v160 arg6 acc f6, trip_k0_t1.sl.v171 arg6 acc f6, trip_k0_t1.sl.v182 arg6 acc f6, trip_k0_t1.sl.v193 arg6 acc f6, trip_k0_t1.sl.v204 arg6 acc f6, trip_k0_t1.sl.v215 arg6 acc f6, trip_k0_t1.sl.v226 arg6 acc f6, trip_k0_t1.sl.v255 arg6 acc f6, trip_k0_t1.sl.v266 arg6 acc f6, trip_k0_t1.sl.v277 arg6 acc f6, trip_k0_t1.sl.v288 arg6 acc f6, trip_k0_t1.sl.v299 arg6 acc f6, trip_k0_t1.sl.v310 arg6 acc f6, trip_k0_t1.sl.v321 arg6 acc f6, trip_k0_t1.sl.v332 arg6 acc f6, trip_k0_t1.sl.v343 arg6 acc f6, trip_k0_t1.sl.v354 arg6 acc f6, trip_k0_t1.sl.v365 arg6 acc f6, trip_k0_t1.sl.v376 arg6 acc f6, trip_k0_t1.sl.v387 arg6 acc f6, trip_k0_t1.sl.v398 arg6 acc f6, trip_k0_t1.sl.v409 arg6 acc f6, trip_k0_t1.sl.v420 arg6 acc f6] _ _ ?_
  intro n
  fin_cases n
  · exact r0
  · exact r1
  · exact r2
  · exact r3
  · exact r4
  · exact r5
  · exact r6
  · exact r7
  · exact r8
  · exact r9
  · exact r10
  · exact r11
  · exact r12
  · exact r13
  · exact r14
  · exact r15
  · exact r16
  · exact r17
  · exact r18
  · exact r19
  · exact r20
  · exact r21
  · exact r22
  · exact r23
  · exact r24
  · exact r25
  · exact r26
  · exact r27
  · exact r28
  · exact r29
  · exact r30
  · exact r31

/-- The odd chunk of a trip. -/
theorem forward_odd (arg0 : Memref sig .tc .vmem S64x16384 .f32) (arg6 arg7 : Memref sig .tc .vmem S16x16384 .f32)
    (v0 : Vec Ideal S100x1 .f32) (v4 : Vec Ideal S50x100 .f32) (v6 : Vec Ideal S16x50 .f32) (X : BufTy.Contents (Elt Ideal) arg0.view.ty)
    (k : Fin k0_t1_loop.trips) (acc : FVec Ideal S16x512 .f32) (f6 : BufTy.Contents (Elt Ideal) arg6.view.ty)
    (p : Priors) (m : ℕ)
    (h7 : ∀ n o : ℕ, n < 32 → o = 512 * n → ∀ inb, IsP p (32 * m + n)
      (arg7.view.readCov (trip_k0_t1.sl.HW_arg7_2 arg0 v0 v4 v6 X k) (Rect.unit (s := S16x16384) ![0, o] S16x512.size inb).toLoadRect))
    (c0 : IsK p (32 * m) (trip_k0_t1.sl.v424 arg6 acc f6)) :
    IsK p (32 * m + 32) (trip_k0_t1.sl.v820 arg0 arg6 arg7 v0 v4 v6 X k acc f6)
      ∧ IsPack p m (k0_pay346 k0_pay343 (trip_k0_t1.sl.v821 arg0 arg6 arg7 v0 v4 v6 X k acc f6)) := by
  have r0 : IsRow p (32 * m + 0) (trip_k0_t1.sl.v457 arg6 acc f6) := row_step c0
  have c1 : IsK p (32 * m + 1) (trip_k0_t1.sl.v461 arg0 arg6 arg7 v0 v4 v6 X k acc f6) := carry_step (t := 32 * m + 0) (h7 0 0 (by decide) (by decide) _) c0
  have r1 : IsRow p (32 * m + 1) (trip_k0_t1.sl.v468 arg0 arg6 arg7 v0 v4 v6 X k acc f6) := row_step c1
  have c2 : IsK p (32 * m + 2) (trip_k0_t1.sl.v472 arg0 arg6 arg7 v0 v4 v6 X k acc f6) := carry_step (t := 32 * m + 1) (h7 1 512 (by decide) (by decide) _) c1
  have r2 : IsRow p (32 * m + 2) (trip_k0_t1.sl.v479 arg0 arg6 arg7 v0 v4 v6 X k acc f6) := row_step c2
  have c3 : IsK p (32 * m + 3) (trip_k0_t1.sl.v483 arg0 arg6 arg7 v0 v4 v6 X k acc f6) := carry_step (t := 32 * m + 2) (h7 2 1024 (by decide) (by decide) _) c2
  have r3 : IsRow p (32 * m + 3) (trip_k0_t1.sl.v490 arg0 arg6 arg7 v0 v4 v6 X k acc f6) := row_step c3
  have c4 : IsK p (32 * m + 4) (trip_k0_t1.sl.v494 arg0 arg6 arg7 v0 v4 v6 X k acc f6) := carry_step (t := 32 * m + 3) (h7 3 1536 (by decide) (by decide) _) c3
  have r4 : IsRow p (32 * m + 4) (trip_k0_t1.sl.v501 arg0 arg6 arg7 v0 v4 v6 X k acc f6) := row_step c4
  have c5 : IsK p (32 * m + 5) (trip_k0_t1.sl.v505 arg0 arg6 arg7 v0 v4 v6 X k acc f6) := carry_step (t := 32 * m + 4) (h7 4 2048 (by decide) (by decide) _) c4
  have r5 : IsRow p (32 * m + 5) (trip_k0_t1.sl.v512 arg0 arg6 arg7 v0 v4 v6 X k acc f6) := row_step c5
  have c6 : IsK p (32 * m + 6) (trip_k0_t1.sl.v516 arg0 arg6 arg7 v0 v4 v6 X k acc f6) := carry_step (t := 32 * m + 5) (h7 5 2560 (by decide) (by decide) _) c5
  have r6 : IsRow p (32 * m + 6) (trip_k0_t1.sl.v523 arg0 arg6 arg7 v0 v4 v6 X k acc f6) := row_step c6
  have c7 : IsK p (32 * m + 7) (trip_k0_t1.sl.v527 arg0 arg6 arg7 v0 v4 v6 X k acc f6) := carry_step (t := 32 * m + 6) (h7 6 3072 (by decide) (by decide) _) c6
  have r7 : IsRow p (32 * m + 7) (trip_k0_t1.sl.v534 arg0 arg6 arg7 v0 v4 v6 X k acc f6) := row_step c7
  have c8 : IsK p (32 * m + 8) (trip_k0_t1.sl.v538 arg0 arg6 arg7 v0 v4 v6 X k acc f6) := carry_step (t := 32 * m + 7) (h7 7 3584 (by decide) (by decide) _) c7
  have r8 : IsRow p (32 * m + 8) (trip_k0_t1.sl.v545 arg0 arg6 arg7 v0 v4 v6 X k acc f6) := row_step c8
  have c9 : IsK p (32 * m + 9) (trip_k0_t1.sl.v549 arg0 arg6 arg7 v0 v4 v6 X k acc f6) := carry_step (t := 32 * m + 8) (h7 8 4096 (by decide) (by decide) _) c8
  have r9 : IsRow p (32 * m + 9) (trip_k0_t1.sl.v556 arg0 arg6 arg7 v0 v4 v6 X k acc f6) := row_step c9
  have c10 : IsK p (32 * m + 10) (trip_k0_t1.sl.v560 arg0 arg6 arg7 v0 v4 v6 X k acc f6) := carry_step (t := 32 * m + 9) (h7 9 4608 (by decide) (by decide) _) c9
  have r10 : IsRow p (32 * m + 10) (trip_k0_t1.sl.v567 arg0 arg6 arg7 v0 v4 v6 X k acc f6) := row_step c10
  have c11 : IsK p (32 * m + 11) (trip_k0_t1.sl.v571 arg0 arg6 arg7 v0 v4 v6 X k acc f6) := carry_step (t := 32 * m + 10) (h7 10 5120 (by decide) (by decide) _) c10
  have r11 : IsRow p (32 * m + 11) (trip_k0_t1.sl.v578 arg0 arg6 arg7 v0 v4 v6 X k acc f6) := row_step c11
  have c12 : IsK p (32 * m + 12) (trip_k0_t1.sl.v582 arg0 arg6 arg7 v0 v4 v6 X k acc f6) := carry_step (t := 32 * m + 11) (h7 11 5632 (by decide) (by decide) _) c11
  have r12 : IsRow p (32 * m + 12) (trip_k0_t1.sl.v589 arg0 arg6 arg7 v0 v4 v6 X k acc f6) := row_step c12
  have c13 : IsK p (32 * m + 13) (trip_k0_t1.sl.v593 arg0 arg6 arg7 v0 v4 v6 X k acc f6) := carry_step (t := 32 * m + 12) (h7 12 6144 (by decide) (by decide) _) c12
  have r13 : IsRow p (32 * m + 13) (trip_k0_t1.sl.v600 arg0 arg6 arg7 v0 v4 v6 X k acc f6) := row_step c13
  have c14 : IsK p (32 * m + 14) (trip_k0_t1.sl.v604 arg0 arg6 arg7 v0 v4 v6 X k acc f6) := carry_step (t := 32 * m + 13) (h7 13 6656 (by decide) (by decide) _) c13
  have r14 : IsRow p (32 * m + 14) (trip_k0_t1.sl.v611 arg0 arg6 arg7 v0 v4 v6 X k acc f6) := row_step c14
  have c15 : IsK p (32 * m + 15) (trip_k0_t1.sl.v615 arg0 arg6 arg7 v0 v4 v6 X k acc f6) := carry_step (t := 32 * m + 14) (h7 14 7168 (by decide) (by decide) _) c14
  have r15 : IsRow p (32 * m + 15) (trip_k0_t1.sl.v622 arg0 arg6 arg7 v0 v4 v6 X k acc f6) := row_step c15
  have c16 : IsK p (32 * m + 16) (trip_k0_t1.sl.v626 arg0 arg6 arg7 v0 v4 v6 X k acc f6) := carry_step (t := 32 * m + 15) (h7 15 7680 (by decide) (by decide) _) c15
  have r16 : IsRow p (32 * m + 16) (trip_k0_t1.sl.v651 arg0 arg6 arg7 v0 v4 v6 X k acc f6) := row_step c16
  have c17 : IsK p (32 * m + 17) (trip_k0_t1.sl.v655 arg0 arg6 arg7 v0 v4 v6 X k acc f6) := carry_step (t := 32 * m + 16) (h7 16 8192 (by decide) (by decide) _) c16
  have r17 : IsRow p (32 * m + 17) (trip_k0_t1.sl.v662 arg0 arg6 arg7 v0 v4 v6 X k acc f6) := row_step c17
  have c18 : IsK p (32 * m + 18) (trip_k0_t1.sl.v666 arg0 arg6 arg7 v0 v4 v6 X k acc f6) := carry_step (t := 32 * m + 17) (h7 17 8704 (by decide) (by decide) _) c17
  have r18 : IsRow p (32 * m + 18) (trip_k0_t1.sl.v673 arg0 arg6 arg7 v0 v4 v6 X k acc f6) := row_step c18
  have c19 : IsK p (32 * m + 19) (trip_k0_t1.sl.v677 arg0 arg6 arg7 v0 v4 v6 X k acc f6) := carry_step (t := 32 * m + 18) (h7 18 9216 (by decide) (by decide) _) c18
  have r19 : IsRow p (32 * m + 19) (trip_k0_t1.sl.v684 arg0 arg6 arg7 v0 v4 v6 X k acc f6) := row_step c19
  have c20 : IsK p (32 * m + 20) (trip_k0_t1.sl.v688 arg0 arg6 arg7 v0 v4 v6 X k acc f6) := carry_step (t := 32 * m + 19) (h7 19 9728 (by decide) (by decide) _) c19
  have r20 : IsRow p (32 * m + 20) (trip_k0_t1.sl.v695 arg0 arg6 arg7 v0 v4 v6 X k acc f6) := row_step c20
  have c21 : IsK p (32 * m + 21) (trip_k0_t1.sl.v699 arg0 arg6 arg7 v0 v4 v6 X k acc f6) := carry_step (t := 32 * m + 20) (h7 20 10240 (by decide) (by decide) _) c20
  have r21 : IsRow p (32 * m + 21) (trip_k0_t1.sl.v706 arg0 arg6 arg7 v0 v4 v6 X k acc f6) := row_step c21
  have c22 : IsK p (32 * m + 22) (trip_k0_t1.sl.v710 arg0 arg6 arg7 v0 v4 v6 X k acc f6) := carry_step (t := 32 * m + 21) (h7 21 10752 (by decide) (by decide) _) c21
  have r22 : IsRow p (32 * m + 22) (trip_k0_t1.sl.v717 arg0 arg6 arg7 v0 v4 v6 X k acc f6) := row_step c22
  have c23 : IsK p (32 * m + 23) (trip_k0_t1.sl.v721 arg0 arg6 arg7 v0 v4 v6 X k acc f6) := carry_step (t := 32 * m + 22) (h7 22 11264 (by decide) (by decide) _) c22
  have r23 : IsRow p (32 * m + 23) (trip_k0_t1.sl.v728 arg0 arg6 arg7 v0 v4 v6 X k acc f6) := row_step c23
  have c24 : IsK p (32 * m + 24) (trip_k0_t1.sl.v732 arg0 arg6 arg7 v0 v4 v6 X k acc f6) := carry_step (t := 32 * m + 23) (h7 23 11776 (by decide) (by decide) _) c23
  have r24 : IsRow p (32 * m + 24) (trip_k0_t1.sl.v739 arg0 arg6 arg7 v0 v4 v6 X k acc f6) := row_step c24
  have c25 : IsK p (32 * m + 25) (trip_k0_t1.sl.v743 arg0 arg6 arg7 v0 v4 v6 X k acc f6) := carry_step (t := 32 * m + 24) (h7 24 12288 (by decide) (by decide) _) c24
  have r25 : IsRow p (32 * m + 25) (trip_k0_t1.sl.v750 arg0 arg6 arg7 v0 v4 v6 X k acc f6) := row_step c25
  have c26 : IsK p (32 * m + 26) (trip_k0_t1.sl.v754 arg0 arg6 arg7 v0 v4 v6 X k acc f6) := carry_step (t := 32 * m + 25) (h7 25 12800 (by decide) (by decide) _) c25
  have r26 : IsRow p (32 * m + 26) (trip_k0_t1.sl.v761 arg0 arg6 arg7 v0 v4 v6 X k acc f6) := row_step c26
  have c27 : IsK p (32 * m + 27) (trip_k0_t1.sl.v765 arg0 arg6 arg7 v0 v4 v6 X k acc f6) := carry_step (t := 32 * m + 26) (h7 26 13312 (by decide) (by decide) _) c26
  have r27 : IsRow p (32 * m + 27) (trip_k0_t1.sl.v772 arg0 arg6 arg7 v0 v4 v6 X k acc f6) := row_step c27
  have c28 : IsK p (32 * m + 28) (trip_k0_t1.sl.v776 arg0 arg6 arg7 v0 v4 v6 X k acc f6) := carry_step (t := 32 * m + 27) (h7 27 13824 (by decide) (by decide) _) c27
  have r28 : IsRow p (32 * m + 28) (trip_k0_t1.sl.v783 arg0 arg6 arg7 v0 v4 v6 X k acc f6) := row_step c28
  have c29 : IsK p (32 * m + 29) (trip_k0_t1.sl.v787 arg0 arg6 arg7 v0 v4 v6 X k acc f6) := carry_step (t := 32 * m + 28) (h7 28 14336 (by decide) (by decide) _) c28
  have r29 : IsRow p (32 * m + 29) (trip_k0_t1.sl.v794 arg0 arg6 arg7 v0 v4 v6 X k acc f6) := row_step c29
  have c30 : IsK p (32 * m + 30) (trip_k0_t1.sl.v798 arg0 arg6 arg7 v0 v4 v6 X k acc f6) := carry_step (t := 32 * m + 29) (h7 29 14848 (by decide) (by decide) _) c29
  have r30 : IsRow p (32 * m + 30) (trip_k0_t1.sl.v805 arg0 arg6 arg7 v0 v4 v6 X k acc f6) := row_step c30
  have c31 : IsK p (32 * m + 31) (trip_k0_t1.sl.v809 arg0 arg6 arg7 v0 v4 v6 X k acc f6) := carry_step (t := 32 * m + 30) (h7 30 15360 (by decide) (by decide) _) c30
  have r31 : IsRow p (32 * m + 31) (trip_k0_t1.sl.v816 arg0 arg6 arg7 v0 v4 v6 X k acc f6) := row_step c31
  have c32 : IsK p (32 * m + 32) (trip_k0_t1.sl.v820 arg0 arg6 arg7 v0 v4 v6 X k acc f6) := carry_step (t := 32 * m + 31) (h7 31 15872 (by decide) (by decide) _) c31
  refine ⟨c32, ?_⟩
  refine pack_step (p := p) (m := m) ![trip_k0_t1.sl.v457 arg6 acc f6, trip_k0_t1.sl.v468 arg0 arg6 arg7 v0 v4 v6 X k acc f6, trip_k0_t1.sl.v479 arg0 arg6 arg7 v0 v4 v6 X k acc f6, trip_k0_t1.sl.v490 arg0 arg6 arg7 v0 v4 v6 X k acc f6, trip_k0_t1.sl.v501 arg0 arg6 arg7 v0 v4 v6 X k acc f6, trip_k0_t1.sl.v512 arg0 arg6 arg7 v0 v4 v6 X k acc f6, trip_k0_t1.sl.v523 arg0 arg6 arg7 v0 v4 v6 X k acc f6, trip_k0_t1.sl.v534 arg0 arg6 arg7 v0 v4 v6 X k acc f6, trip_k0_t1.sl.v545 arg0 arg6 arg7 v0 v4 v6 X k acc f6, trip_k0_t1.sl.v556 arg0 arg6 arg7 v0 v4 v6 X k acc f6, trip_k0_t1.sl.v567 arg0 arg6 arg7 v0 v4 v6 X k acc f6, trip_k0_t1.sl.v578 arg0 arg6 arg7 v0 v4 v6 X k acc f6, trip_k0_t1.sl.v589 arg0 arg6 arg7 v0 v4 v6 X k acc f6, trip_k0_t1.sl.v600 arg0 arg6 arg7 v0 v4 v6 X k acc f6, trip_k0_t1.sl.v611 arg0 arg6 arg7 v0 v4 v6 X k acc f6, trip_k0_t1.sl.v622 arg0 arg6 arg7 v0 v4 v6 X k acc f6, trip_k0_t1.sl.v651 arg0 arg6 arg7 v0 v4 v6 X k acc f6, trip_k0_t1.sl.v662 arg0 arg6 arg7 v0 v4 v6 X k acc f6, trip_k0_t1.sl.v673 arg0 arg6 arg7 v0 v4 v6 X k acc f6, trip_k0_t1.sl.v684 arg0 arg6 arg7 v0 v4 v6 X k acc f6, trip_k0_t1.sl.v695 arg0 arg6 arg7 v0 v4 v6 X k acc f6, trip_k0_t1.sl.v706 arg0 arg6 arg7 v0 v4 v6 X k acc f6, trip_k0_t1.sl.v717 arg0 arg6 arg7 v0 v4 v6 X k acc f6, trip_k0_t1.sl.v728 arg0 arg6 arg7 v0 v4 v6 X k acc f6, trip_k0_t1.sl.v739 arg0 arg6 arg7 v0 v4 v6 X k acc f6, trip_k0_t1.sl.v750 arg0 arg6 arg7 v0 v4 v6 X k acc f6, trip_k0_t1.sl.v761 arg0 arg6 arg7 v0 v4 v6 X k acc f6, trip_k0_t1.sl.v772 arg0 arg6 arg7 v0 v4 v6 X k acc f6, trip_k0_t1.sl.v783 arg0 arg6 arg7 v0 v4 v6 X k acc f6, trip_k0_t1.sl.v794 arg0 arg6 arg7 v0 v4 v6 X k acc f6, trip_k0_t1.sl.v805 arg0 arg6 arg7 v0 v4 v6 X k acc f6, trip_k0_t1.sl.v816 arg0 arg6 arg7 v0 v4 v6 X k acc f6] _ _ ?_
  intro n
  fin_cases n
  · exact r0
  · exact r1
  · exact r2
  · exact r3
  · exact r4
  · exact r5
  · exact r6
  · exact r7
  · exact r8
  · exact r9
  · exact r10
  · exact r11
  · exact r12
  · exact r13
  · exact r14
  · exact r15
  · exact r16
  · exact r17
  · exact r18
  · exact r19
  · exact r20
  · exact r21
  · exact r22
  · exact r23
  · exact r24
  · exact r25
  · exact r26
  · exact r27
  · exact r28
  · exact r29
  · exact r30
  · exact r31

end Cert.KernelIdeal.Hand
-- ==== Proof.PI.Backward.lean ====
/- One trip of the walk back: thirty-two steps through a chunk's packed decisions, from its last time step to its
   first, and the block of bits they leave. -/
module

public import proofs.«01_k».proof.Proof.PI.Step

@[expose] public section

noncomputable section

namespace Cert.KernelIdeal.Hand

open Cert.KernelIdeal Cert.KernelIdeal.Gen
open Idealize.ShloMosaic Idealize.ShloMosaic.TcCoe Idealize.ShloMosaic.ValueIdx

/-- Thirty-two rows of bits stacked, as floats. -/
theorem stack_apply {p : Priors} {q : ℕ} (R : Fin 32 → IVec S1x512 32) (h) (hR : ∀ n : Fin 32, IsBit p (32 * q + (31 - n.val)) (R n))
    (r : Fin 32) (b : Fin 512) :
    k0_pay349 (F := Ideal) (concatenate S32x512 0 (List.ofFn fun n : Fin 32 => (⟨S1x512, R n⟩ : (s : Shape) × (s.Idx → BitVec 32))) h) (ix2 r b)
      = (((Viterbi.out p (32 * q + (31 - r.val)) b : ℕ) : ℝ) : EReal) := by
  have e : concatenate S32x512 0 (List.ofFn fun n : Fin 32 => (⟨S1x512, R n⟩ : (s : Shape) × (s.Idx → BitVec 32))) h (ix2 r b) = R r (ix2 0 b) :=
    concatenate_ofFn_apply (t := S32x512) (s₁ := S1x512) (0 : Fin 2) R h rfl 1 rfl (ix2 r b) r (Nat.div_one _) (ix2 0 b) (Nat.mod_one _).symm (fun a ha => by
      fin_cases a
      · exact absurd rfl ha
      · rfl)
  show ((((concatenate S32x512 0 (List.ofFn fun n : Fin 32 => (⟨S1x512, R n⟩ : (s : Shape) × (s.Idx → BitVec 32))) h (ix2 r b)).toInt : ℤ) : ℝ) : EReal) = _
  rw [e, hR r b]
  have hb := Viterbi.bit_le p (2047 - (32 * q + (31 - r.val))) (Viterbi.half (Viterbi.st p (32 * q + (31 - r.val)) b)) b
  show ((((BitVec.ofNat 32 (Viterbi.out p (32 * q + (31 - r.val)) b)).toInt : ℤ) : ℝ) : EReal) = _
  unfold Viterbi.out
  generalize Viterbi.bit p (2047 - (32 * q + (31 - r.val))) (Viterbi.half (Viterbi.st p (32 * q + (31 - r.val)) b)) b = x at hb ⊢
  interval_cases x
  · simp
  · simp

/-- A trip of the walk back. -/
theorem backward (arg5 : Memref sig .tc .vmem S64x16384 .f32) (X : BufTy.Contents (Elt Ideal) arg5.view.ty) (k : Fin k0_t2_loop.trips)
    (acc : IVec S1x512 32) (p : Priors) (q : ℕ)
    (hd : ∀ n o : ℕ, n < 32 → o + 512 * (n + 1) = 16384 → ∀ h inb, IsW p (2047 - (32 * q + n))
      (extractStridedSlice (s := S1x16384) S1x512 ![0, o] (View.readAt (Elt Ideal) arg5.view (Rect.unit (s := S64x16384) (k0_off7 k) S1x16384.size h).toLoadRect X) inb))
    (s0 : IsS p (32 * q) acc) :
    IsS p (32 * q + 32) (k0_pay348 (trip_k0_t2.sl.v350 arg5 X k acc) (trip_k0_t2.sl.v353 arg5 X k acc) trip_k0_t2.sl.v44)
      ∧ ∀ (r : Fin 32) (b : Fin 512), k0_pay349 (F := Ideal) (trip_k0_t2.sl.v357 arg5 X k acc) (ix2 r b) = (((Viterbi.out p (32 * q + (31 - r.val)) b : ℕ) : ℝ) : EReal) := by
  have b0 : IsBit p (32 * q + 0) (trip_k0_t2.sl.v43 arg5 X k acc) := bit_step (i := 32 * q + 0) (fun _ => rfl) (hd 0 15872 (by decide) (by decide) _ _) s0
  have s1 : IsS p (32 * q + 1) (trip_k0_t2.sl.v46 arg5 X k acc) := state_step (i := 32 * q + 0) (fun _ => rfl) (fun _ => rfl) b0 s0
  have b1 : IsBit p (32 * q + 1) (trip_k0_t2.sl.v53 arg5 X k acc) := bit_step (i := 32 * q + 1) (fun _ => rfl) (hd 1 15360 (by decide) (by decide) _ _) s1
  have s2 : IsS p (32 * q + 2) (trip_k0_t2.sl.v56 arg5 X k acc) := state_step (i := 32 * q + 1) (fun _ => rfl) (fun _ => rfl) b1 s1
  have b2 : IsBit p (32 * q + 2) (trip_k0_t2.sl.v63 arg5 X k acc) := bit_step (i := 32 * q + 2) (fun _ => rfl) (hd 2 14848 (by decide) (by decide) _ _) s2
  have s3 : IsS p (32 * q + 3) (trip_k0_t2.sl.v66 arg5 X k acc) := state_step (i := 32 * q + 2) (fun _ => rfl) (fun _ => rfl) b2 s2
  have b3 : IsBit p (32 * q + 3) (trip_k0_t2.sl.v73 arg5 X k acc) := bit_step (i := 32 * q + 3) (fun _ => rfl) (hd 3 14336 (by decide) (by decide) _ _) s3
  have s4 : IsS p (32 * q + 4) (trip_k0_t2.sl.v76 arg5 X k acc) := state_step (i := 32 * q + 3) (fun _ => rfl) (fun _ => rfl) b3 s3
  have b4 : IsBit p (32 * q + 4) (trip_k0_t2.sl.v83 arg5 X k acc) := bit_step (i := 32 * q + 4) (fun _ => rfl) (hd 4 13824 (by decide) (by decide) _ _) s4
  have s5 : IsS p (32 * q + 5) (trip_k0_t2.sl.v86 arg5 X k acc) := state_step (i := 32 * q + 4) (fun _ => rfl) (fun _ => rfl) b4 s4
  have b5 : IsBit p (32 * q + 5) (trip_k0_t2.sl.v93 arg5 X k acc) := bit_step (i := 32 * q + 5) (fun _ => rfl) (hd 5 13312 (by decide) (by decide) _ _) s5
  have s6 : IsS p (32 * q + 6) (trip_k0_t2.sl.v96 arg5 X k acc) := state_step (i := 32 * q + 5) (fun _ => rfl) (fun _ => rfl) b5 s5
  have b6 : IsBit p (32 * q + 6) (trip_k0_t2.sl.v103 arg5 X k acc) := bit_step (i := 32 * q + 6) (fun _ => rfl) (hd 6 12800 (by decide) (by decide) _ _) s6
  have s7 : IsS p (32 * q + 7) (trip_k0_t2.sl.v106 arg5 X k acc) := state_step (i := 32 * q + 6) (fun _ => rfl) (fun _ => rfl) b6 s6
  have b7 : IsBit p (32 * q + 7) (trip_k0_t2.sl.v113 arg5 X k acc) := bit_step (i := 32 * q + 7) (fun _ => rfl) (hd 7 12288 (by decide) (by decide) _ _) s7
  have s8 : IsS p (32 * q + 8) (trip_k0_t2.sl.v116 arg5 X k acc) := state_step (i := 32 * q + 7) (fun _ => rfl) (fun _ => rfl) b7 s7
  have b8 : IsBit p (32 * q + 8) (trip_k0_t2.sl.v123 arg5 X k acc) := bit_step (i := 32 * q + 8) (fun _ => rfl) (hd 8 11776 (by decide) (by decide) _ _) s8
  have s9 : IsS p (32 * q + 9) (trip_k0_t2.sl.v126 arg5 X k acc) := state_step (i := 32 * q + 8) (fun _ => rfl) (fun _ => rfl) b8 s8
  have b9 : IsBit p (32 * q + 9) (trip_k0_t2.sl.v133 arg5 X k acc) := bit_step (i := 32 * q + 9) (fun _ => rfl) (hd 9 11264 (by decide) (by decide) _ _) s9
  have s10 : IsS p (32 * q + 10) (trip_k0_t2.sl.v136 arg5 X k acc) := state_step (i := 32 * q + 9) (fun _ => rfl) (fun _ => rfl) b9 s9
  have b10 : IsBit p (32 * q + 10) (trip_k0_t2.sl.v143 arg5 X k acc) := bit_step (i := 32 * q + 10) (fun _ => rfl) (hd 10 10752 (by decide) (by decide) _ _) s10
  have s11 : IsS p (32 * q + 11) (trip_k0_t2.sl.v146 arg5 X k acc) := state_step (i := 32 * q + 10) (fun _ => rfl) (fun _ => rfl) b10 s10
  have b11 : IsBit p (32 * q + 11) (trip_k0_t2.sl.v153 arg5 X k acc) := bit_step (i := 32 * q + 11) (fun _ => rfl) (hd 11 10240 (by decide) (by decide) _ _) s11
  have s12 : IsS p (32 * q + 12) (trip_k0_t2.sl.v156 arg5 X k acc) := state_step (i := 32 * q + 11) (fun _ => rfl) (fun _ => rfl) b11 s11
  have b12 : IsBit p (32 * q + 12) (trip_k0_t2.sl.v163 arg5 X k acc) := bit_step (i := 32 * q + 12) (fun _ => rfl) (hd 12 9728 (by decide) (by decide) _ _) s12
  have s13 : IsS p (32 * q + 13) (trip_k0_t2.sl.v166 arg5 X k acc) := state_step (i := 32 * q + 12) (fun _ => rfl) (fun _ => rfl) b12 s12
  have b13 : IsBit p (32 * q + 13) (trip_k0_t2.sl.v173 arg5 X k acc) := bit_step (i := 32 * q + 13) (fun _ => rfl) (hd 13 9216 (by decide) (by decide) _ _) s13
  have s14 : IsS p (32 * q + 14) (trip_k0_t2.sl.v176 arg5 X k acc) := state_step (i := 32 * q + 13) (fun _ => rfl) (fun _ => rfl) b13 s13
  have b14 : IsBit p (32 * q + 14) (trip_k0_t2.sl.v183 arg5 X k acc) := bit_step (i := 32 * q + 14) (fun _ => rfl) (hd 14 8704 (by decide) (by decide) _ _) s14
  have s15 : IsS p (32 * q + 15) (trip_k0_t2.sl.v186 arg5 X k acc) := state_step (i := 32 * q + 14) (fun _ => rfl) (fun _ => rfl) b14 s14
  have b15 : IsBit p (32 * q + 15) (trip_k0_t2.sl.v193 arg5 X k acc) := bit_step (i := 32 * q + 15) (fun _ => rfl) (hd 15 8192 (by decide) (by decide) _ _) s15
  have s16 : IsS p (32 * q + 16) (trip_k0_t2.sl.v196 arg5 X k acc) := state_step (i := 32 * q + 15) (fun _ => rfl) (fun _ => rfl) b15 s15
  have b16 : IsBit p (32 * q + 16) (trip_k0_t2.sl.v203 arg5 X k acc) := bit_step (i := 32 * q + 16) (fun _ => rfl) (hd 16 7680 (by decide) (by decide) _ _) s16
  have s17 : IsS p (32 * q + 17) (trip_k0_t2.sl.v206 arg5 X k acc) := state_step (i := 32 * q + 16) (fun _ => rfl) (fun _ => rfl) b16 s16
  have b17 : IsBit p (32 * q + 17) (trip_k0_t2.sl.v213 arg5 X k acc) := bit_step (i := 32 * q + 17) (fun _ => rfl) (hd 17 7168 (by decide) (by decide) _ _) s17
  have s18 : IsS p (32 * q + 18) (trip_k0_t2.sl.v216 arg5 X k acc) := state_step (i := 32 * q + 17) (fun _ => rfl) (fun _ => rfl) b17 s17
  have b18 : IsBit p (32 * q + 18) (trip_k0_t2.sl.v223 arg5 X k acc) := bit_step (i := 32 * q + 18) (fun _ => rfl) (hd 18 6656 (by decide) (by decide) _ _) s18
  have s19 : IsS p (32 * q + 19) (trip_k0_t2.sl.v226 arg5 X k acc) := state_step (i := 32 * q + 18) (fun _ => rfl) (fun _ => rfl) b18 s18
  have b19 : IsBit p (32 * q + 19) (trip_k0_t2.sl.v233 arg5 X k acc) := bit_step (i := 32 * q + 19) (fun _ => rfl) (hd 19 6144 (by decide) (by decide) _ _) s19
  have s20 : IsS p (32 * q + 20) (trip_k0_t2.sl.v236 arg5 X k acc) := state_step (i := 32 * q + 19) (fun _ => rfl) (fun _ => rfl) b19 s19
  have b20 : IsBit p (32 * q + 20) (trip_k0_t2.sl.v243 arg5 X k acc) := bit_step (i := 32 * q + 20) (fun _ => rfl) (hd 20 5632 (by decide) (by decide) _ _) s20
  have s21 : IsS p (32 * q + 21) (trip_k0_t2.sl.v246 arg5 X k acc) := state_step (i := 32 * q + 20) (fun _ => rfl) (fun _ => rfl) b20 s20
  have b21 : IsBit p (32 * q + 21) (trip_k0_t2.sl.v253 arg5 X k acc) := bit_step (i := 32 * q + 21) (fun _ => rfl) (hd 21 5120 (by decide) (by decide) _ _) s21
  have s22 : IsS p (32 * q + 22) (trip_k0_t2.sl.v256 arg5 X k acc) := state_step (i := 32 * q + 21) (fun _ => rfl) (fun _ => rfl) b21 s21
  have b22 : IsBit p (32 * q + 22) (trip_k0_t2.sl.v263 arg5 X k acc) := bit_step (i := 32 * q + 22) (fun _ => rfl) (hd 22 4608 (by decide) (by decide) _ _) s22
  have s23 : IsS p (32 * q + 23) (trip_k0_t2.sl.v266 arg5 X k acc) := state_step (i := 32 * q + 22) (fun _ => rfl) (fun _ => rfl) b22 s22
  have b23 : IsBit p (32 * q + 23) (trip_k0_t2.sl.v273 arg5 X k acc) := bit_step (i := 32 * q + 23) (fun _ => rfl) (hd 23 4096 (by decide) (by decide) _ _) s23
  have s24 : IsS p (32 * q + 24) (trip_k0_t2.sl.v276 arg5 X k acc) := state_step (i := 32 * q + 23) (fun _ => rfl) (fun _ => rfl) b23 s23
  have b24 : IsBit p (32 * q + 24) (trip_k0_t2.sl.v283 arg5 X k acc) := bit_step (i := 32 * q + 24) (fun _ => rfl) (hd 24 3584 (by decide) (by decide) _ _) s24
  have s25 : IsS p (32 * q + 25) (trip_k0_t2.sl.v286 arg5 X k acc) := state_step (i := 32 * q + 24) (fun _ => rfl) (fun _ => rfl) b24 s24
  have b25 : IsBit p (32 * q + 25) (trip_k0_t2.sl.v293 arg5 X k acc) := bit_step (i := 32 * q + 25) (fun _ => rfl) (hd 25 3072 (by decide) (by decide) _ _) s25
  have s26 : IsS p (32 * q + 26) (trip_k0_t2.sl.v296 arg5 X k acc) := state_step (i := 32 * q + 25) (fun _ => rfl) (fun _ => rfl) b25 s25
  have b26 : IsBit p (32 * q + 26) (trip_k0_t2.sl.v303 arg5 X k acc) := bit_step (i := 32 * q + 26) (fun _ => rfl) (hd 26 2560 (by decide) (by decide) _ _) s26
  have s27 : IsS p (32 * q + 27) (trip_k0_t2.sl.v306 arg5 X k acc) := state_step (i := 32 * q + 26) (fun _ => rfl) (fun _ => rfl) b26 s26
  have b27 : IsBit p (32 * q + 27) (trip_k0_t2.sl.v313 arg5 X k acc) := bit_step (i := 32 * q + 27) (fun _ => rfl) (hd 27 2048 (by decide) (by decide) _ _) s27
  have s28 : IsS p (32 * q + 28) (trip_k0_t2.sl.v316 arg5 X k acc) := state_step (i := 32 * q + 27) (fun _ => rfl) (fun _ => rfl) b27 s27
  have b28 : IsBit p (32 * q + 28) (trip_k0_t2.sl.v323 arg5 X k acc) := bit_step (i := 32 * q + 28) (fun _ => rfl) (hd 28 1536 (by decide) (by decide) _ _) s28
  have s29 : IsS p (32 * q + 29) (trip_k0_t2.sl.v326 arg5 X k acc) := state_step (i := 32 * q + 28) (fun _ => rfl) (fun _ => rfl) b28 s28
  have b29 : IsBit p (32 * q + 29) (trip_k0_t2.sl.v333 arg5 X k acc) := bit_step (i := 32 * q + 29) (fun _ => rfl) (hd 29 1024 (by decide) (by decide) _ _) s29
  have s30 : IsS p (32 * q + 30) (trip_k0_t2.sl.v336 arg5 X k acc) := state_step (i := 32 * q + 29) (fun _ => rfl) (fun _ => rfl) b29 s29
  have b30 : IsBit p (32 * q + 30) (trip_k0_t2.sl.v343 arg5 X k acc) := bit_step (i := 32 * q + 30) (fun _ => rfl) (hd 30 512 (by decide) (by decide) _ _) s30
  have s31 : IsS p (32 * q + 31) (trip_k0_t2.sl.v346 arg5 X k acc) := state_step (i := 32 * q + 30) (fun _ => rfl) (fun _ => rfl) b30 s30
  have b31 : IsBit p (32 * q + 31) (trip_k0_t2.sl.v353 arg5 X k acc) := bit_step (i := 32 * q + 31) (fun _ => rfl) (hd 31 0 (by decide) (by decide) _ _) s31
  have s32 : IsS p (32 * q + 32) (k0_pay348 (trip_k0_t2.sl.v350 arg5 X k acc) (trip_k0_t2.sl.v353 arg5 X k acc) trip_k0_t2.sl.v44) := state_step (i := 32 * q + 31) (fun _ => rfl) (fun _ => rfl) b31 s31
  refine ⟨s32, ?_⟩
  refine stack_apply (p := p) (q := q) ![trip_k0_t2.sl.v353 arg5 X k acc, trip_k0_t2.sl.v343 arg5 X k acc, trip_k0_t2.sl.v333 arg5 X k acc, trip_k0_t2.sl.v323 arg5 X k acc, trip_k0_t2.sl.v313 arg5 X k acc, trip_k0_t2.sl.v303 arg5 X k acc, trip_k0_t2.sl.v293 arg5 X k acc, trip_k0_t2.sl.v283 arg5 X k acc, trip_k0_t2.sl.v273 arg5 X k acc, trip_k0_t2.sl.v263 arg5 X k acc, trip_k0_t2.sl.v253 arg5 X k acc, trip_k0_t2.sl.v243 arg5 X k acc, trip_k0_t2.sl.v233 arg5 X k acc, trip_k0_t2.sl.v223 arg5 X k acc, trip_k0_t2.sl.v213 arg5 X k acc, trip_k0_t2.sl.v203 arg5 X k acc, trip_k0_t2.sl.v193 arg5 X k acc, trip_k0_t2.sl.v183 arg5 X k acc, trip_k0_t2.sl.v173 arg5 X k acc, trip_k0_t2.sl.v163 arg5 X k acc, trip_k0_t2.sl.v153 arg5 X k acc, trip_k0_t2.sl.v143 arg5 X k acc, trip_k0_t2.sl.v133 arg5 X k acc, trip_k0_t2.sl.v123 arg5 X k acc, trip_k0_t2.sl.v113 arg5 X k acc, trip_k0_t2.sl.v103 arg5 X k acc, trip_k0_t2.sl.v93 arg5 X k acc, trip_k0_t2.sl.v83 arg5 X k acc, trip_k0_t2.sl.v73 arg5 X k acc, trip_k0_t2.sl.v63 arg5 X k acc, trip_k0_t2.sl.v53 arg5 X k acc, trip_k0_t2.sl.v43 arg5 X k acc] _ ?_
  intro n
  fin_cases n
  · exact b31
  · exact b30
  · exact b29
  · exact b28
  · exact b27
  · exact b26
  · exact b25
  · exact b24
  · exact b23
  · exact b22
  · exact b21
  · exact b20
  · exact b19
  · exact b18
  · exact b17
  · exact b16
  · exact b15
  · exact b14
  · exact b13
  · exact b12
  · exact b11
  · exact b10
  · exact b9
  · exact b8
  · exact b7
  · exact b6
  · exact b5
  · exact b4
  · exact b3
  · exact b2
  · exact b1
  · exact b0

end Cert.KernelIdeal.Hand
-- ==== Proof.PI.Offsets.lean ====
/- The offsets the two loops compute, in closed form. -/
module

public import proofs.«01_k».proof.Proof.PI.Step

@[expose] public section

namespace Cert.KernelIdeal.Hand

open Cert.KernelIdeal Cert.KernelIdeal.Gen
open Idealize.ShloMosaic

theorem trips1 : k0_t1_loop.trips = 32 := by decide
theorem trips2 : k0_t2_loop.trips = 64 := by decide

theorem off1 (k : Fin k0_t1_loop.trips) : k0_off1 k = ![2 * k.val + 1, 0] := by revert k; decide
theorem off2 (k : Fin k0_t1_loop.trips) : k0_off2 k = ![2 * k.val + 1, 8192] := by revert k; decide
theorem off3 (k : Fin k0_t1_loop.trips) : k0_off3 k = ![2 * k.val, 0] := by revert k; decide
theorem off4 (k : Fin k0_t1_loop.trips) : k0_off4 k = ![min (2 * k.val + 2) 63, 0] := by revert k; decide
theorem off5 (k : Fin k0_t1_loop.trips) : k0_off5 k = ![min (2 * k.val + 2) 63, 8192] := by revert k; decide
theorem off6 (k : Fin k0_t1_loop.trips) : k0_off6 k = ![2 * k.val + 1, 0] := by revert k; decide
theorem off7 (k : Fin k0_t2_loop.trips) : k0_off7 k = ![63 - k.val, 0] := by revert k; decide
theorem off8 (k : Fin k0_t2_loop.trips) : k0_off8 k = ![(63 - k.val) * 32, 0] := by revert k; decide

end Cert.KernelIdeal.Hand
-- ==== Proof.PI.Loop.lean ====
/- The two loops: what holds before each trip, by induction over the trips. -/
module

public import proofs.«01_k».proof.Proof.PI.Forward
public import proofs.«01_k».proof.Proof.PI.Backward
public import proofs.«01_k».proof.Proof.PI.Offsets
public import Idealize.ShloMosaic.Lib.WritesUnit

@[expose] public section

noncomputable section

namespace Cert.KernelIdeal.Hand

open Cert.KernelIdeal Cert.KernelIdeal.Gen
open Idealize.ShloMosaic Idealize.ShloMosaic.TcCoe Idealize.ShloMosaic.ValueIdx

/-- The samples by chunk and column. -/
def samples (arg0 : Memref sig .tc .vmem S64x16384 .f32) (X : BufTy.Contents (Elt Ideal) arg0.view.ty) : ℕ → ℕ → EReal := fun m c =>
  if h : m < 64 ∧ c < 16384 then arg0.view.read (Elt Ideal) X (ix2 ⟨m, h.1⟩ ⟨c, h.2⟩) else 0

/-- A load of part of one chunk reads its samples. -/
theorem read_chunk (arg0 : Memref sig .tc .vmem S64x16384 .f32) (X : BufTy.Contents (Elt Ideal) arg0.view.ty) (W : ℕ) (off : Fin 2 → ℕ) (h)
    (m o : ℕ) (ho : off = ![m, o]) (c : Fin W) :
    View.readAt (Elt Ideal) arg0.view (Rect.unit (s := S64x16384) off ![1, W] h).toLoadRect X (ix2 0 c) = samples arg0 X m (o + c.val) := by
  subst ho
  have h0 : m + 1 ≤ 64 := h 0
  have h1 : o + W ≤ 16384 := h 1
  unfold samples
  rw [dif_pos ⟨by omega, by omega⟩, View.readAt_apply]
  congr 1
  funext a
  fin_cases a
  · exact Fin.ext (show m + 1 * 0 = m by omega)
  · exact Fin.ext (show o + 1 * c.val = o + c.val by omega)

/-- A load of sixteen rows and 512 columns of a chunk's priors holds the priors of one time step. -/
theorem isP_of_read (v : View sig .tc .vmem S16x16384 .f32) (f : v.ty.Contents (Elt Ideal)) (g : EReal → Fin 16 → EReal) (Y : ℕ → ℕ → EReal) (m : ℕ)
    (H : ∀ (s : Fin 16) (c : Fin 16384), v.read (Elt Ideal) f (ix2 s c) = g (Y m c.val) s) (n o : ℕ) (hn : n < 32) (ho : o = 512 * n) (inb) :
    IsP (chunkPriors g Y) (32 * m + n) (View.readAt (Elt Ideal) v (Rect.unit (s := S16x16384) ![0, o] S16x512.size inb).toLoadRect f) := by
  intro s b
  rw [chunkPriors_at _ _ _ _ hn, View.readAt_apply, ← ho, ← H s ⟨o + b.val, by omega⟩]
  congr 1
  funext a
  fin_cases a
  · exact Fin.ext (show 0 + 1 * s.val = s.val by omega)
  · exact Fin.ext (show o + 1 * b.val = o + b.val by omega)

/-- Two stores, one of each half of the columns, read back. -/
theorem read_halves (v : View sig .tc .vmem S16x16384 .f32) (f : v.ty.Contents (Elt Ideal)) (L : List (View.Piece (Elt Ideal) S16x16384 .f32))
    (wA wB : S16x8192.Idx → Elt Ideal .f32) (hA hB) (g : EReal → Fin 16 → EReal) (Y : ℕ → EReal)
    (HA : ∀ (s : Fin 16) (c : Fin 8192), wA (ix2 s c) = g (Y c.val) s) (HB : ∀ (s : Fin 16) (c : Fin 8192), wB (ix2 s c) = g (Y (8192 + c.val)) s)
    (s : Fin 16) (c : Fin 16384) :
    v.read (Elt Ideal) (v.writes (Elt Ideal) f ((⟨Rect.unit (s := S16x16384) ![0, 8192] S16x8192.size hB, wB⟩ : View.Piece (Elt Ideal) S16x16384 .f32)
      :: (⟨Rect.unit (s := S16x16384) ![0, 0] S16x8192.size hA, wA⟩ : View.Piece (Elt Ideal) S16x16384 .f32) :: L)) (ix2 s c) = g (Y c.val) s := by
  by_cases hc : c.val < 8192
  · rw [View.read_writes_cons_unit_of_not_mem v f hB wB _ (ix2 s c) rfl (1 : Fin 2) (Or.inl hc)]
    rw [View.read_writes_cons_unit_of_mem v f hA wA L (ix2 s c) (ix2 s (⟨c.val, hc⟩ : Fin 8192)) rfl (fun a => by
      fin_cases a
      · exact (Nat.zero_add _).symm
      · exact (Nat.zero_add _).symm)]
    exact HA _ _
  · have hc' : c.val - 8192 < 8192 := by omega
    rw [View.read_writes_cons_unit_of_mem v f hB wB _ (ix2 s c) (ix2 s (⟨c.val - 8192, hc'⟩ : Fin 8192)) rfl (fun a => by
      fin_cases a
      · exact (Nat.zero_add _).symm
      · exact (show c.val = 8192 + (c.val - 8192) by omega))]
    rw [HB]
    exact congrArg (fun x => g (Y x) s) (show 8192 + (c.val - 8192) = c.val by omega)

/-- Every row of packed decisions before chunk `M` is in place. -/
def RowsTo (v : View sig .tc .vmem S64x16384 .f32) (f : v.ty.Contents (Elt Ideal)) (p : Priors) (M : ℕ) : Prop :=
  ∀ (m : Fin 64) (c : Fin 16384), m.val < M → v.read (Elt Ideal) f (ix2 m c)
    = (((Viterbi.word p (32 * m.val + c.val / 512) ⟨c.val % 512, by omega⟩ : ℕ) : ℝ) : EReal)

/-- Storing the next row keeps the earlier ones. -/
theorem rowsTo_store (v : View sig .tc .vmem S64x16384 .f32) (f : v.ty.Contents (Elt Ideal)) (L : List (View.Piece (Elt Ideal) S64x16384 .f32))
    (p : Priors) (M : ℕ) (off : Fin 2 → ℕ) (ho : off = ![M, 0]) (h) (w : S1x16384.Idx → Elt Ideal .f32) (hw : IsPack p M w)
    (H : RowsTo v (v.writes (Elt Ideal) f L) p M) :
    RowsTo v (v.writes (Elt Ideal) f ((⟨Rect.unit (s := S64x16384) off ![1, 16384] h, w⟩ : View.Piece (Elt Ideal) S64x16384 .f32) :: L)) p (M + 1) := by
  intro m c hm
  by_cases e : m.val = M
  · rw [View.read_writes_cons_unit_of_mem v f h w L (ix2 m c) (ix2 (0 : Fin 1) c) ho (fun a => by
      fin_cases a
      · exact e
      · exact (Nat.zero_add _).symm)]
    rw [e]
    exact hw c
  · rw [View.read_writes_cons_unit_of_not_mem v f h w L (ix2 m c) ho (0 : Fin 2) (Or.inl (show m.val < M by omega))]
    exact H m c (by omega)

/-- What a forward trip carries on, -/
theorem tripR1 (𝒱 : Variants) (dv : Dev nD) (bd : Option 𝒱.V) (arg0 : Memref sig .tc .vmem S64x16384 .f32) (harg0 : arg0.IsWhole) (arg1 : Memref sig .tc .vmem S100x1 .f32) (harg1 : arg1.IsWhole) (arg2 : Memref sig .tc .vmem S50x100 .f32) (harg2 : arg2.IsWhole) (arg3 : Memref sig .tc .vmem S16x50 .f32) (harg3 : arg3.IsWhole) (arg4 : Memref sig .tc .vmem S2048x512 .f32) (harg4 : arg4.IsWhole) (arg5 : Memref sig .tc .vmem S64x16384 .f32) (harg5 : arg5.IsWhole) (arg6 : Memref sig .tc .vmem S16x16384 .f32) (harg6 : arg6.IsWhole) (arg7 : Memref sig .tc .vmem S16x16384 .f32) (harg7 : arg7.IsWhole) (v0 : Vec Ideal S100x1 .f32) (v4 : Vec Ideal S50x100 .f32) (v6 : Vec Ideal S16x50 .f32) (X : BufTy.Contents (Elt Ideal) arg0.view.ty)
    (k : Fin k0_t1_loop.trips) (acc : FVec Ideal S16x512 .f32) (f5 : BufTy.Contents (Elt Ideal) arg5.view.ty) (f6 : BufTy.Contents (Elt Ideal) arg6.view.ty)
    (f7 : BufTy.Contents (Elt Ideal) arg7.view.ty) :
    tripR_k0_t1 (F := Ideal) 𝒱 dv bd arg0 harg0 arg1 harg1 arg2 harg2 arg3 harg3 arg4 harg4 arg5 harg5 arg6 harg6 arg7 harg7 v0 v4 v6 k0_pay343 X k acc f5 f6 f7 = trip_k0_t1.sl.v820 arg0 arg6 arg7 v0 v4 v6 X k acc f6 := by
  unfold tripR_k0_t1 trip_k0_t1
  rfl

/-- its packed rows, -/
theorem tripL1a (𝒱 : Variants) (dv : Dev nD) (bd : Option 𝒱.V) (arg0 : Memref sig .tc .vmem S64x16384 .f32) (harg0 : arg0.IsWhole) (arg1 : Memref sig .tc .vmem S100x1 .f32) (harg1 : arg1.IsWhole) (arg2 : Memref sig .tc .vmem S50x100 .f32) (harg2 : arg2.IsWhole) (arg3 : Memref sig .tc .vmem S16x50 .f32) (harg3 : arg3.IsWhole) (arg4 : Memref sig .tc .vmem S2048x512 .f32) (harg4 : arg4.IsWhole) (arg5 : Memref sig .tc .vmem S64x16384 .f32) (harg5 : arg5.IsWhole) (arg6 : Memref sig .tc .vmem S16x16384 .f32) (harg6 : arg6.IsWhole) (arg7 : Memref sig .tc .vmem S16x16384 .f32) (harg7 : arg7.IsWhole) (v0 : Vec Ideal S100x1 .f32) (v4 : Vec Ideal S50x100 .f32) (v6 : Vec Ideal S16x50 .f32) (X : BufTy.Contents (Elt Ideal) arg0.view.ty)
    (k : Fin k0_t1_loop.trips) (acc : FVec Ideal S16x512 .f32) (f5 : BufTy.Contents (Elt Ideal) arg5.view.ty) (f6 : BufTy.Contents (Elt Ideal) arg6.view.ty)
    (f7 : BufTy.Contents (Elt Ideal) arg7.view.ty) :
    ∃ h h', (tripL_k0_t1 (F := Ideal) 𝒱 dv bd arg0 harg0 arg1 harg1 arg2 harg2 arg3 harg3 arg4 harg4 arg5 harg5 arg6 harg6 arg7 harg7 v0 v4 v6 k0_pay343 X k acc f5 f6 f7).1 =
      [⟨Rect.unit (s := S64x16384) (k0_off6 k) ![1, 16384] h, k0_pay346 k0_pay343 (trip_k0_t1.sl.v821 arg0 arg6 arg7 v0 v4 v6 X k acc f6)⟩,
       ⟨Rect.unit (s := S64x16384) (k0_off3 k) ![1, 16384] h', trip_k0_t1.sl.v430 arg6 k0_pay343 acc f6⟩] := by
  unfold tripL_k0_t1 trip_k0_t1
  exact ⟨_, _, rfl⟩

/-- and the priors it stores for the next trip. -/
theorem tripL1b (𝒱 : Variants) (dv : Dev nD) (bd : Option 𝒱.V) (arg0 : Memref sig .tc .vmem S64x16384 .f32) (harg0 : arg0.IsWhole) (arg1 : Memref sig .tc .vmem S100x1 .f32) (harg1 : arg1.IsWhole) (arg2 : Memref sig .tc .vmem S50x100 .f32) (harg2 : arg2.IsWhole) (arg3 : Memref sig .tc .vmem S16x50 .f32) (harg3 : arg3.IsWhole) (arg4 : Memref sig .tc .vmem S2048x512 .f32) (harg4 : arg4.IsWhole) (arg5 : Memref sig .tc .vmem S64x16384 .f32) (harg5 : arg5.IsWhole) (arg6 : Memref sig .tc .vmem S16x16384 .f32) (harg6 : arg6.IsWhole) (arg7 : Memref sig .tc .vmem S16x16384 .f32) (harg7 : arg7.IsWhole) (v0 : Vec Ideal S100x1 .f32) (v4 : Vec Ideal S50x100 .f32) (v6 : Vec Ideal S16x50 .f32) (X : BufTy.Contents (Elt Ideal) arg0.view.ty)
    (k : Fin k0_t1_loop.trips) (acc : FVec Ideal S16x512 .f32) (f5 : BufTy.Contents (Elt Ideal) arg5.view.ty) (f6 : BufTy.Contents (Elt Ideal) arg6.view.ty)
    (f7 : BufTy.Contents (Elt Ideal) arg7.view.ty) :
    ∃ h h', (tripL_k0_t1 (F := Ideal) 𝒱 dv bd arg0 harg0 arg1 harg1 arg2 harg2 arg3 harg3 arg4 harg4 arg5 harg5 arg6 harg6 arg7 harg7 v0 v4 v6 k0_pay343 X k acc f5 f6 f7).2.1 =
      [⟨Rect.unit (s := S16x16384) ![0, 8192] ![16, 8192] h, trip_k0_t1.sl.v644 arg0 v0 v4 v6 X k⟩,
       ⟨Rect.unit (s := S16x16384) ![0, 0] ![16, 8192] h', trip_k0_t1.sl.v450 arg0 v0 v4 v6 X k⟩] := by
  unfold tripL_k0_t1 trip_k0_t1
  exact ⟨_, _, rfl⟩

/-- What a trip of the walk back carries on, -/
theorem tripR2 (𝒱 : Variants) (dv : Dev nD) (bd : Option 𝒱.V) (arg0 : Memref sig .tc .vmem S64x16384 .f32) (harg0 : arg0.IsWhole) (arg1 : Memref sig .tc .vmem S100x1 .f32) (harg1 : arg1.IsWhole) (arg2 : Memref sig .tc .vmem S50x100 .f32) (harg2 : arg2.IsWhole) (arg3 : Memref sig .tc .vmem S16x50 .f32) (harg3 : arg3.IsWhole) (arg4 : Memref sig .tc .vmem S2048x512 .f32) (harg4 : arg4.IsWhole) (arg5 : Memref sig .tc .vmem S64x16384 .f32) (harg5 : arg5.IsWhole) (arg6 : Memref sig .tc .vmem S16x16384 .f32) (harg6 : arg6.IsWhole) (arg7 : Memref sig .tc .vmem S16x16384 .f32) (harg7 : arg7.IsWhole) (X : BufTy.Contents (Elt Ideal) arg5.view.ty) (k : Fin k0_t2_loop.trips) (acc : IVec S1x512 32) :
    tripR_k0_t2 (F := Ideal) 𝒱 dv bd arg0 harg0 arg1 harg1 arg2 harg2 arg3 harg3 arg4 harg4 arg5 harg5 arg6 harg6 arg7 harg7 X k acc = k0_pay348 (trip_k0_t2.sl.v350 arg5 X k acc) (trip_k0_t2.sl.v353 arg5 X k acc) trip_k0_t2.sl.v44 := by
  unfold tripR_k0_t2 trip_k0_t2
  rfl

/-- and the rows it stores. -/
theorem tripL2 (𝒱 : Variants) (dv : Dev nD) (bd : Option 𝒱.V) (arg0 : Memref sig .tc .vmem S64x16384 .f32) (harg0 : arg0.IsWhole) (arg1 : Memref sig .tc .vmem S100x1 .f32) (harg1 : arg1.IsWhole) (arg2 : Memref sig .tc .vmem S50x100 .f32) (harg2 : arg2.IsWhole) (arg3 : Memref sig .tc .vmem S16x50 .f32) (harg3 : arg3.IsWhole) (arg4 : Memref sig .tc .vmem S2048x512 .f32) (harg4 : arg4.IsWhole) (arg5 : Memref sig .tc .vmem S64x16384 .f32) (harg5 : arg5.IsWhole) (arg6 : Memref sig .tc .vmem S16x16384 .f32) (harg6 : arg6.IsWhole) (arg7 : Memref sig .tc .vmem S16x16384 .f32) (harg7 : arg7.IsWhole) (X : BufTy.Contents (Elt Ideal) arg5.view.ty) (k : Fin k0_t2_loop.trips) (acc : IVec S1x512 32) :
    ∃ h, tripL_k0_t2 (F := Ideal) 𝒱 dv bd arg0 harg0 arg1 harg1 arg2 harg2 arg3 harg3 arg4 harg4 arg5 harg5 arg6 harg6 arg7 harg7 X k acc = [⟨Rect.unit (s := S2048x512) (k0_off8 k) ![32, 512] h, k0_pay349 (F := Ideal) (trip_k0_t2.sl.v357 arg5 X k acc)⟩] := by
  unfold tripL_k0_t2 trip_k0_t2
  exact ⟨_, rfl⟩

/-- The forward loop: before trip `n` the carried value is the costs at time `64 n`, the priors of chunk `2 n` are in place
    (of the last chunk past the end), and so are the packed decisions of all earlier chunks. -/
theorem forward_inv (𝒱 : Variants) (dv : Dev nD) (bd : Option 𝒱.V) (arg0 : Memref sig .tc .vmem S64x16384 .f32) (harg0 : arg0.IsWhole) (arg1 : Memref sig .tc .vmem S100x1 .f32) (harg1 : arg1.IsWhole) (arg2 : Memref sig .tc .vmem S50x100 .f32) (harg2 : arg2.IsWhole) (arg3 : Memref sig .tc .vmem S16x50 .f32) (harg3 : arg3.IsWhole) (arg4 : Memref sig .tc .vmem S2048x512 .f32) (harg4 : arg4.IsWhole) (arg5 : Memref sig .tc .vmem S64x16384 .f32) (harg5 : arg5.IsWhole) (arg6 : Memref sig .tc .vmem S16x16384 .f32) (harg6 : arg6.IsWhole) (arg7 : Memref sig .tc .vmem S16x16384 .f32) (harg7 : arg7.IsWhole)
    (v0 : Vec Ideal S100x1 .f32) (v4 : Vec Ideal S50x100 .f32) (v6 : Vec Ideal S16x50 .f32) (X : BufTy.Contents (Elt Ideal) arg0.view.ty)
    (G5 : BufTy.Contents (Elt Ideal) arg5.view.ty) (G6 : BufTy.Contents (Elt Ideal) arg6.view.ty) (G7 : BufTy.Contents (Elt Ideal) arg7.view.ty)
    (init : FVec Ideal S16x512 .f32)
    (hG6 : ∀ (s : Fin 16) (c : Fin 16384), arg6.view.read (Elt Ideal) G6 (ix2 s c) = kprior v0 v4 v6 (samples arg0 X 0 c.val) s)
    (hinit : IsK (chunkPriors (kprior v0 v4 v6) (samples arg0 X)) 0 init) (n : ℕ) (hn : n ≤ 32) :
    IsK (chunkPriors (kprior v0 v4 v6) (samples arg0 X)) (64 * n) (st_k0_t1 (F := Ideal) 𝒱 dv bd arg0 harg0 arg1 harg1 arg2 harg2 arg3 harg3 arg4 harg4 arg5 harg5 arg6 harg6 arg7 harg7 v0 v4 v6 k0_pay343 X G5 G6 G7 init n).1
      ∧ (∀ (s : Fin 16) (c : Fin 16384), arg6.view.read (Elt Ideal) (arg6.view.writes (Elt Ideal) G6 (st_k0_t1 (F := Ideal) 𝒱 dv bd arg0 harg0 arg1 harg1 arg2 harg2 arg3 harg3 arg4 harg4 arg5 harg5 arg6 harg6 arg7 harg7 v0 v4 v6 k0_pay343 X G5 G6 G7 init n).2.2.1) (ix2 s c)
          = kprior v0 v4 v6 (samples arg0 X (min (2 * n) 63) c.val) s)
      ∧ RowsTo arg5.view (arg5.view.writes (Elt Ideal) G5 (st_k0_t1 (F := Ideal) 𝒱 dv bd arg0 harg0 arg1 harg1 arg2 harg2 arg3 harg3 arg4 harg4 arg5 harg5 arg6 harg6 arg7 harg7 v0 v4 v6 k0_pay343 X G5 G6 G7 init n).2.1) (chunkPriors (kprior v0 v4 v6) (samples arg0 X)) (2 * n) := by
  induction n with
  | zero => exact ⟨hinit, hG6, fun m c hm => absurd hm (Nat.not_lt_zero _)⟩
  | succ n ih =>
    obtain ⟨i1, i2, i3⟩ := ih (by omega)
    have hk : n < k0_t1_loop.trips := by rw [trips1]; omega
    have hs := st_k0_t1_succ (F := Ideal) 𝒱 dv bd arg0 harg0 arg1 harg1 arg2 harg2 arg3 harg3 arg4 harg4 arg5 harg5 arg6 harg6 arg7 harg7 v0 v4 v6 k0_pay343 X G5 G6 G7 init ⟨n, hk⟩
    dsimp only at hs
    rw [hs]
    clear hs
    generalize (st_k0_t1 (F := Ideal) 𝒱 dv bd arg0 harg0 arg1 harg1 arg2 harg2 arg3 harg3 arg4 harg4 arg5 harg5 arg6 harg6 arg7 harg7 v0 v4 v6 k0_pay343 X G5 G6 G7 init n) = prev at i1 i2 i3 ⊢
    obtain ⟨acc, L5, L6, L7⟩ := prev
    dsimp only at i1 i2 i3 ⊢
    obtain ⟨q1, q2, hq⟩ := tripL1a 𝒱 dv bd arg0 harg0 arg1 harg1 arg2 harg2 arg3 harg3 arg4 harg4 arg5 harg5 arg6 harg6 arg7 harg7 v0 v4 v6 X ⟨n, hk⟩ acc (arg5.view.writes (Elt Ideal) G5 L5) (arg6.view.writes (Elt Ideal) G6 L6) (arg7.view.writes (Elt Ideal) G7 L7)
    obtain ⟨q3, q4, hq'⟩ := tripL1b 𝒱 dv bd arg0 harg0 arg1 harg1 arg2 harg2 arg3 harg3 arg4 harg4 arg5 harg5 arg6 harg6 arg7 harg7 v0 v4 v6 X ⟨n, hk⟩ acc (arg5.view.writes (Elt Ideal) G5 L5) (arg6.view.writes (Elt Ideal) G6 L6) (arg7.view.writes (Elt Ideal) G7 L7)
    dsimp only at hq hq'
    rw [tripR1, hq, hq']
    clear hq hq'
    rw [show min (2 * n) 63 = 2 * n by omega] at i2
    have he := forward_even arg6 acc (arg6.view.writes (Elt Ideal) G6 L6) (chunkPriors (kprior v0 v4 v6) (samples arg0 X)) (2 * n)
      (fun a o ha ho inb => isP_of_read arg6.view _ _ _ _ i2 a o ha ho inb) (by rw [show 32 * (2 * n) = 64 * n by omega]; exact i1)
    have h7 : ∀ (s : Fin 16) (c : Fin 16384), arg7.view.read (Elt Ideal) (arg7.view.writes (Elt Ideal) arg7.view.junk
        (trip_k0_t1.sl.HW_arg7_2 arg0 v0 v4 v6 X ⟨n, hk⟩)) (ix2 s c) = kprior v0 v4 v6 (samples arg0 X (2 * n + 1) c.val) s :=
      read_halves arg7.view _ [] (trip_k0_t1.sl.v54 arg0 v0 v4 v6 X ⟨n, hk⟩) (trip_k0_t1.sl.v248 arg0 v0 v4 v6 X ⟨n, hk⟩) _ _ _ _
        (fun s c => (prior_half v0 v4 v6 _ _ _ _ _ s c).trans (by
          rw [read_chunk arg0 X 8192 _ _ (2 * n + 1) 0 (off1 ⟨n, hk⟩) c, Nat.zero_add]))
        (fun s c => (prior_half v0 v4 v6 _ _ _ _ _ s c).trans (by
          rw [read_chunk arg0 X 8192 _ _ (2 * n + 1) 8192 (off2 ⟨n, hk⟩) c]))
    have ho := forward_odd arg0 arg6 arg7 v0 v4 v6 X ⟨n, hk⟩ acc (arg6.view.writes (Elt Ideal) G6 L6) (chunkPriors (kprior v0 v4 v6) (samples arg0 X)) (2 * n + 1)
      (fun a o ha ho inb => isP_of_read arg7.view _ _ _ _ h7 a o ha ho inb) (by rw [show 32 * (2 * n + 1) = 32 * (2 * n) + 32 by omega]; exact he.1)
    refine ⟨?_, ?_, ?_⟩
    · rw [show 64 * (n + 1) = 32 * (2 * n + 1) + 32 by omega]
      exact ho.1
    · rw [show 2 * (n + 1) = 2 * n + 2 by omega]
      exact read_halves arg6.view _ L6 (trip_k0_t1.sl.v450 arg0 v0 v4 v6 X ⟨n, hk⟩) (trip_k0_t1.sl.v644 arg0 v0 v4 v6 X ⟨n, hk⟩) _ _ _ _
        (fun s c => (prior_half v0 v4 v6 _ _ _ _ _ s c).trans (by
          rw [read_chunk arg0 X 8192 _ _ (min (2 * n + 2) 63) 0 (off4 ⟨n, hk⟩) c, Nat.zero_add]))
        (fun s c => (prior_half v0 v4 v6 _ _ _ _ _ s c).trans (by
          rw [read_chunk arg0 X 8192 _ _ (min (2 * n + 2) 63) 8192 (off5 ⟨n, hk⟩) c]))
    · rw [show 2 * (n + 1) = 2 * n + 1 + 1 by omega]
      exact rowsTo_store arg5.view _ _ _ (2 * n + 1) _ (off6 ⟨n, hk⟩) _ _ ho.2 (rowsTo_store arg5.view _ _ _ (2 * n) _ (off3 ⟨n, hk⟩) _ _ he.2 i3)

/-- A slice of a chunk's packed decisions holds those of one time step. -/
theorem isW_of_rows (v : View sig .tc .vmem S64x16384 .f32) (f : v.ty.Contents (Elt Ideal)) (p : Priors) (H : RowsTo v f p 64) (m n o : ℕ) (hm : m < 64)
    (hn : n < 32) (ho : o = 512 * n) (off : Fin 2 → ℕ) (hoff : off = ![m, 0]) (h) (inb) :
    IsW p (32 * m + n) (extractStridedSlice (s := S1x16384) S1x512 ![0, o] (View.readAt (Elt Ideal) v (Rect.unit (s := S64x16384) off S1x16384.size h).toLoadRect f) inb) := by
  subst hoff
  intro b
  have hob : o + b.val < 16384 := by omega
  rw [extractStridedSlice_apply _ _ _ _ (ix2 (0 : Fin 1) (⟨o + b.val, hob⟩ : Fin 16384)) (fun a => by fin_cases a <;> rfl)]
  rw [View.readAt_apply]
  refine Eq.trans (congrArg _ ?_) ((H ⟨m, hm⟩ ⟨o + b.val, hob⟩ hm).trans ?_)
  · funext a
    fin_cases a
    · exact Fin.ext (show m + 1 * 0 = m by omega)
    · exact Fin.ext (show 0 + 1 * (o + b.val) = o + b.val by omega)
  · have e1 : (o + b.val) / 512 = n := by omega
    have e2 : (⟨(o + b.val) % 512, by omega⟩ : Fin 512) = b := Fin.ext (show (o + b.val) % 512 = b.val by omega)
    show (((Viterbi.word p (32 * m + (o + b.val) / 512) ⟨(o + b.val) % 512, _⟩ : ℕ) : ℝ) : EReal) = _
    rw [e2, e1]

/-- The result's rows from time `T` on are the decoded bits. -/
def BitsFrom (v : View sig .tc .vmem S2048x512 .f32) (f : v.ty.Contents (Elt Ideal)) (p : Priors) (T : ℕ) : Prop :=
  ∀ (t : Fin 2048) (b : Fin 512), T ≤ t.val → v.read (Elt Ideal) f (ix2 t b) = (((Viterbi.out p (2047 - t.val) b : ℕ) : ℝ) : EReal)

/-- The walk back: before trip `n` the carried value is the states after `32 n` steps back and the bits found so far are in place. -/
theorem backward_inv (𝒱 : Variants) (dv : Dev nD) (bd : Option 𝒱.V) (arg0 : Memref sig .tc .vmem S64x16384 .f32) (harg0 : arg0.IsWhole) (arg1 : Memref sig .tc .vmem S100x1 .f32) (harg1 : arg1.IsWhole) (arg2 : Memref sig .tc .vmem S50x100 .f32) (harg2 : arg2.IsWhole) (arg3 : Memref sig .tc .vmem S16x50 .f32) (harg3 : arg3.IsWhole) (arg4 : Memref sig .tc .vmem S2048x512 .f32) (harg4 : arg4.IsWhole) (arg5 : Memref sig .tc .vmem S64x16384 .f32) (harg5 : arg5.IsWhole) (arg6 : Memref sig .tc .vmem S16x16384 .f32) (harg6 : arg6.IsWhole) (arg7 : Memref sig .tc .vmem S16x16384 .f32) (harg7 : arg7.IsWhole)
    (X5 : BufTy.Contents (Elt Ideal) arg5.view.ty) (G4 : BufTy.Contents (Elt Ideal) arg4.view.ty) (init : IVec S1x512 32) (p : Priors)
    (H : RowsTo arg5.view X5 p 64) (hinit : IsS p 0 init) (n : ℕ) (hn : n ≤ 64) :
    IsS p (32 * n) (st_k0_t2 (F := Ideal) 𝒱 dv bd arg0 harg0 arg1 harg1 arg2 harg2 arg3 harg3 arg4 harg4 arg5 harg5 arg6 harg6 arg7 harg7 X5 init n).1 ∧ BitsFrom arg4.view (arg4.view.writes (Elt Ideal) G4 (st_k0_t2 (F := Ideal) 𝒱 dv bd arg0 harg0 arg1 harg1 arg2 harg2 arg3 harg3 arg4 harg4 arg5 harg5 arg6 harg6 arg7 harg7 X5 init n).2) p (2048 - 32 * n) := by
  induction n with
  | zero => exact ⟨hinit, fun t b ht => absurd t.isLt (by omega)⟩
  | succ n ih =>
    obtain ⟨i1, i2⟩ := ih (by omega)
    have hk : n < k0_t2_loop.trips := by rw [trips2]; omega
    have hs := st_k0_t2_succ (F := Ideal) 𝒱 dv bd arg0 harg0 arg1 harg1 arg2 harg2 arg3 harg3 arg4 harg4 arg5 harg5 arg6 harg6 arg7 harg7 X5 init ⟨n, hk⟩
    dsimp only at hs
    rw [hs]
    clear hs
    generalize (st_k0_t2 (F := Ideal) 𝒱 dv bd arg0 harg0 arg1 harg1 arg2 harg2 arg3 harg3 arg4 harg4 arg5 harg5 arg6 harg6 arg7 harg7 X5 init n) = prev at i1 i2 ⊢
    obtain ⟨acc, L4⟩ := prev
    dsimp only at i1 i2 ⊢
    obtain ⟨q1, hq⟩ := tripL2 𝒱 dv bd arg0 harg0 arg1 harg1 arg2 harg2 arg3 harg3 arg4 harg4 arg5 harg5 arg6 harg6 arg7 harg7 X5 ⟨n, hk⟩ acc
    rw [tripR2, hq]
    clear hq
    have hb := backward arg5 X5 ⟨n, hk⟩ acc p n (fun a o ha ho h inb => by
      have := isW_of_rows arg5.view X5 p H (63 - n) (31 - a) o (by omega) (by omega) (by omega) _ (off7 ⟨n, hk⟩) h inb
      rwa [show 32 * (63 - n) + (31 - a) = 2047 - (32 * n + a) by omega] at this) i1
    refine ⟨hb.1, ?_⟩
    intro t b ht
    by_cases e : t.val < 2048 - 32 * n
    · have hr : t.val - (63 - n) * 32 < 32 := by omega
      refine (View.read_writes_cons_unit_of_mem arg4.view G4 _ _ L4 (ix2 t b) (ix2 (⟨t.val - (63 - n) * 32, hr⟩ : Fin 32) b) (off8 ⟨n, hk⟩) (fun a => by
        fin_cases a
        · exact (show t.val = (63 - n) * 32 + (t.val - (63 - n) * 32) by omega)
        · exact (Nat.zero_add _).symm)).trans ?_
      refine (hb.2 _ b).trans ?_
      show (((Viterbi.out p (32 * n + (31 - (t.val - (63 - n) * 32))) b : ℕ) : ℝ) : EReal) = _
      rw [show 32 * n + (31 - (t.val - (63 - n) * 32)) = 2047 - t.val by omega]
    · refine (View.read_writes_cons_unit_of_not_mem arg4.view G4 _ _ L4 (ix2 t b) (off8 ⟨n, hk⟩) (0 : Fin 2) (Or.inr (show (63 - n) * 32 + 32 ≤ t.val by omega))).trans ?_
      exact i2 t b (by omega)

end Cert.KernelIdeal.Hand
-- ==== Proof.PI.Value.lean ====
/- The kernel's value: what the body leaves in the result block, and the result array after the run. -/
module

public import proofs.«01_k».proof.Proof.PI.Body
public import proofs.«01_k».proof.Proof.PI.Loop

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The samples by chunk and column, zero outside the array. -/
def ext (Y : S64x16384.Idx → EReal) : ℕ → ℕ → EReal := fun m c => if h : m < 64 ∧ c < 16384 then Y (ix2 ⟨m, h.1⟩ ⟨c, h.2⟩) else 0

/-- The priors by time, state and batch of the samples and the three layers' weights. -/
abbrev priors (Y : S64x16384.Idx → EReal) (w1 : Vec Ideal S100x1 .f32) (w2 : Vec Ideal S50x100 .f32) (w3 : Vec Ideal S16x50 .f32) : Priors :=
  chunkPriors (kprior w1 w2 w3) (ext Y)

/-- The decoded bits by time and batch. -/
def kval (Y : S64x16384.Idx → EReal) (w1 : Vec Ideal S100x1 .f32) (w2 : Vec Ideal S50x100 .f32) (w3 : Vec Ideal S16x50 .f32) : S2048x512.Idx → EReal :=
  fun i => (((Viterbi.out (priors Y w1 w2 w3) (2047 - (i 0).val) (i 1) : ℕ) : ℝ) : EReal)

theorem zeros2 : (![0, 0] : Fin 2 → ℕ) = fun _ => 0 := funext fun a => by fin_cases a <;> rfl

/-- A load of a whole array reads it. -/
theorem readAt_whole {n0 n1 : ℕ} (v : View sig .tc .vmem (⟨2, ![n0, n1]⟩ : Shape) .f32) (f : v.ty.Contents (Elt Ideal)) (h) :
    View.readAt (Elt Ideal) v (Rect.unit (s := (⟨2, ![n0, n1]⟩ : Shape)) ![0, 0] ![n0, n1] h).toLoadRect f = v.read (Elt Ideal) f := by
  funext i
  rw [View.readAt_apply]
  congr 1
  funext a
  fin_cases a
  · exact Fin.ext (show 0 + 1 * (i 0).val = (i 0).val by omega)
  · exact Fin.ext (show 0 + 1 * (i 1).val = (i 1).val by omega)

/-- The costs start at zero, -/
theorem start_costs (p : Priors) : IsK p 0 (k0_pay345 (F := Ideal)) := fun s b => Ideal.ofBits_zero_f32

/-- and the walk back in state zero. -/
theorem start_state (p : Priors) : IsS p 0 k0_pay347 := fun b => rfl

/-- The body's result block, whatever the scratch buffers held: the decoded bits of its four inputs. -/
theorem kernelRun_read (dv : Dev nD) (arg0 : Memref sig .tc .vmem S64x16384 .f32) (harg0 : arg0.IsWhole) (arg1 : Memref sig .tc .vmem S100x1 .f32) (harg1 : arg1.IsWhole) (arg2 : Memref sig .tc .vmem S50x100 .f32) (harg2 : arg2.IsWhole) (arg3 : Memref sig .tc .vmem S16x50 .f32) (harg3 : arg3.IsWhole) (arg4 : Memref sig .tc .vmem S2048x512 .f32) (harg4 : arg4.IsWhole) (arg5 : Memref sig .tc .vmem S64x16384 .f32) (harg5 : arg5.IsWhole) (arg6 : Memref sig .tc .vmem S16x16384 .f32) (harg6 : arg6.IsWhole) (arg7 : Memref sig .tc .vmem S16x16384 .f32) (harg7 : arg7.IsWhole) (f0 : BufTy.Contents (Elt Ideal) arg0.view.ty) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) :
    arg4.view.read (Elt Ideal) (kernelRun (F := Ideal) dv arg0 harg0 arg1 harg1 arg2 harg2 arg3 harg3 arg4 harg4 arg5 harg5 arg6 harg6 arg7 harg7 f0 f1 f2 f3 f4 f5 f6 f7).1
      = kval (arg0.view.read (Elt Ideal) f0) (arg1.view.read (Elt Ideal) f1) (arg2.view.read (Elt Ideal) f2) (arg3.view.read (Elt Ideal) f3) := by
  funext i
  obtain ⟨t, b, rfl⟩ : ∃ (t : Fin 2048) (b : Fin 512), i = ix2 t b := ⟨i 0, i 1, eq_ix2 i⟩
  unfold kernelRun
  dsimp only
  rw [show Scf.trips 0#32 (Scalar.addi 0#32 64#32) 1#32 = 64 from trips2, show Scf.trips 0#32 (Scalar.addi 0#32 32#32) 1#32 = 32 from trips1]
  have hG6 : ∀ (s : Fin 16) (c : Fin 16384), arg6.view.read (Elt Ideal) (arg6.view.writes (Elt Ideal) arg6.view.junk (kernelRun.sl.H6_1 arg0 arg1 arg2 arg3 f0 f1 f2 f3)) (ix2 s c)
      = kprior (arg1.view.read (Elt Ideal) f1) (arg2.view.read (Elt Ideal) f2) (arg3.view.read (Elt Ideal) f3) (samples arg0 f0 0 c.val) s := by
    intro s c
    unfold kernelRun.sl.H6_1
    refine (View.read_writes_cons_unit_of_mem arg6.view _ _ _ [] (ix2 s c) (ix2 s c) rfl (fun a => by
      fin_cases a
      · exact (Nat.zero_add _).symm
      · exact (Nat.zero_add _).symm)).trans ?_
    refine (prior_full _ _ _ _ s c).trans ?_
    refine Eq.trans ?_ (congrArg (fun x => kprior (arg1.view.read (Elt Ideal) f1) (arg2.view.read (Elt Ideal) f2) (arg3.view.read (Elt Ideal) f3) x s)
      ((read_chunk arg0 f0 16384 _ (by decide) 0 0 rfl c).trans (congrArg _ (Nat.zero_add _))))
    exact congr (congr (congr (congrArg kprior (readAt_whole arg1.view f1 _)) (readAt_whole arg2.view f2 _)) (readAt_whole arg3.view f3 _) |> fun h => congrFun h _) rfl
  have h1 := forward_inv Variants.none dv none arg0 harg0 arg1 harg1 arg2 harg2 arg3 harg3 arg4 harg4 arg5 harg5 arg6 harg6 arg7 harg7 (arg1.view.read (Elt Ideal) f1) (arg2.view.read (Elt Ideal) f2) (arg3.view.read (Elt Ideal) f3) f0 f5 _ f7 k0_pay345 hG6 (start_costs _) 32 le_rfl
  have h2 := backward_inv Variants.none dv none arg0 harg0 arg1 harg1 arg2 harg2 arg3 harg3 arg4 harg4 arg5 harg5 arg6 harg6 arg7 harg7 _ f4 k0_pay347 _ h1.2.2 (start_state _) 64 le_rfl
  have h3 := h2.2 t b (by omega)
  refine Eq.trans ?_ h3
  have e1 := readAt_whole arg1.view f1 (by decide)
  have e2 := readAt_whole arg2.view f2 (by decide)
  have e3 := readAt_whole arg3.view f3 (by decide)
  rw [← e1, ← e2, ← e3]

variable (m : (ℓ : Loc nD τ sig) → Buf (Elt Ideal) ℓ) (ρ : Dev nD → PrngReg)

/-- The proof data: the inputs' blocks stay in place; the result block ends at its value. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => kval (iblk m c 0 t) (iblk m c 1 t) (iblk m c 2 t) (iblk m c 3 t)
  Φ _ := Pipeline.ΦA spec0 c
  q _ := fullShare
  owed _ := 0

theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = kval (iblk m c 0 t) (iblk m c 1 t) (iblk m c 2 t) (iblk m c 3 t) := by
  dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d

/-- What the body is called with, the windows one by one, -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d)))

/-- and what it returns. -/
def vbodyPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t))

set_option maxHeartbeats 1600000 in
/-- The body keeps the inputs' blocks, leaves the decoded bits, and gives back the scratch buffers at some contents. -/
theorem vsound_body (c : Dev nD) (t : Fin cfg0.N) :
    vbodyPre m c t ⊢ wp Idealize.ShloMosaic.frame (wpE (defs₀ (F := Ideal)) Variants.none c none) Set.univ (bodyAt0 t) (fun _ => vbodyPost m c t) := by
  unfold vbodyPre vbodyPost bodyAt0 owns
  simp only [vbefore_0, vbefore_1, vbefore_2, vbefore_3]
  rw [show (vdats m 0 c).Φ t.castSucc = Pipeline.ΦA spec0 c from rfl,
    show (vdats m 0 c).Φ t.succ = Pipeline.ΦA spec0 c from rfl,
    show (vdats m 0 c).owesAt () t.succ = (vdats m 0 c).owesAt () t.castSucc from rfl,
    vafter_0, vafter_1, vafter_2, vafter_3, vafter_4]
  unfold Pipeline.ΦA
  rw [scopedRest0_eq]
  iintro ⟨⟨⟨⟨%f5, H5⟩, ⟨%f6, H6⟩, ⟨%f7, H7⟩⟩, Hp⟩, Ho, ⟨%d0, %f0, %hf0, H0⟩, ⟨%d1, %f1, %hf1, H1⟩, ⟨%d2, %f2, %hf2, H2⟩, ⟨%d3, %f3, %hf3, H3⟩, ⟨%d4, %f4, %hf4, H4⟩⟩
  have hval := kernelRun_read c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (Memref.whole cc0_scratch0) (Memref.isWhole_whole _) (Memref.whole cc0_scratch1) (Memref.isWhole_whole _) (Memref.whole cc0_scratch2) (Memref.isWhole_whole _) f0 f1 f2 f3 f4 f5 f6 f7
  generalize kernelRun c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (Memref.whole cc0_scratch0) (Memref.isWhole_whole _) (Memref.whole cc0_scratch1) (Memref.isWhole_whole _) (Memref.whole cc0_scratch2) (Memref.isWhole_whole _) f0 f1 f2 f3 f4 f5 f6 f7 = run at hval
  obtain ⟨OUT, hrun⟩ := run
  rw [hf0, hf1, hf2, hf3] at hval
  iapply (hrun Set.univ _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · simp only [Memref.view_whole, View.set_whole]; iexact H5
    isplitl [H6]; · simp only [Memref.view_whole, View.set_whole]; iexact H6
    simp only [Memref.view_whole, View.set_whole]; iexact H7
  iintro ⟨H0, H1, H2, H3, H4, ⟨%g5, H5⟩, ⟨%g6, H6⟩, ⟨%g7, H7⟩⟩
  isplitl [H5 H6 H7 Hp]
  · isplitl [H5 H6 H7]
    · isplitl [H5]; · iexists g5; simp only [Memref.view_whole, View.set_whole]; iexact H5
      isplitl [H6]; · iexists g6; simp only [Memref.view_whole, View.set_whole]; iexact H6
      iexists g7; simp only [Memref.view_whole, View.set_whole]; iexact H7
    · iexact Hp
  isplitl [Ho]; · iexact Ho
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  iexists OUT; isplitr; · ipureintro; exact hval
  iexact H4

/-- The library's body obligation. -/
theorem vbody_obligation (c : Dev nD) :
    BodyObligationLoose (vdats m 0 c) (defs₀ (F := Ideal)) Variants.none () Set.univ := fun t => by
  rw [bigSep_W0, bigSep_W0, defs₀_row]
  exact triple_restated (vsound_body m c t) rfl .rfl fun _ => .rfl

-- the launch theorem's implicit arguments are found by unifying its conclusion with this one, which takes
-- unfolding plain definitions in a metavariable's type
set_option backward.isDefEq.respectTransparency.types false in
/-- THE LAUNCH: every window's array at its data, and every other buffer as the last line leaves it. -/
theorem run_value : θ_run defs (onTc (τ := τ) (main (F := Ideal))) (s₀ m ρ)
    (Pipeline.FramePost cfgs (vdats m) (0 : Fin 1) (Pipeline.afterTail₀ cfgs (vdats m) (0 : Fin 1) (V0 m) [hostOps1])) :=
  Pipeline.θ_run_frame_around cfgs (vdats m) (0 : Fin 1) launch0 defs₀ Variants.none m ρ main
    (hbody := vbody_obligation m) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hΦ := fun _ _ => rfl)

end Cert.KernelIdeal.Hand

end
-- ==== Proof.PI.Final.lean ====
/- The kernel's result array after the run, as a function of the arguments. -/
module

public import proofs.«01_k».proof.Proof.PI.Value

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat)

variable (m : (ℓ : Loc nD τ sig) → Buf (Elt Ideal) ℓ) (ρ : Dev nD → PrngReg)

/-- A block of a window is its whole array. -/
theorem emb_0 (t : Fin cfg0.N) (j : S64x16384.Idx) : ((cfg0.win 0).blk t).view.emb j = j := by
  funext a; apply Fin.ext
  match a with
  | ⟨0, _⟩ => exact (show 0 * 64 + 1 * (j 0).val = (j 0).val by omega)
  | ⟨1, _⟩ => exact (show 0 * 16384 + 1 * (j 1).val = (j 1).val by omega)
theorem emb_1 (t : Fin cfg0.N) (j : S100x1.Idx) : ((cfg0.win 1).blk t).view.emb j = j := by
  funext a; apply Fin.ext
  match a with
  | ⟨0, _⟩ => exact (show 0 * 100 + 1 * (j 0).val = (j 0).val by omega)
  | ⟨1, _⟩ => exact (show 0 * 1 + 1 * (j 1).val = (j 1).val by omega)
theorem emb_2 (t : Fin cfg0.N) (j : S50x100.Idx) : ((cfg0.win 2).blk t).view.emb j = j := by
  funext a; apply Fin.ext
  match a with
  | ⟨0, _⟩ => exact (show 0 * 50 + 1 * (j 0).val = (j 0).val by omega)
  | ⟨1, _⟩ => exact (show 0 * 100 + 1 * (j 1).val = (j 1).val by omega)
theorem emb_3 (t : Fin cfg0.N) (j : S16x50.Idx) : ((cfg0.win 3).blk t).view.emb j = j := by
  funext a; apply Fin.ext
  match a with
  | ⟨0, _⟩ => exact (show 0 * 16 + 1 * (j 0).val = (j 0).val by omega)
  | ⟨1, _⟩ => exact (show 0 * 50 + 1 * (j 1).val = (j 1).val by omega)
theorem emb_4 (t : Fin cfg0.N) (j : S2048x512.Idx) : ((cfg0.win 4).blk t).view.emb j = j := by
  funext a; apply Fin.ext
  match a with
  | ⟨0, _⟩ => exact (show 0 * 2048 + 1 * (j 0).val = (j 0).val by omega)
  | ⟨1, _⟩ => exact (show 0 * 512 + 1 * (j 1).val = (j 1).val by omega)

theorem iblk_0 (c : Dev nD) (t : Fin cfg0.N) : iblk m c 0 t = V m c main_v1 := by
  funext j; show V m c main_v1 (((cfg0.win 0).blk t).view.emb j) = V m c main_v1 j; rw [emb_0]
theorem iblk_1 (c : Dev nD) (t : Fin cfg0.N) : iblk m c 1 t = V m c main_v2 := by
  funext j; show V m c main_v2 (((cfg0.win 1).blk t).view.emb j) = V m c main_v2 j; rw [emb_1]
theorem iblk_2 (c : Dev nD) (t : Fin cfg0.N) : iblk m c 2 t = V m c main_v3 := by
  funext j; show V m c main_v3 (((cfg0.win 2).blk t).view.emb j) = V m c main_v3 j; rw [emb_2]
theorem iblk_3 (c : Dev nD) (t : Fin cfg0.N) : iblk m c 3 t = V m c main_v4 := by
  funext j; show V m c main_v4 (((cfg0.win 3).blk t).view.emb j) = V m c main_v4 j; rw [emb_3]

/-- The result array, time by batch. -/
def G (c : Dev nD) : S2048x512.Idx → EReal := kval (V m c main_v1) (V m c main_v2) (V m c main_v3) (V m c main_v4)

theorem flushed_4 (c : Dev nD) (t : Fin cfg0.N) : (vdats m 0 c).flushed 4 t = ((cfg0.win 4).blk t).view.read (Elt Ideal) (G m c) := by
  show (cfg0.win 4).cut _ ((vdats m 0 c).after 4 t) = _
  rw [vafter_4, iblk_0, iblk_1, iblk_2, iblk_3]
  funext j
  show G m c j = G m c (((cfg0.win 4).blk t).view.emb j)
  rw [emb_4]

theorem covered_4 (i : S2048x512.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb_4] at h⟩

/-- The pipeline's result array after the run. -/
theorem final_4 (c : Dev nD) : (vdats m 0 c).arrAt 4 cfg0.N = G m c :=
  (vdats m 0 c).arrAt_eq_of_cover 4 (G m c) (fun t _ => flushed_4 m c t) covered_4

/-- What the last line makes of it. -/
theorem tail_v6 (c : Dev nD) : Pipeline.afterTail₀ cfgs (vdats m) (0 : Fin 1) (V0 m) [hostOps1] c main_v6
    = (fun i : S512x2048.Idx => G m c (ix2 (i 1) (i 0))) := by
  unfold Pipeline.afterTail₀
  simp only [List.flatten_cons, List.flatten_nil, List.append_nil]
  after_results
  have e : Pipeline.withArrays (cfgs (0 : Fin 1)).spec c (V0 m c) (fun w => (vdats m 0 c).arrAt w (cfgs (0 : Fin 1)).N) (Proc.devRef .tc main_v5) = G m c :=
    (Pipeline.withArrays_arr spec0 launch0.win.arr_inj c (V0 m c) (fun w => (vdats m 0 c).arrAt w cfg0.N) 4).trans (final_4 m c)
  rw [e]
  funext i
  exact transpose_apply (t := S512x2048) [1, 0] (G m c) _ i (ix2 (i 1) (i 0)) (fun b => by fin_cases b <;> rfl)

/-- The pipeline's arrays as its region finds them. -/
theorem V_v1 (c : Dev nD) : V m c main_v1 = shapeCast S64x16384 (transpose S2048x512 [1, 0] (m ((c : Thread nD τ).loc main_arg0) : S512x2048.Idx → EReal)
    transposes_S512x2048_S2048x512_1_0) shapeCasts_S2048x512_S64x16384 := by
  unfold V V0
  simp only [List.flatten_cons, List.flatten_nil, List.append_nil]
  after_results
  rfl
theorem V_v2 (c : Dev nD) : V m c main_v2 = transpose S100x1 [1, 0] (m ((c : Thread nD τ).loc main_arg1) : S1x100.Idx → EReal) transposes_S1x100_S100x1_1_0 := by
  unfold V V0
  simp only [List.flatten_cons, List.flatten_nil, List.append_nil]
  after_results
theorem V_v3 (c : Dev nD) : V m c main_v3 = transpose S50x100 [1, 0] (m ((c : Thread nD τ).loc main_arg3) : S100x50.Idx → EReal) transposes_S100x50_S50x100_1_0 := by
  unfold V V0
  simp only [List.flatten_cons, List.flatten_nil, List.append_nil]
  after_results
theorem V_v4 (c : Dev nD) : V m c main_v4 = transpose S16x50 [1, 0] (m ((c : Thread nD τ).loc main_arg5) : S50x16.Idx → EReal) transposes_S50x16_S16x50_1_0 := by
  unfold V V0
  simp only [List.flatten_cons, List.flatten_nil, List.append_nil]
  after_results

/-- A sample of chunk `t / 32`, column `512 (t % 32) + b`, is batch `b`'s sample at time `t`. -/
theorem ext_v1 (c : Dev nD) (t : Fin 2048) (b : Fin 512) :
    ext (V m c main_v1) (t.val / 32) (512 * (t.val % 32) + b.val) = (m ((c : Thread nD τ).loc main_arg0) : S512x2048.Idx → EReal) (ix2 b t) := by
  have h1 : t.val / 32 < 64 := by omega
  have h2 : 512 * (t.val % 32) + b.val < 16384 := by omega
  unfold ext
  rw [dif_pos ⟨h1, h2⟩, V_v1]
  rw [shapeCast_apply _ _ _ (ix2 t b) (by
    rw [Shape.rowMajor_val_two, Shape.rowMajor_val_two]
    show t.val * 512 + b.val = t.val / 32 * 16384 + (512 * (t.val % 32) + b.val)
    omega)]
  exact transpose_apply (t := S2048x512) [1, 0] _ _ (ix2 t b) (ix2 b t) (fun b => by fin_cases b <;> rfl)

/-- The prior of state `s` at time `t` for batch `b`, of the arguments. -/
def prior (y : S512x2048.Idx → EReal) (w1 : S1x100.Idx → EReal) (w2 : S100x50.Idx → EReal) (w3 : S50x16.Idx → EReal) (t : Fin 2048) (s : Fin 16) (b : Fin 512) : EReal :=
  ∑ i : Fin 50, w3 (ix2 i s) * max (∑ j : Fin 100, w2 (ix2 j i) * Ideal.div 1 (1 + Ideal.exp2 (((-((Real.log 2)⁻¹) : ℝ) : EReal) * w1 (ix2 0 j) * y (ix2 b t)))) 0

theorem priors_eq (c : Dev nD) (t : Fin 2048) (s : Fin 16) (b : Fin 512) :
    priors (V m c main_v1) (V m c main_v2) (V m c main_v3) (V m c main_v4) t.val s b
      = prior (m ((c : Thread nD τ).loc main_arg0)) (m ((c : Thread nD τ).loc main_arg1)) (m ((c : Thread nD τ).loc main_arg3)) (m ((c : Thread nD τ).loc main_arg5)) t s b := by
  show kprior (V m c main_v2) (V m c main_v3) (V m c main_v4) (ext (V m c main_v1) (t.val / 32) (512 * (t.val % 32) + b.val)) s = _
  rw [ext_v1, V_v2, V_v3, V_v4]
  unfold kprior prior
  have e := IdealRules.named_const.ideal_named_scalar κ "neg_log2_e" (φ := .f32) 0xBFB8AA3B#32 ((-((Real.log 2)⁻¹) : ℝ) : EReal) rfl
  refine Finset.sum_congr rfl fun i _ => ?_
  refine congrArg₂ (· * ·) (transpose_apply (t := S16x50) [1, 0] _ _ (ix2 s i) (ix2 i s) (fun b => by fin_cases b <;> rfl)) ?_
  refine congrArg (max · 0) (Finset.sum_congr rfl fun j _ => ?_)
  refine congrArg₂ (· * ·) (transpose_apply (t := S50x100) [1, 0] _ _ (ix2 i j) (ix2 j i) (fun b => by fin_cases b <;> rfl)) ?_
  refine congrArg (fun x => Ideal.div 1 (1 + Ideal.exp2 (x * _))) ?_
  exact congrArg₂ (· * ·) e (transpose_apply (t := S100x1) [1, 0] _ _ (ix2 j 0) (ix2 0 j) (fun b => by fin_cases b <;> rfl))

/-- The run: the result, and the arguments unchanged. -/
theorem run_final : θ_run defs (onTc (τ := τ) (main (F := Ideal))) ⟨m, fun _ => 0, ρ⟩ (fun r => ∀ c : Dev nD,
      r.2.mem ((c.tc : Thread nD τ).loc main_v6) = (fun i : S512x2048.Idx => G m c (ix2 (i 1) (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v6 (Pipeline.mem_restRefs_of main_v6 (by decide) (by decide))).trans (tail_v6 m c),
     ((h c).2 main_arg0 (Pipeline.mem_restRefs_of main_arg0 (by decide) (by decide))).trans (W_main_arg0 m (vdats m) c),
     ((h c).2 main_arg1 (Pipeline.mem_restRefs_of main_arg1 (by decide) (by decide))).trans (W_main_arg1 m (vdats m) c),
     ((h c).2 main_arg2 (Pipeline.mem_restRefs_of main_arg2 (by decide) (by decide))).trans (W_main_arg2 m (vdats m) c),
     ((h c).2 main_arg3 (Pipeline.mem_restRefs_of main_arg3 (by decide) (by decide))).trans (W_main_arg3 m (vdats m) c),
     ((h c).2 main_arg4 (Pipeline.mem_restRefs_of main_arg4 (by decide) (by decide))).trans (W_main_arg4 m (vdats m) c),
     ((h c).2 main_arg5 (Pipeline.mem_restRefs_of main_arg5 (by decide) (by decide))).trans (W_main_arg5 m (vdats m) c),
     ((h c).2 main_arg6 (Pipeline.mem_restRefs_of main_arg6 (by decide) (by decide))).trans (W_main_arg6 m (vdats m) c)⟩)
    (run_value m ρ)

end Cert.KernelIdeal.Hand

end
-- ==== Proof.R.Step.lean ====
/- What one trip of each of the reference's loops computes, as functions of the buffers it reads. -/
module

public import proofs.«01_k».proof.Proof.R.Run
public import Idealize.ShloMosaic.Lib.IdealHost
public import Idealize.ShloMosaic.Lib.DynamicIndex
public import Idealize.ShloMosaic.Lib.KernelVsHost
public import Idealize.ShloMosaic.Lib.ValueIdx
public import Idealize.ShloMosaic.Lib.Pipeline.Value

@[expose] public section

set_option maxRecDepth 8192

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo

/-- A slice as a column. -/
def rCol (x : S1x512.Idx → EReal) : S512x1.Idx → EReal :=
  broadcastInDim S512x1 ![0] bcast_S512_S512x1_0 (shapeCast S512 x shapeCasts_S1x512_S512)

/-- The samples of one time step. -/
def rRow (y : S2048x512.Idx → EReal) (k : S_.Idx → BitVec 32) : S512x1.Idx → EReal :=
  rCol (Host.dynamicSlice S1x512 y (fun j => ((![k, constantI S_ 32 0#32] : Fin 2 → S_.Idx → BitVec 32) j (Shape.Idx.first h_S_)).toInt) sliceFits_S2048x512_S1x512)

/-- The first layer. -/
def rHid1 (x : S512x1.Idx → EReal) (w1 : S1x100.Idx → EReal) (b1 : S100.Idx → EReal) : FVec Ideal S512x100 .f32 :=
  Host.divf (broadcastInDim S512x100 ![] bcast_S_S512x100 (constant S_ .f32 0x3F800000#32))
    (addf (broadcastInDim S512x100 ![] bcast_S_S512x100 (constant S_ .f32 0x3F800000#32))
      (Host.exp (Host.negf (addf (Host.dotGeneral (F := Ideal) (φ₁ := .f32) (φ₂ := .f32) dot_S512x1_S1x100_S512x100_1_0_0_1_n_n none x w1)
        (broadcastInDim S512x100 ![0, 1] bcast_S1x100_S512x100_0_1 (broadcastInDim S1x100 ![1] bcast_S100_S1x100_1 b1))))))

/-- The second layer. -/
def rHid2 (h1 : FVec Ideal S512x100 .f32) (w2 : S100x50.Idx → EReal) (b2 : S50.Idx → EReal) : FVec Ideal S512x50 .f32 :=
  maximumf (addf (Host.dotGeneral (F := Ideal) (φ₁ := .f32) (φ₂ := .f32) dot_S512x100_S100x50_S512x50_1_0_0_1_n_n none h1 w2)
        (broadcastInDim S512x50 ![0, 1] bcast_S1x50_S512x50_0_1 (broadcastInDim S1x50 ![1] bcast_S50_S1x50_1 b2)))
    (broadcastInDim S512x50 ![] bcast_S_S512x50 (constant S_ .f32 0x00000000#32))

/-- The priors. -/
def rPrior (h2 : FVec Ideal S512x50 .f32) (w3 : S50x16.Idx → EReal) (b3 : S16.Idx → EReal) : FVec Ideal S512x16 .f32 :=
  addf (Host.dotGeneral (F := Ideal) (φ₁ := .f32) (φ₂ := .f32) dot_S512x50_S50x16_S512x16_1_0_0_1_n_n none h2 w3)
    (broadcastInDim S512x16 ![0, 1] bcast_S1x16_S512x16_0_1 (broadcastInDim S1x16 ![1] bcast_S16_S1x16_1 b3))

/-- The two candidate costs of each state. -/
def rPair (tt : S16x2.Idx → BitVec 32) (K : S512x16.Idx → EReal) (p : FVec Ideal S512x16 .f32) : FVec Ideal S512x16x2 .f32 :=
  addf (Host.gather gather_S512x16_S16x2x1_S512x16x2_0_1_n_n_1_2_5121 K
      (broadcastInDim S16x2x1 ![0, 1] bcast_S16x2_S16x2x1_0_1
        (select (cmpi .slt tt (broadcastInDim S16x2 ![] bcast_S_S16x2 (constantI S_ 32 0#32)))
          (addi tt (broadcastInDim S16x2 ![] bcast_S_S16x2 (constantI S_ 32 16#32))) tt)))
    (broadcastInDim S512x16x2 ![0, 1, 2] bcast_S512x16x1_S512x16x2_0_1_2 (broadcastInDim S512x16x1 ![0, 1] bcast_S512x16_S512x16x1_0_1 p))

/-- The cheaper of each pair, -/
def rCost (v : FVec Ideal S512x16x2 .f32) : FVec Ideal S512x16 .f32 :=
  Host.reduce FloatOps.minimumf v (constant S_ .f32 0x7F800000#32) reducesTo_S512x16x2_S512x16_d2 h_S_

/-- and its position. -/
def rArg (v : FVec Ideal S512x16x2 .f32) : S512x16.Idx → BitVec 32 := fun j =>
  (Host.argReduce reducer_argmin_f32_i32 v (iotaInDim S512x16x2 32 2) (constant S_ .f32 0x7F800000#32) (constantI S_ 32 0#32) reducesTo_S512x16x2_S512x16_d2 h_S_ j).2

/-- The predecessor each state takes. -/
def rPrev (tt : S16x2.Idx → BitVec 32) (ss : S16.Idx → BitVec 32) (a : S512x16.Idx → BitVec 32) : S512x16.Idx → BitVec 32 :=
  Host.gather gather_S16x2_S512x16x2_S512x16_n_01_n_n_01_2_11 tt
    (concatenate S512x16x2 2
      [⟨S512x16x1, broadcastInDim S512x16x1 ![0, 1] bcast_S512x16_S512x16x1_0_1 (broadcastInDim S512x16 ![0, 1] bcast_S1x16_S512x16_0_1
        (select (cmpi .slt (broadcastInDim S1x16 ![1] bcast_S16_S1x16_1 ss) (broadcastInDim S1x16 ![] bcast_S_S1x16 (constantI S_ 32 0#32)))
          (addi (broadcastInDim S1x16 ![1] bcast_S16_S1x16_1 ss) (broadcastInDim S1x16 ![] bcast_S_S1x16 (constantI S_ 32 16#32)))
          (broadcastInDim S1x16 ![1] bcast_S16_S1x16_1 ss)))⟩,
       ⟨S512x16x1, broadcastInDim S512x16x1 ![0, 1] bcast_S512x16_S512x16x1_0_1
        (select (cmpi .slt a (broadcastInDim S512x16 ![] bcast_S_S512x16 (constantI S_ 32 0#32)))
          (addi a (broadcastInDim S512x16 ![] bcast_S_S512x16 (constantI S_ 32 2#32))) a)⟩]
      concatenates_S512x16x1_S512x16x1_S512x16x2_d2)

/-- The predecessors stored at their time. -/
def rStore (A : S2048x512x16.Idx → BitVec 32) (v : S512x16.Idx → BitVec 32) (k : S_.Idx → BitVec 32) : S2048x512x16.Idx → BitVec 32 :=
  Host.dynamicUpdateSlice A (broadcastInDim S1x512x16 ![1, 2] bcast_S512x16_S1x512x16_1_2 v)
    (fun j => ((![k, constantI S_ 32 0#32, constantI S_ 32 0#32] : Fin 3 → S_.Idx → BitVec 32) j (Shape.Idx.first h_S_)).toInt) updateFits_S2048x512x16_S1x512x16

/-- The time the walk back is at. -/
def rTime (k : S_.Idx → BitVec 32) : S_.Idx → BitVec 32 := subi (subi (constantI S_ 32 2048#32) k) (constantI S_ 32 1#32)

/-- The predecessors of one time step. -/
def rSlab (A : S2048x512x16.Idx → BitVec 32) (k : S_.Idx → BitVec 32) : S512x16.Idx → BitVec 32 :=
  shapeCast S512x16 (Host.dynamicSlice S1x512x16 A
    (fun j => ((![k, constantI S_ 32 0#32, constantI S_ 32 0#32] : Fin 3 → S_.Idx → BitVec 32) j (Shape.Idx.first h_S_)).toInt) sliceFits_S2048x512x16_S1x512x16)
    shapeCasts_S1x512x16_S512x16

/-- The state before. -/
def rState (A : S512x16.Idx → BitVec 32) (s : S512.Idx → BitVec 32) : S512.Idx → BitVec 32 :=
  Host.gather gather_S512x16_S512x2_S512_n_01_n_n_01_1_11 A
    (concatenate S512x2 1
      [⟨S512x1, broadcastInDim S512x1 ![0] bcast_S512_S512x1_0
        (select (cmpi .slt (iotaInDim S512 32 0) (broadcastInDim S512 ![] bcast_S_S512 (constantI S_ 32 0#32)))
          (addi (iotaInDim S512 32 0) (broadcastInDim S512 ![] bcast_S_S512 (constantI S_ 32 512#32))) (iotaInDim S512 32 0))⟩,
       ⟨S512x1, broadcastInDim S512x1 ![0] bcast_S512_S512x1_0
        (select (cmpi .slt s (broadcastInDim S512 ![] bcast_S_S512 (constantI S_ 32 0#32)))
          (addi s (broadcastInDim S512 ![] bcast_S_S512 (constantI S_ 32 16#32))) s)⟩]
      concatenates_S512x1_S512x1_S512x2_d1)

/-- The decoded bits of a step. -/
def rPut (s : S512.Idx → BitVec 32) : S1x512.Idx → EReal :=
  broadcastInDim S1x512 ![1] bcast_S512_S1x512_1
    (uitofp (F := Ideal) .f32 (cmpi .sge s (broadcastInDim S512 ![] bcast_S_S512 (constantI S_ 32 8#32))))

/-- The decoded bits stored at their time. -/
def rOut (B : S2048x512.Idx → EReal) (s : S512.Idx → BitVec 32) (k : S_.Idx → BitVec 32) : S2048x512.Idx → EReal :=
  Host.dynamicUpdateSlice B (rPut s)
    (fun j => ((![k, constantI S_ 32 0#32] : Fin 2 → S_.Idx → BitVec 32) j (Shape.Idx.first h_S_)).toInt) updateFits_S2048x512_S1x512

section

variable {F : FTy → Type} [FloatOps F]

/-- Part 1 of a trip of loop 1. -/
abbrev aOps0 : List (HloOp τ sig (Elt F)) :=
  [ StableHlo.TRef.nullary (.of main_while0b_call0_c : StableHlo.TRef sig ⟨S_, .i32⟩) (constantI S_ 32 0#32) ]

abbrev aOps0_W : List (Ref sig .tc) := [main_while0b_call0_c]

theorem aOps0_writes : (aOps0 : List (HloOp τ sig (Elt F))).Forall fun op => op.writes ⊆ (aOps0_W.map (Proc.devRef (τ := τ) .tc)).toFinset :=
  StableHlo.forall_writes_sub_of_map rfl

/-- Part 2 of a trip of loop 1. -/
abbrev aOps1 : List (HloOp τ sig (Elt F)) :=
  [ StableHlo.TRef.unaryIndexed (.of main_v4_0 : StableHlo.TRef sig ⟨S2048x512, .f32⟩) ![(.of main_v4_9 : StableHlo.TRef sig ⟨S_, .i32⟩), (.of main_while0b_call0_c : StableHlo.TRef sig ⟨S_, .i32⟩)] (.of main_while0b_call0_v0 : StableHlo.TRef sig ⟨S1x512, .f32⟩) (fun x i => Host.dynamicSlice S1x512 x (fun k => (i k (Shape.Idx.first h_S_)).toInt) sliceFits_S2048x512_S1x512) ]

abbrev aOps1_W : List (Ref sig .tc) := [main_while0b_call0_v0]

theorem aOps1_writes : (aOps1 : List (HloOp τ sig (Elt F))).Forall fun op => op.writes ⊆ (aOps1_W.map (Proc.devRef (τ := τ) .tc)).toFinset :=
  StableHlo.forall_writes_sub_of_map rfl

/-- Part 3 of a trip of loop 1. -/
abbrev aOps2 : List (HloOp τ sig (Elt F)) :=
  [ StableHlo.TRef.reshape (.of main_while0b_call0_v0 : StableHlo.TRef sig ⟨S1x512, .f32⟩) (.of main_while0b_v9 : StableHlo.TRef sig ⟨S512, .f32⟩) (rfl : (.f32 : EltTy) = .f32) shapeCasts_S1x512_S512,
    StableHlo.unary main_while0b_v9 main_while0b_v10 (broadcastInDim S512x1 ![0] bcast_S512_S512x1_0 : (⟨S512, .f32⟩ : BufTy).Contents (Elt F) → (⟨S512x1, .f32⟩ : BufTy).Contents (Elt F)),
    StableHlo.binary main_while0b_v10 main_v4_1 main_while0b_v11 ((fun l r => Host.dotGeneral dot_S512x1_S1x100_S512x100_1_0_0_1_n_n none l r) : (⟨S512x1, .f32⟩ : BufTy).Contents (Elt F) → (⟨S1x100, .f32⟩ : BufTy).Contents (Elt F) → (⟨S512x100, .f32⟩ : BufTy).Contents (Elt F)),
    StableHlo.unary main_v4_2 main_while0b_v12 (broadcastInDim S1x100 ![1] bcast_S100_S1x100_1 : (⟨S100, .f32⟩ : BufTy).Contents (Elt F) → (⟨S1x100, .f32⟩ : BufTy).Contents (Elt F)),
    StableHlo.unary main_while0b_v12 main_while0b_v13 (broadcastInDim S512x100 ![0, 1] bcast_S1x100_S512x100_0_1 : (⟨S1x100, .f32⟩ : BufTy).Contents (Elt F) → (⟨S512x100, .f32⟩ : BufTy).Contents (Elt F)),
    StableHlo.binary main_while0b_v11 main_while0b_v13 main_while0b_v14 (addf : (⟨S512x100, .f32⟩ : BufTy).Contents (Elt F) → (⟨S512x100, .f32⟩ : BufTy).Contents (Elt F) → (⟨S512x100, .f32⟩ : BufTy).Contents (Elt F)),
    StableHlo.unary main_while0b_v14 main_while0b_v15 (Host.negf : (⟨S512x100, .f32⟩ : BufTy).Contents (Elt F) → (⟨S512x100, .f32⟩ : BufTy).Contents (Elt F)),
    StableHlo.unary main_while0b_v15 main_while0b_v16 (Host.exp : (⟨S512x100, .f32⟩ : BufTy).Contents (Elt F) → (⟨S512x100, .f32⟩ : BufTy).Contents (Elt F)),
    StableHlo.nullary main_while0b_cst_16 (constant S_ .f32 0x3F800000#32),
    StableHlo.unary main_while0b_cst_16 main_while0b_v17 (broadcastInDim S512x100 ![] bcast_S_S512x100 : (⟨S_, .f32⟩ : BufTy).Contents (Elt F) → (⟨S512x100, .f32⟩ : BufTy).Contents (Elt F)),
    StableHlo.binary main_while0b_v17 main_while0b_v16 main_while0b_v18 (addf : (⟨S512x100, .f32⟩ : BufTy).Contents (Elt F) → (⟨S512x100, .f32⟩ : BufTy).Contents (Elt F) → (⟨S512x100, .f32⟩ : BufTy).Contents (Elt F)),
    StableHlo.nullary main_while0b_cst_17 (constant S_ .f32 0x3F800000#32),
    StableHlo.unary main_while0b_cst_17 main_while0b_v19 (broadcastInDim S512x100 ![] bcast_S_S512x100 : (⟨S_, .f32⟩ : BufTy).Contents (Elt F) → (⟨S512x100, .f32⟩ : BufTy).Contents (Elt F)),
    StableHlo.binary main_while0b_v19 main_while0b_v18 main_while0b_v20 (Host.divf : (⟨S512x100, .f32⟩ : BufTy).Contents (Elt F) → (⟨S512x100, .f32⟩ : BufTy).Contents (Elt F) → (⟨S512x100, .f32⟩ : BufTy).Contents (Elt F)) ]

abbrev aOps2_W : List (Ref sig .tc) := [main_while0b_v9, main_while0b_v10, main_while0b_v11, main_while0b_v12, main_while0b_v13, main_while0b_v14, main_while0b_v15, main_while0b_v16, main_while0b_cst_16, main_while0b_v17, main_while0b_v18, main_while0b_cst_17, main_while0b_v19, main_while0b_v20]

theorem aOps2_writes : (aOps2 : List (HloOp τ sig (Elt F))).Forall fun op => op.writes ⊆ (aOps2_W.map (Proc.devRef (τ := τ) .tc)).toFinset :=
  StableHlo.forall_writes_sub_of_map rfl

/-- Part 4 of a trip of loop 1. -/
abbrev aOps3 : List (HloOp τ sig (Elt F)) :=
  [ StableHlo.binary main_while0b_v20 main_v4_3 main_while0b_v21 ((fun l r => Host.dotGeneral dot_S512x100_S100x50_S512x50_1_0_0_1_n_n none l r) : (⟨S512x100, .f32⟩ : BufTy).Contents (Elt F) → (⟨S100x50, .f32⟩ : BufTy).Contents (Elt F) → (⟨S512x50, .f32⟩ : BufTy).Contents (Elt F)),
    StableHlo.unary main_v4_4 main_while0b_v22 (broadcastInDim S1x50 ![1] bcast_S50_S1x50_1 : (⟨S50, .f32⟩ : BufTy).Contents (Elt F) → (⟨S1x50, .f32⟩ : BufTy).Contents (Elt F)),
    StableHlo.unary main_while0b_v22 main_while0b_v23 (broadcastInDim S512x50 ![0, 1] bcast_S1x50_S512x50_0_1 : (⟨S1x50, .f32⟩ : BufTy).Contents (Elt F) → (⟨S512x50, .f32⟩ : BufTy).Contents (Elt F)),
    StableHlo.binary main_while0b_v21 main_while0b_v23 main_while0b_v24 (addf : (⟨S512x50, .f32⟩ : BufTy).Contents (Elt F) → (⟨S512x50, .f32⟩ : BufTy).Contents (Elt F) → (⟨S512x50, .f32⟩ : BufTy).Contents (Elt F)),
    StableHlo.TRef.nullary (.of main_while0b_call1_cst : StableHlo.TRef sig ⟨S_, .f32⟩) (constant S_ .f32 0x00000000#32),
    StableHlo.TRef.unary (.of main_while0b_call1_cst : StableHlo.TRef sig ⟨S_, .f32⟩) (.of main_while0b_call1_v0 : StableHlo.TRef sig ⟨S512x50, .f32⟩) (broadcastInDim S512x50 ![] bcast_S_S512x50),
    StableHlo.TRef.binary (.of main_while0b_v24 : StableHlo.TRef sig ⟨S512x50, .f32⟩) (.of main_while0b_call1_v0 : StableHlo.TRef sig ⟨S512x50, .f32⟩) (.of main_while0b_v25 : StableHlo.TRef sig ⟨S512x50, .f32⟩) maximumf,
    StableHlo.binary main_while0b_v25 main_v4_5 main_while0b_v26 ((fun l r => Host.dotGeneral dot_S512x50_S50x16_S512x16_1_0_0_1_n_n none l r) : (⟨S512x50, .f32⟩ : BufTy).Contents (Elt F) → (⟨S50x16, .f32⟩ : BufTy).Contents (Elt F) → (⟨S512x16, .f32⟩ : BufTy).Contents (Elt F)),
    StableHlo.unary main_v4_6 main_while0b_v27 (broadcastInDim S1x16 ![1] bcast_S16_S1x16_1 : (⟨S16, .f32⟩ : BufTy).Contents (Elt F) → (⟨S1x16, .f32⟩ : BufTy).Contents (Elt F)),
    StableHlo.unary main_while0b_v27 main_while0b_v28 (broadcastInDim S512x16 ![0, 1] bcast_S1x16_S512x16_0_1 : (⟨S1x16, .f32⟩ : BufTy).Contents (Elt F) → (⟨S512x16, .f32⟩ : BufTy).Contents (Elt F)),
    StableHlo.binary main_while0b_v26 main_while0b_v28 main_while0b_v29 (addf : (⟨S512x16, .f32⟩ : BufTy).Contents (Elt F) → (⟨S512x16, .f32⟩ : BufTy).Contents (Elt F) → (⟨S512x16, .f32⟩ : BufTy).Contents (Elt F)) ]

abbrev aOps3_W : List (Ref sig .tc) := [main_while0b_v21, main_while0b_v22, main_while0b_v23, main_while0b_v24, main_while0b_call1_cst, main_while0b_call1_v0, main_while0b_v25, main_while0b_v26, main_while0b_v27, main_while0b_v28, main_while0b_v29]

theorem aOps3_writes : (aOps3 : List (HloOp τ sig (Elt F))).Forall fun op => op.writes ⊆ (aOps3_W.map (Proc.devRef (τ := τ) .tc)).toFinset :=
  StableHlo.forall_writes_sub_of_map rfl

/-- Part 5 of a trip of loop 1. -/
abbrev aOps4 : List (HloOp τ sig (Elt F)) :=
  [ StableHlo.nullary main_while0b_c_18 (constantI S_ 32 0#32),
    StableHlo.unary main_while0b_c_18 main_while0b_v30 (broadcastInDim S16x2 ![] bcast_S_S16x2 : (⟨S_, .i32⟩ : BufTy).Contents (Elt F) → (⟨S16x2, .i32⟩ : BufTy).Contents (Elt F)),
    StableHlo.binary main_v4_7 main_while0b_v30 main_while0b_v31 (cmpi .slt : (⟨S16x2, .i32⟩ : BufTy).Contents (Elt F) → (⟨S16x2, .i32⟩ : BufTy).Contents (Elt F) → (⟨S16x2, .i1⟩ : BufTy).Contents (Elt F)),
    StableHlo.nullary main_while0b_c_19 (constantI S_ 32 16#32),
    StableHlo.unary main_while0b_c_19 main_while0b_v32 (broadcastInDim S16x2 ![] bcast_S_S16x2 : (⟨S_, .i32⟩ : BufTy).Contents (Elt F) → (⟨S16x2, .i32⟩ : BufTy).Contents (Elt F)),
    StableHlo.binary main_v4_7 main_while0b_v32 main_while0b_v33 (addi : (⟨S16x2, .i32⟩ : BufTy).Contents (Elt F) → (⟨S16x2, .i32⟩ : BufTy).Contents (Elt F) → (⟨S16x2, .i32⟩ : BufTy).Contents (Elt F)),
    StableHlo.ternary main_while0b_v31 main_while0b_v33 main_v4_7 main_while0b_v34 (select : (⟨S16x2, .i1⟩ : BufTy).Contents (Elt F) → (⟨S16x2, .i32⟩ : BufTy).Contents (Elt F) → (⟨S16x2, .i32⟩ : BufTy).Contents (Elt F) → (⟨S16x2, .i32⟩ : BufTy).Contents (Elt F)),
    StableHlo.unary main_while0b_v34 main_while0b_v35 (broadcastInDim S16x2x1 ![0, 1] bcast_S16x2_S16x2x1_0_1 : (⟨S16x2, .i32⟩ : BufTy).Contents (Elt F) → (⟨S16x2x1, .i32⟩ : BufTy).Contents (Elt F)),
    StableHlo.binary main_v4_10 main_while0b_v35 main_while0b_v36 ((fun x i => Host.gather gather_S512x16_S16x2x1_S512x16x2_0_1_n_n_1_2_5121 x i) : (⟨S512x16, .f32⟩ : BufTy).Contents (Elt F) → (⟨S16x2x1, .i32⟩ : BufTy).Contents (Elt F) → (⟨S512x16x2, .f32⟩ : BufTy).Contents (Elt F)),
    StableHlo.unary main_while0b_v29 main_while0b_v37 (broadcastInDim S512x16x1 ![0, 1] bcast_S512x16_S512x16x1_0_1 : (⟨S512x16, .f32⟩ : BufTy).Contents (Elt F) → (⟨S512x16x1, .f32⟩ : BufTy).Contents (Elt F)),
    StableHlo.unary main_while0b_v37 main_while0b_v38 (broadcastInDim S512x16x2 ![0, 1, 2] bcast_S512x16x1_S512x16x2_0_1_2 : (⟨S512x16x1, .f32⟩ : BufTy).Contents (Elt F) → (⟨S512x16x2, .f32⟩ : BufTy).Contents (Elt F)),
    StableHlo.binary main_while0b_v36 main_while0b_v38 main_while0b_v39 (addf : (⟨S512x16x2, .f32⟩ : BufTy).Contents (Elt F) → (⟨S512x16x2, .f32⟩ : BufTy).Contents (Elt F) → (⟨S512x16x2, .f32⟩ : BufTy).Contents (Elt F)) ]

abbrev aOps4_W : List (Ref sig .tc) := [main_while0b_c_18, main_while0b_v30, main_while0b_v31, main_while0b_c_19, main_while0b_v32, main_while0b_v33, main_while0b_v34, main_while0b_v35, main_while0b_v36, main_while0b_v37, main_while0b_v38, main_while0b_v39]

theorem aOps4_writes : (aOps4 : List (HloOp τ sig (Elt F))).Forall fun op => op.writes ⊆ (aOps4_W.map (Proc.devRef (τ := τ) .tc)).toFinset :=
  StableHlo.forall_writes_sub_of_map rfl

/-- Part 6 of a trip of loop 1. -/
abbrev aOps5 : List (HloOp τ sig (Elt F)) :=
  [ StableHlo.nullary main_while0b_cst_20 (constant S_ .f32 0x7F800000#32),
    StableHlo.binary main_while0b_v39 main_while0b_cst_20 main_while0b_v40 ((fun x v => Host.reduce FloatOps.minimumf x v reducesTo_S512x16x2_S512x16_d2 h_S_) : (⟨S512x16x2, .f32⟩ : BufTy).Contents (Elt F) → (⟨S_, .f32⟩ : BufTy).Contents (Elt F) → (⟨S512x16, .f32⟩ : BufTy).Contents (Elt F)),
    StableHlo.TRef.nullary (.of main_while0b_call2_v0 : StableHlo.TRef sig ⟨S512x16x2, .i32⟩) (iotaInDim S512x16x2 32 2),
    StableHlo.TRef.nullary (.of main_while0b_call2_cst : StableHlo.TRef sig ⟨S_, .f32⟩) (constant S_ .f32 0x7F800000#32),
    StableHlo.TRef.nullary (.of main_while0b_call2_c : StableHlo.TRef sig ⟨S_, .i32⟩) (constantI S_ 32 0#32),
    StableHlo.TRef.quaternary (.of main_while0b_v39 : StableHlo.TRef sig ⟨S512x16x2, .f32⟩) (.of main_while0b_call2_v0 : StableHlo.TRef sig ⟨S512x16x2, .i32⟩) (.of main_while0b_call2_cst : StableHlo.TRef sig ⟨S_, .f32⟩) (.of main_while0b_call2_c : StableHlo.TRef sig ⟨S_, .i32⟩) (.of main_while0b_call2_v1_0 : StableHlo.TRef sig ⟨S512x16, .f32⟩) (fun x y u v j => (Host.argReduce reducer_argmin_f32_i32 x y u v reducesTo_S512x16x2_S512x16_d2 h_S_ j).1),
    StableHlo.TRef.quaternary (.of main_while0b_v39 : StableHlo.TRef sig ⟨S512x16x2, .f32⟩) (.of main_while0b_call2_v0 : StableHlo.TRef sig ⟨S512x16x2, .i32⟩) (.of main_while0b_call2_cst : StableHlo.TRef sig ⟨S_, .f32⟩) (.of main_while0b_call2_c : StableHlo.TRef sig ⟨S_, .i32⟩) (.of main_while0b_v41 : StableHlo.TRef sig ⟨S512x16, .i32⟩) (fun x y u v j => (Host.argReduce reducer_argmin_f32_i32 x y u v reducesTo_S512x16x2_S512x16_d2 h_S_ j).2) ]

abbrev aOps5_W : List (Ref sig .tc) := [main_while0b_cst_20, main_while0b_v40, main_while0b_call2_v0, main_while0b_call2_cst, main_while0b_call2_c, main_while0b_call2_v1_0, main_while0b_v41]

theorem aOps5_writes : (aOps5 : List (HloOp τ sig (Elt F))).Forall fun op => op.writes ⊆ (aOps5_W.map (Proc.devRef (τ := τ) .tc)).toFinset :=
  StableHlo.forall_writes_sub_of_map rfl

/-- Part 7 of a trip of loop 1. -/
abbrev aOps6 : List (HloOp τ sig (Elt F)) :=
  [ StableHlo.unary main_v4_8 main_while0b_v42 (broadcastInDim S1x16 ![1] bcast_S16_S1x16_1 : (⟨S16, .i32⟩ : BufTy).Contents (Elt F) → (⟨S1x16, .i32⟩ : BufTy).Contents (Elt F)),
    StableHlo.nullary main_while0b_c_21 (constantI S_ 32 0#32),
    StableHlo.unary main_while0b_c_21 main_while0b_v43 (broadcastInDim S1x16 ![] bcast_S_S1x16 : (⟨S_, .i32⟩ : BufTy).Contents (Elt F) → (⟨S1x16, .i32⟩ : BufTy).Contents (Elt F)),
    StableHlo.binary main_while0b_v42 main_while0b_v43 main_while0b_v44 (cmpi .slt : (⟨S1x16, .i32⟩ : BufTy).Contents (Elt F) → (⟨S1x16, .i32⟩ : BufTy).Contents (Elt F) → (⟨S1x16, .i1⟩ : BufTy).Contents (Elt F)),
    StableHlo.nullary main_while0b_c_22 (constantI S_ 32 16#32),
    StableHlo.unary main_while0b_c_22 main_while0b_v45 (broadcastInDim S1x16 ![] bcast_S_S1x16 : (⟨S_, .i32⟩ : BufTy).Contents (Elt F) → (⟨S1x16, .i32⟩ : BufTy).Contents (Elt F)),
    StableHlo.binary main_while0b_v42 main_while0b_v45 main_while0b_v46 (addi : (⟨S1x16, .i32⟩ : BufTy).Contents (Elt F) → (⟨S1x16, .i32⟩ : BufTy).Contents (Elt F) → (⟨S1x16, .i32⟩ : BufTy).Contents (Elt F)),
    StableHlo.ternary main_while0b_v44 main_while0b_v46 main_while0b_v42 main_while0b_v47 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    StableHlo.nullary main_while0b_c_23 (constantI S_ 32 0#32),
    StableHlo.unary main_while0b_c_23 main_while0b_v48 (broadcastInDim S512x16 ![] bcast_S_S512x16 : (⟨S_, .i32⟩ : BufTy).Contents (Elt F) → (⟨S512x16, .i32⟩ : BufTy).Contents (Elt F)),
    StableHlo.binary main_while0b_v41 main_while0b_v48 main_while0b_v49 (cmpi .slt : (⟨S512x16, .i32⟩ : BufTy).Contents (Elt F) → (⟨S512x16, .i32⟩ : BufTy).Contents (Elt F) → (⟨S512x16, .i1⟩ : BufTy).Contents (Elt F)),
    StableHlo.nullary main_while0b_c_24 (constantI S_ 32 2#32),
    StableHlo.unary main_while0b_c_24 main_while0b_v50 (broadcastInDim S512x16 ![] bcast_S_S512x16 : (⟨S_, .i32⟩ : BufTy).Contents (Elt F) → (⟨S512x16, .i32⟩ : BufTy).Contents (Elt F)),
    StableHlo.binary main_while0b_v41 main_while0b_v50 main_while0b_v51 (addi : (⟨S512x16, .i32⟩ : BufTy).Contents (Elt F) → (⟨S512x16, .i32⟩ : BufTy).Contents (Elt F) → (⟨S512x16, .i32⟩ : BufTy).Contents (Elt F)),
    StableHlo.ternary main_while0b_v49 main_while0b_v51 main_while0b_v41 main_while0b_v52 (select : (⟨S512x16, .i1⟩ : BufTy).Contents (Elt F) → (⟨S512x16, .i32⟩ : BufTy).Contents (Elt F) → (⟨S512x16, .i32⟩ : BufTy).Contents (Elt F) → (⟨S512x16, .i32⟩ : BufTy).Contents (Elt F)),
    StableHlo.unary main_while0b_v47 main_while0b_v53 (broadcastInDim S512x16 ![0, 1] bcast_S1x16_S512x16_0_1 : (⟨S1x16, .i32⟩ : BufTy).Contents (Elt F) → (⟨S512x16, .i32⟩ : BufTy).Contents (Elt F)),
    StableHlo.unary main_while0b_v53 main_while0b_v54 (broadcastInDim S512x16x1 ![0, 1] bcast_S512x16_S512x16x1_0_1 : (⟨S512x16, .i32⟩ : BufTy).Contents (Elt F) → (⟨S512x16x1, .i32⟩ : BufTy).Contents (Elt F)),
    StableHlo.unary main_while0b_v52 main_while0b_v55 (broadcastInDim S512x16x1 ![0, 1] bcast_S512x16_S512x16x1_0_1 : (⟨S512x16, .i32⟩ : BufTy).Contents (Elt F) → (⟨S512x16x1, .i32⟩ : BufTy).Contents (Elt F)),
    StableHlo.binary main_while0b_v54 main_while0b_v55 main_while0b_v56 ((fun a b => concatenate S512x16x2 2 [⟨S512x16x1, a⟩, ⟨S512x16x1, b⟩] concatenates_S512x16x1_S512x16x1_S512x16x2_d2) : (⟨S512x16x1, .i32⟩ : BufTy).Contents (Elt F) → (⟨S512x16x1, .i32⟩ : BufTy).Contents (Elt F) → (⟨S512x16x2, .i32⟩ : BufTy).Contents (Elt F)),
    StableHlo.binary main_v4_7 main_while0b_v56 main_while0b_v57 ((fun x i => Host.gather gather_S16x2_S512x16x2_S512x16_n_01_n_n_01_2_11 x i) : (⟨S16x2, .i32⟩ : BufTy).Contents (Elt F) → (⟨S512x16x2, .i32⟩ : BufTy).Contents (Elt F) → (⟨S512x16, .i32⟩ : BufTy).Contents (Elt F)) ]

abbrev aOps6_W : List (Ref sig .tc) := [main_while0b_v42, main_while0b_c_21, main_while0b_v43, main_while0b_v44, main_while0b_c_22, main_while0b_v45, main_while0b_v46, main_while0b_v47, main_while0b_c_23, main_while0b_v48, main_while0b_v49, main_while0b_c_24, main_while0b_v50, main_while0b_v51, main_while0b_v52, main_while0b_v53, main_while0b_v54, main_while0b_v55, main_while0b_v56, main_while0b_v57]

theorem aOps6_writes : (aOps6 : List (HloOp τ sig (Elt F))).Forall fun op => op.writes ⊆ (aOps6_W.map (Proc.devRef (τ := τ) .tc)).toFinset :=
  StableHlo.forall_writes_sub_of_map rfl

/-- Part 8 of a trip of loop 1. -/
abbrev aOps7 : List (HloOp τ sig (Elt F)) :=
  [ StableHlo.TRef.unary (.of main_while0b_v57 : StableHlo.TRef sig ⟨S512x16, .i32⟩) (.of main_while0b_call3_v0 : StableHlo.TRef sig ⟨S1x512x16, .i32⟩) (broadcastInDim S1x512x16 ![1, 2] bcast_S512x16_S1x512x16_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32) ]

abbrev aOps7_W : List (Ref sig .tc) := [main_while0b_call3_v0, main_while0b_call3_c, main_while0b_call3_c_0]

theorem aOps7_writes : (aOps7 : List (HloOp τ sig (Elt F))).Forall fun op => op.writes ⊆ (aOps7_W.map (Proc.devRef (τ := τ) .tc)).toFinset :=
  StableHlo.forall_writes_sub_of_map rfl

/-- Part 9 of a trip of loop 1. -/
abbrev aOps8 : List (HloOp τ sig (Elt F)) :=
  [ StableHlo.TRef.binaryIndexed (.of main_v4_11 : StableHlo.TRef sig ⟨S2048x512x16, .i32⟩) (.of main_while0b_call3_v0 : StableHlo.TRef sig ⟨S1x512x16, .i32⟩) ![(.of main_v4_9 : StableHlo.TRef sig ⟨S_, .i32⟩), (.of main_while0b_call3_c : StableHlo.TRef sig ⟨S_, .i32⟩), (.of main_while0b_call3_c_0 : StableHlo.TRef sig ⟨S_, .i32⟩)] (.of main_while0b_v58 : StableHlo.TRef sig ⟨S2048x512x16, .i32⟩) (fun x u i => Host.dynamicUpdateSlice x u (fun k => (i k (Shape.Idx.first h_S_)).toInt) updateFits_S2048x512x16_S1x512x16) ]

abbrev aOps8_W : List (Ref sig .tc) := [main_while0b_v58]

theorem aOps8_writes : (aOps8 : List (HloOp τ sig (Elt F))).Forall fun op => op.writes ⊆ (aOps8_W.map (Proc.devRef (τ := τ) .tc)).toFinset :=
  StableHlo.forall_writes_sub_of_map rfl

/-- Part 10 of a trip of loop 1. -/
abbrev aOps9 : List (HloOp τ sig (Elt F)) :=
  [ StableHlo.nullary main_while0b_c_25 (constantI S_ 32 1#32),
    StableHlo.binary main_v4_9 main_while0b_c_25 main_while0b_v59 (addi : (⟨S_, .i32⟩ : BufTy).Contents (Elt F) → (⟨S_, .i32⟩ : BufTy).Contents (Elt F) → (⟨S_, .i32⟩ : BufTy).Contents (Elt F)),
    StableHlo.unary main_while0b_v59 main_v4_9 id,
    StableHlo.unary main_while0b_v40 main_v4_10 id,
    StableHlo.unary main_while0b_v58 main_v4_11 id ]

abbrev aOps9_W : List (Ref sig .tc) := [main_while0b_c_25, main_while0b_v59, main_v4_9, main_v4_10, main_v4_11]

theorem aOps9_writes : (aOps9 : List (HloOp τ sig (Elt F))).Forall fun op => op.writes ⊆ (aOps9_W.map (Proc.devRef (τ := τ) .tc)).toFinset :=
  StableHlo.forall_writes_sub_of_map rfl

theorem body0Ops_parts (X : Valuation τ sig (Elt F)) : after body0Ops X = (after aOps9 (after aOps8 (after aOps7 (after aOps6 (after aOps5 (after aOps4 (after aOps3 (after aOps2 (after aOps1 (after aOps0 X)))))))))) := by
  rw [show (body0Ops : List (HloOp τ sig (Elt F))) = aOps0 ++ aOps1 ++ aOps2 ++ aOps3 ++ aOps4 ++ aOps5 ++ aOps6 ++ aOps7 ++ aOps8 ++ aOps9 from rfl]
  simp only [after_append]

/-- Part 1 of a trip of loop 2. -/
abbrev bOps0 : List (HloOp τ sig (Elt F)) :=
  [ StableHlo.nullary main_while1b_c_8 (constantI S_ 32 2048#32),
    StableHlo.binary main_while1b_c_8 main_v7_1 main_while1b_v9 (subi : (⟨S_, .i32⟩ : BufTy).Contents (Elt F) → (⟨S_, .i32⟩ : BufTy).Contents (Elt F) → (⟨S_, .i32⟩ : BufTy).Contents (Elt F)),
    StableHlo.nullary main_while1b_c_9 (constantI S_ 32 1#32),
    StableHlo.binary main_while1b_v9 main_while1b_c_9 main_while1b_v10 (subi : (⟨S_, .i32⟩ : BufTy).Contents (Elt F) → (⟨S_, .i32⟩ : BufTy).Contents (Elt F) → (⟨S_, .i32⟩ : BufTy).Contents (Elt F)),
    StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32) ]

abbrev bOps0_W : List (Ref sig .tc) := [main_while1b_c_8, main_while1b_v9, main_while1b_c_9, main_while1b_v10, main_while1b_call4_c, main_while1b_call4_c_0]

theorem bOps0_writes : (bOps0 : List (HloOp τ sig (Elt F))).Forall fun op => op.writes ⊆ (bOps0_W.map (Proc.devRef (τ := τ) .tc)).toFinset :=
  StableHlo.forall_writes_sub_of_map rfl

/-- Part 2 of a trip of loop 2. -/
abbrev bOps1 : List (HloOp τ sig (Elt F)) :=
  [ StableHlo.TRef.unaryIndexed (.of main_v7_0 : StableHlo.TRef sig ⟨S2048x512x16, .i32⟩) ![(.of main_while1b_v10 : StableHlo.TRef sig ⟨S_, .i32⟩), (.of main_while1b_call4_c : StableHlo.TRef sig ⟨S_, .i32⟩), (.of main_while1b_call4_c_0 : StableHlo.TRef sig ⟨S_, .i32⟩)] (.of main_while1b_call4_v0 : StableHlo.TRef sig ⟨S1x512x16, .i32⟩) (fun x i => Host.dynamicSlice S1x512x16 x (fun k => (i k (Shape.Idx.first h_S_)).toInt) sliceFits_S2048x512x16_S1x512x16) ]

abbrev bOps1_W : List (Ref sig .tc) := [main_while1b_call4_v0]

theorem bOps1_writes : (bOps1 : List (HloOp τ sig (Elt F))).Forall fun op => op.writes ⊆ (bOps1_W.map (Proc.devRef (τ := τ) .tc)).toFinset :=
  StableHlo.forall_writes_sub_of_map rfl

/-- Part 3 of a trip of loop 2. -/
abbrev bOps2 : List (HloOp τ sig (Elt F)) :=
  [ StableHlo.TRef.reshape (.of main_while1b_call4_v0 : StableHlo.TRef sig ⟨S1x512x16, .i32⟩) (.of main_while1b_v11 : StableHlo.TRef sig ⟨S512x16, .i32⟩) (rfl : (.i32 : EltTy) = .i32) shapeCasts_S1x512x16_S512x16 ]

abbrev bOps2_W : List (Ref sig .tc) := [main_while1b_v11]

theorem bOps2_writes : (bOps2 : List (HloOp τ sig (Elt F))).Forall fun op => op.writes ⊆ (bOps2_W.map (Proc.devRef (τ := τ) .tc)).toFinset :=
  StableHlo.forall_writes_sub_of_map rfl

/-- Part 4 of a trip of loop 2. -/
abbrev bOps3 : List (HloOp τ sig (Elt F)) :=
  [ StableHlo.nullary main_while1b_v12 (iotaInDim S512 32 0),
    StableHlo.nullary main_while1b_c_10 (constantI S_ 32 0#32),
    StableHlo.unary main_while1b_c_10 main_while1b_v13 (broadcastInDim S512 ![] bcast_S_S512 : (⟨S_, .i32⟩ : BufTy).Contents (Elt F) → (⟨S512, .i32⟩ : BufTy).Contents (Elt F)),
    StableHlo.binary main_while1b_v12 main_while1b_v13 main_while1b_v14 (cmpi .slt : (⟨S512, .i32⟩ : BufTy).Contents (Elt F) → (⟨S512, .i32⟩ : BufTy).Contents (Elt F) → (⟨S512, .i1⟩ : BufTy).Contents (Elt F)),
    StableHlo.nullary main_while1b_c_11 (constantI S_ 32 512#32),
    StableHlo.unary main_while1b_c_11 main_while1b_v15 (broadcastInDim S512 ![] bcast_S_S512 : (⟨S_, .i32⟩ : BufTy).Contents (Elt F) → (⟨S512, .i32⟩ : BufTy).Contents (Elt F)),
    StableHlo.binary main_while1b_v12 main_while1b_v15 main_while1b_v16 (addi : (⟨S512, .i32⟩ : BufTy).Contents (Elt F) → (⟨S512, .i32⟩ : BufTy).Contents (Elt F) → (⟨S512, .i32⟩ : BufTy).Contents (Elt F)),
    StableHlo.ternary main_while1b_v14 main_while1b_v16 main_while1b_v12 main_while1b_v17 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.nullary main_while1b_c_12 (constantI S_ 32 0#32),
    StableHlo.unary main_while1b_c_12 main_while1b_v18 (broadcastInDim S512 ![] bcast_S_S512 : (⟨S_, .i32⟩ : BufTy).Contents (Elt F) → (⟨S512, .i32⟩ : BufTy).Contents (Elt F)),
    StableHlo.binary main_v7_2 main_while1b_v18 main_while1b_v19 (cmpi .slt : (⟨S512, .i32⟩ : BufTy).Contents (Elt F) → (⟨S512, .i32⟩ : BufTy).Contents (Elt F) → (⟨S512, .i1⟩ : BufTy).Contents (Elt F)),
    StableHlo.nullary main_while1b_c_13 (constantI S_ 32 16#32),
    StableHlo.unary main_while1b_c_13 main_while1b_v20 (broadcastInDim S512 ![] bcast_S_S512 : (⟨S_, .i32⟩ : BufTy).Contents (Elt F) → (⟨S512, .i32⟩ : BufTy).Contents (Elt F)),
    StableHlo.binary main_v7_2 main_while1b_v20 main_while1b_v21 (addi : (⟨S512, .i32⟩ : BufTy).Contents (Elt F) → (⟨S512, .i32⟩ : BufTy).Contents (Elt F) → (⟨S512, .i32⟩ : BufTy).Contents (Elt F)),
    StableHlo.ternary main_while1b_v19 main_while1b_v21 main_v7_2 main_while1b_v22 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_while1b_v17 main_while1b_v23 (broadcastInDim S512x1 ![0] bcast_S512_S512x1_0 : (⟨S512, .i32⟩ : BufTy).Contents (Elt F) → (⟨S512x1, .i32⟩ : BufTy).Contents (Elt F)),
    StableHlo.unary main_while1b_v22 main_while1b_v24 (broadcastInDim S512x1 ![0] bcast_S512_S512x1_0 : (⟨S512, .i32⟩ : BufTy).Contents (Elt F) → (⟨S512x1, .i32⟩ : BufTy).Contents (Elt F)),
    StableHlo.binary main_while1b_v23 main_while1b_v24 main_while1b_v25 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    StableHlo.binary main_while1b_v11 main_while1b_v25 main_while1b_v26 ((fun x i => Host.gather gather_S512x16_S512x2_S512_n_01_n_n_01_1_11 x i) : (⟨S512x16, .i32⟩ : BufTy).Contents (Elt F) → (⟨S512x2, .i32⟩ : BufTy).Contents (Elt F) → (⟨S512, .i32⟩ : BufTy).Contents (Elt F)) ]

abbrev bOps3_W : List (Ref sig .tc) := [main_while1b_v12, main_while1b_c_10, main_while1b_v13, main_while1b_v14, main_while1b_c_11, main_while1b_v15, main_while1b_v16, main_while1b_v17, main_while1b_c_12, main_while1b_v18, main_while1b_v19, main_while1b_c_13, main_while1b_v20, main_while1b_v21, main_while1b_v22, main_while1b_v23, main_while1b_v24, main_while1b_v25, main_while1b_v26]

theorem bOps3_writes : (bOps3 : List (HloOp τ sig (Elt F))).Forall fun op => op.writes ⊆ (bOps3_W.map (Proc.devRef (τ := τ) .tc)).toFinset :=
  StableHlo.forall_writes_sub_of_map rfl

/-- Part 5 of a trip of loop 2. -/
abbrev bOps4 : List (HloOp τ sig (Elt F)) :=
  [ StableHlo.nullary main_while1b_c_14 (constantI S_ 32 8#32),
    StableHlo.unary main_while1b_c_14 main_while1b_v27 (broadcastInDim S512 ![] bcast_S_S512 : (⟨S_, .i32⟩ : BufTy).Contents (Elt F) → (⟨S512, .i32⟩ : BufTy).Contents (Elt F)),
    StableHlo.binary main_while1b_v26 main_while1b_v27 main_while1b_v28 (cmpi .sge : (⟨S512, .i32⟩ : BufTy).Contents (Elt F) → (⟨S512, .i32⟩ : BufTy).Contents (Elt F) → (⟨S512, .i1⟩ : BufTy).Contents (Elt F)),
    StableHlo.unary main_while1b_v28 main_while1b_v29 (uitofp .f32 : (⟨S512, .i1⟩ : BufTy).Contents (Elt F) → (⟨S512, .f32⟩ : BufTy).Contents (Elt F)),
    StableHlo.TRef.unary (.of main_while1b_v29 : StableHlo.TRef sig ⟨S512, .f32⟩) (.of main_while1b_call5_v0 : StableHlo.TRef sig ⟨S1x512, .f32⟩) (broadcastInDim S1x512 ![1] bcast_S512_S1x512_1),
    StableHlo.TRef.nullary (.of main_while1b_call5_c : StableHlo.TRef sig ⟨S_, .i32⟩) (constantI S_ 32 0#32) ]

abbrev bOps4_W : List (Ref sig .tc) := [main_while1b_c_14, main_while1b_v27, main_while1b_v28, main_while1b_v29, main_while1b_call5_v0, main_while1b_call5_c]

theorem bOps4_writes : (bOps4 : List (HloOp τ sig (Elt F))).Forall fun op => op.writes ⊆ (bOps4_W.map (Proc.devRef (τ := τ) .tc)).toFinset :=
  StableHlo.forall_writes_sub_of_map rfl

/-- Part 6 of a trip of loop 2. -/
abbrev bOps5 : List (HloOp τ sig (Elt F)) :=
  [ StableHlo.TRef.binaryIndexed (.of main_v7_3 : StableHlo.TRef sig ⟨S2048x512, .f32⟩) (.of main_while1b_call5_v0 : StableHlo.TRef sig ⟨S1x512, .f32⟩) ![(.of main_while1b_v10 : StableHlo.TRef sig ⟨S_, .i32⟩), (.of main_while1b_call5_c : StableHlo.TRef sig ⟨S_, .i32⟩)] (.of main_while1b_v30 : StableHlo.TRef sig ⟨S2048x512, .f32⟩) (fun x u i => Host.dynamicUpdateSlice x u (fun k => (i k (Shape.Idx.first h_S_)).toInt) updateFits_S2048x512_S1x512) ]

abbrev bOps5_W : List (Ref sig .tc) := [main_while1b_v30]

theorem bOps5_writes : (bOps5 : List (HloOp τ sig (Elt F))).Forall fun op => op.writes ⊆ (bOps5_W.map (Proc.devRef (τ := τ) .tc)).toFinset :=
  StableHlo.forall_writes_sub_of_map rfl

/-- Part 7 of a trip of loop 2. -/
abbrev bOps6 : List (HloOp τ sig (Elt F)) :=
  [ StableHlo.nullary main_while1b_c_15 (constantI S_ 32 1#32),
    StableHlo.binary main_v7_1 main_while1b_c_15 main_while1b_v31 (addi : (⟨S_, .i32⟩ : BufTy).Contents (Elt F) → (⟨S_, .i32⟩ : BufTy).Contents (Elt F) → (⟨S_, .i32⟩ : BufTy).Contents (Elt F)),
    StableHlo.unary main_while1b_v31 main_v7_1 id,
    StableHlo.unary main_while1b_v26 main_v7_2 id,
    StableHlo.unary main_while1b_v30 main_v7_3 id ]

abbrev bOps6_W : List (Ref sig .tc) := [main_while1b_c_15, main_while1b_v31, main_v7_1, main_v7_2, main_v7_3]

theorem bOps6_writes : (bOps6 : List (HloOp τ sig (Elt F))).Forall fun op => op.writes ⊆ (bOps6_W.map (Proc.devRef (τ := τ) .tc)).toFinset :=
  StableHlo.forall_writes_sub_of_map rfl

theorem body1Ops_parts (X : Valuation τ sig (Elt F)) : after body1Ops X = (after bOps6 (after bOps5 (after bOps4 (after bOps3 (after bOps2 (after bOps1 (after bOps0 X))))))) := by
  rw [show (body1Ops : List (HloOp τ sig (Elt F))) = bOps0 ++ bOps1 ++ bOps2 ++ bOps3 ++ bOps4 ++ bOps5 ++ bOps6 from rfl]
  simp only [after_append]

end

variable (X : Valuation τ sig (Elt Ideal))

theorem a0_call0_c : after (aOps0 (F := Ideal)) X (Proc.devRef .tc main_while0b_call0_c) = constantI S_ 32 0#32 := by
  after_results
  rfl

theorem a1_call0_v0 : after (aOps1 (F := Ideal)) X (Proc.devRef .tc main_while0b_call0_v0) = Host.dynamicSlice S1x512 (X (Proc.devRef .tc main_v4_0)) (fun j => ((![(X (Proc.devRef .tc main_v4_9)), (X (Proc.devRef .tc main_while0b_call0_c))] : Fin 2 → S_.Idx → BitVec 32) j (Shape.Idx.first h_S_)).toInt) sliceFits_S2048x512_S1x512 := by
  after_results
  refine congrArg (fun st => Host.dynamicSlice S1x512 (X (Proc.devRef .tc main_v4_0)) st sliceFits_S2048x512_S1x512) (funext fun j => ?_)
  fin_cases j <;> rfl

theorem a2_v20 : after (aOps2 (F := Ideal)) X (Proc.devRef .tc main_while0b_v20) = rHid1 (rCol (X (Proc.devRef .tc main_while0b_call0_v0))) (X (Proc.devRef .tc main_v4_1)) (X (Proc.devRef .tc main_v4_2)) := by
  after_results
  rfl

theorem a3_v29 : after (aOps3 (F := Ideal)) X (Proc.devRef .tc main_while0b_v29) = rPrior (rHid2 (X (Proc.devRef .tc main_while0b_v20)) (X (Proc.devRef .tc main_v4_3)) (X (Proc.devRef .tc main_v4_4))) (X (Proc.devRef .tc main_v4_5)) (X (Proc.devRef .tc main_v4_6)) := by
  after_results
  rfl

theorem a4_v39 : after (aOps4 (F := Ideal)) X (Proc.devRef .tc main_while0b_v39) = rPair (X (Proc.devRef .tc main_v4_7)) (X (Proc.devRef .tc main_v4_10)) (X (Proc.devRef .tc main_while0b_v29)) := by
  after_results
  rfl

theorem a5_v40 : after (aOps5 (F := Ideal)) X (Proc.devRef .tc main_while0b_v40) = rCost (X (Proc.devRef .tc main_while0b_v39)) := by
  after_results
  rfl

theorem a5_v41 : after (aOps5 (F := Ideal)) X (Proc.devRef .tc main_while0b_v41) = rArg (X (Proc.devRef .tc main_while0b_v39)) := by
  after_results
  rfl

theorem a6_v57 : after (aOps6 (F := Ideal)) X (Proc.devRef .tc main_while0b_v57) = rPrev (X (Proc.devRef .tc main_v4_7)) (X (Proc.devRef .tc main_v4_8)) (X (Proc.devRef .tc main_while0b_v41)) := by
  after_results
  rfl

theorem a7_call3_v0 : after (aOps7 (F := Ideal)) X (Proc.devRef .tc main_while0b_call3_v0) = broadcastInDim S1x512x16 ![1, 2] bcast_S512x16_S1x512x16_1_2 (X (Proc.devRef .tc main_while0b_v57)) := by
  after_results
  rfl

theorem a7_call3_c : after (aOps7 (F := Ideal)) X (Proc.devRef .tc main_while0b_call3_c) = constantI S_ 32 0#32 := by
  after_results
  rfl

theorem a7_call3_c_0 : after (aOps7 (F := Ideal)) X (Proc.devRef .tc main_while0b_call3_c_0) = constantI S_ 32 0#32 := by
  after_results
  rfl

theorem a8_v58 : after (aOps8 (F := Ideal)) X (Proc.devRef .tc main_while0b_v58) = Host.dynamicUpdateSlice (X (Proc.devRef .tc main_v4_11)) (X (Proc.devRef .tc main_while0b_call3_v0)) (fun j => ((![(X (Proc.devRef .tc main_v4_9)), (X (Proc.devRef .tc main_while0b_call3_c)), (X (Proc.devRef .tc main_while0b_call3_c_0))] : Fin 3 → S_.Idx → BitVec 32) j (Shape.Idx.first h_S_)).toInt) updateFits_S2048x512x16_S1x512x16 := by
  after_results
  refine congrArg (fun st => Host.dynamicUpdateSlice (X (Proc.devRef .tc main_v4_11)) (X (Proc.devRef .tc main_while0b_call3_v0)) st updateFits_S2048x512x16_S1x512x16) (funext fun j => ?_)
  fin_cases j <;> rfl

theorem a9_10 : after (aOps9 (F := Ideal)) X (Proc.devRef .tc main_v4_10) = (X (Proc.devRef .tc main_while0b_v40)) := by
  after_results
  rfl

theorem a9_11 : after (aOps9 (F := Ideal)) X (Proc.devRef .tc main_v4_11) = (X (Proc.devRef .tc main_while0b_v58)) := by
  after_results
  rfl

theorem b0_v10 : after (bOps0 (F := Ideal)) X (Proc.devRef .tc main_while1b_v10) = rTime (X (Proc.devRef .tc main_v7_1)) := by
  after_results
  rfl

theorem b0_call4_c : after (bOps0 (F := Ideal)) X (Proc.devRef .tc main_while1b_call4_c) = constantI S_ 32 0#32 := by
  after_results
  rfl

theorem b0_call4_c_0 : after (bOps0 (F := Ideal)) X (Proc.devRef .tc main_while1b_call4_c_0) = constantI S_ 32 0#32 := by
  after_results
  rfl

theorem b1_call4_v0 : after (bOps1 (F := Ideal)) X (Proc.devRef .tc main_while1b_call4_v0) = Host.dynamicSlice S1x512x16 (X (Proc.devRef .tc main_v7_0)) (fun j => ((![(X (Proc.devRef .tc main_while1b_v10)), (X (Proc.devRef .tc main_while1b_call4_c)), (X (Proc.devRef .tc main_while1b_call4_c_0))] : Fin 3 → S_.Idx → BitVec 32) j (Shape.Idx.first h_S_)).toInt) sliceFits_S2048x512x16_S1x512x16 := by
  after_results
  refine congrArg (fun st => Host.dynamicSlice S1x512x16 (X (Proc.devRef .tc main_v7_0)) st sliceFits_S2048x512x16_S1x512x16) (funext fun j => ?_)
  fin_cases j <;> rfl

theorem b2_v11 : after (bOps2 (F := Ideal)) X (Proc.devRef .tc main_while1b_v11) = shapeCast S512x16 (X (Proc.devRef .tc main_while1b_call4_v0)) shapeCasts_S1x512x16_S512x16 := by
  after_results
  rfl

theorem b3_v26 : after (bOps3 (F := Ideal)) X (Proc.devRef .tc main_while1b_v26) = rState (X (Proc.devRef .tc main_while1b_v11)) (X (Proc.devRef .tc main_v7_2)) := by
  after_results
  rfl

theorem b4_call5_v0 : after (bOps4 (F := Ideal)) X (Proc.devRef .tc main_while1b_call5_v0) = rPut (X (Proc.devRef .tc main_while1b_v26)) := by
  after_results
  rfl

theorem b4_call5_c : after (bOps4 (F := Ideal)) X (Proc.devRef .tc main_while1b_call5_c) = constantI S_ 32 0#32 := by
  after_results
  rfl

theorem b5_v30 : after (bOps5 (F := Ideal)) X (Proc.devRef .tc main_while1b_v30) = Host.dynamicUpdateSlice (X (Proc.devRef .tc main_v7_3)) (X (Proc.devRef .tc main_while1b_call5_v0)) (fun j => ((![(X (Proc.devRef .tc main_while1b_v10)), (X (Proc.devRef .tc main_while1b_call5_c))] : Fin 2 → S_.Idx → BitVec 32) j (Shape.Idx.first h_S_)).toInt) updateFits_S2048x512_S1x512 := by
  after_results
  refine congrArg (fun st => Host.dynamicUpdateSlice (X (Proc.devRef .tc main_v7_3)) (X (Proc.devRef .tc main_while1b_call5_v0)) st updateFits_S2048x512_S1x512) (funext fun j => ?_)
  fin_cases j <;> rfl

theorem b6_2 : after (bOps6 (F := Ideal)) X (Proc.devRef .tc main_v7_2) = (X (Proc.devRef .tc main_while1b_v26)) := by
  after_results
  rfl

theorem b6_3 : after (bOps6 (F := Ideal)) X (Proc.devRef .tc main_v7_3) = (X (Proc.devRef .tc main_while1b_v30)) := by
  after_results
  rfl

theorem aKeep0 (b : Ref sig .tc) (h : b ∉ aOps0_W) : after (aOps0 (F := Ideal)) X (Proc.devRef .tc b) = X (Proc.devRef .tc b) := after_of_writes_sub aOps0 X aOps0_writes h
theorem aKeep1 (b : Ref sig .tc) (h : b ∉ aOps1_W) : after (aOps1 (F := Ideal)) X (Proc.devRef .tc b) = X (Proc.devRef .tc b) := after_of_writes_sub aOps1 X aOps1_writes h
theorem aKeep2 (b : Ref sig .tc) (h : b ∉ aOps2_W) : after (aOps2 (F := Ideal)) X (Proc.devRef .tc b) = X (Proc.devRef .tc b) := after_of_writes_sub aOps2 X aOps2_writes h
theorem aKeep3 (b : Ref sig .tc) (h : b ∉ aOps3_W) : after (aOps3 (F := Ideal)) X (Proc.devRef .tc b) = X (Proc.devRef .tc b) := after_of_writes_sub aOps3 X aOps3_writes h
theorem aKeep4 (b : Ref sig .tc) (h : b ∉ aOps4_W) : after (aOps4 (F := Ideal)) X (Proc.devRef .tc b) = X (Proc.devRef .tc b) := after_of_writes_sub aOps4 X aOps4_writes h
theorem aKeep5 (b : Ref sig .tc) (h : b ∉ aOps5_W) : after (aOps5 (F := Ideal)) X (Proc.devRef .tc b) = X (Proc.devRef .tc b) := after_of_writes_sub aOps5 X aOps5_writes h
theorem aKeep6 (b : Ref sig .tc) (h : b ∉ aOps6_W) : after (aOps6 (F := Ideal)) X (Proc.devRef .tc b) = X (Proc.devRef .tc b) := after_of_writes_sub aOps6 X aOps6_writes h
theorem aKeep7 (b : Ref sig .tc) (h : b ∉ aOps7_W) : after (aOps7 (F := Ideal)) X (Proc.devRef .tc b) = X (Proc.devRef .tc b) := after_of_writes_sub aOps7 X aOps7_writes h
theorem aKeep8 (b : Ref sig .tc) (h : b ∉ aOps8_W) : after (aOps8 (F := Ideal)) X (Proc.devRef .tc b) = X (Proc.devRef .tc b) := after_of_writes_sub aOps8 X aOps8_writes h
theorem bKeep0 (b : Ref sig .tc) (h : b ∉ bOps0_W) : after (bOps0 (F := Ideal)) X (Proc.devRef .tc b) = X (Proc.devRef .tc b) := after_of_writes_sub bOps0 X bOps0_writes h
theorem bKeep1 (b : Ref sig .tc) (h : b ∉ bOps1_W) : after (bOps1 (F := Ideal)) X (Proc.devRef .tc b) = X (Proc.devRef .tc b) := after_of_writes_sub bOps1 X bOps1_writes h
theorem bKeep2 (b : Ref sig .tc) (h : b ∉ bOps2_W) : after (bOps2 (F := Ideal)) X (Proc.devRef .tc b) = X (Proc.devRef .tc b) := after_of_writes_sub bOps2 X bOps2_writes h
theorem bKeep3 (b : Ref sig .tc) (h : b ∉ bOps3_W) : after (bOps3 (F := Ideal)) X (Proc.devRef .tc b) = X (Proc.devRef .tc b) := after_of_writes_sub bOps3 X bOps3_writes h
theorem bKeep4 (b : Ref sig .tc) (h : b ∉ bOps4_W) : after (bOps4 (F := Ideal)) X (Proc.devRef .tc b) = X (Proc.devRef .tc b) := after_of_writes_sub bOps4 X bOps4_writes h
theorem bKeep5 (b : Ref sig .tc) (h : b ∉ bOps5_W) : after (bOps5 (F := Ideal)) X (Proc.devRef .tc b) = X (Proc.devRef .tc b) := after_of_writes_sub bOps5 X bOps5_writes h

/-- The candidate costs of a trip. -/
def pairOf : FVec Ideal S512x16x2 .f32 :=
  rPair (X (Proc.devRef .tc main_v4_7)) (X (Proc.devRef .tc main_v4_10))
    (rPrior (rHid2 (rHid1 (rRow (X (Proc.devRef .tc main_v4_0)) (X (Proc.devRef .tc main_v4_9))) (X (Proc.devRef .tc main_v4_1)) (X (Proc.devRef .tc main_v4_2)))
      (X (Proc.devRef .tc main_v4_3)) (X (Proc.devRef .tc main_v4_4))) (X (Proc.devRef .tc main_v4_5)) (X (Proc.devRef .tc main_v4_6)))

theorem pair_eq : after aOps4 (after aOps3 (after aOps2 (after aOps1 (after aOps0 X)))) (Proc.devRef .tc main_while0b_v39) = pairOf X := by
  rw [a4_v39, a3_v29, a2_v20, a1_call0_v0, a0_call0_c]
  rw [aKeep3 _ main_v4_7 (by decide), aKeep2 _ main_v4_7 (by decide), aKeep1 _ main_v4_7 (by decide), aKeep0 _ main_v4_7 (by decide), aKeep3 _ main_v4_10 (by decide), aKeep2 _ main_v4_10 (by decide), aKeep1 _ main_v4_10 (by decide), aKeep0 _ main_v4_10 (by decide), aKeep2 _ main_v4_3 (by decide), aKeep1 _ main_v4_3 (by decide), aKeep0 _ main_v4_3 (by decide), aKeep2 _ main_v4_4 (by decide), aKeep1 _ main_v4_4 (by decide), aKeep0 _ main_v4_4 (by decide), aKeep2 _ main_v4_5 (by decide), aKeep1 _ main_v4_5 (by decide), aKeep0 _ main_v4_5 (by decide), aKeep2 _ main_v4_6 (by decide), aKeep1 _ main_v4_6 (by decide), aKeep0 _ main_v4_6 (by decide), aKeep1 _ main_v4_1 (by decide), aKeep0 _ main_v4_1 (by decide), aKeep1 _ main_v4_2 (by decide), aKeep0 _ main_v4_2 (by decide), aKeep0 _ main_v4_0 (by decide), aKeep0 _ main_v4_9 (by decide)]
  rfl

/-- A trip's new costs. -/
theorem step_cost : after (body0Ops (F := Ideal)) X (Proc.devRef .tc main_v4_10) = rCost (pairOf X) := by
  rw [body0Ops_parts, a9_10, aKeep8 _ main_while0b_v40 (by decide), aKeep7 _ main_while0b_v40 (by decide), aKeep6 _ main_while0b_v40 (by decide), a5_v40, pair_eq]

/-- A trip's stored predecessors. -/
theorem step_prev : after (body0Ops (F := Ideal)) X (Proc.devRef .tc main_v4_11)
    = rStore (X (Proc.devRef .tc main_v4_11)) (rPrev (X (Proc.devRef .tc main_v4_7)) (X (Proc.devRef .tc main_v4_8)) (rArg (pairOf X))) (X (Proc.devRef .tc main_v4_9)) := by
  rw [body0Ops_parts, a9_11, a8_v58, a7_call3_v0, a7_call3_c, a7_call3_c_0, a6_v57, a5_v41, pair_eq]
  simp (disch := decide) only [aKeep0, aKeep1, aKeep2, aKeep3, aKeep4, aKeep5, aKeep6, aKeep7, aKeep8]
  rfl

/-- The state a trip of the walk back finds. -/
def stateOf : S512.Idx → BitVec 32 :=
  rState (rSlab (X (Proc.devRef .tc main_v7_0)) (rTime (X (Proc.devRef .tc main_v7_1)))) (X (Proc.devRef .tc main_v7_2))

theorem state_eq : after bOps3 (after bOps2 (after bOps1 (after bOps0 X))) (Proc.devRef .tc main_while1b_v26) = stateOf X := by
  rw [b3_v26, b2_v11, b1_call4_v0, b0_v10, b0_call4_c, b0_call4_c_0]
  rw [bKeep0 _ main_v7_0 (by decide), bKeep2 _ main_v7_2 (by decide), bKeep1 _ main_v7_2 (by decide), bKeep0 _ main_v7_2 (by decide)]
  rfl

theorem step_state : after (body1Ops (F := Ideal)) X (Proc.devRef .tc main_v7_2) = stateOf X := by
  rw [body1Ops_parts, b6_2, bKeep5 _ main_while1b_v26 (by decide), bKeep4 _ main_while1b_v26 (by decide), state_eq]

theorem step_out : after (body1Ops (F := Ideal)) X (Proc.devRef .tc main_v7_3)
    = rOut (X (Proc.devRef .tc main_v7_3)) (stateOf X) (rTime (X (Proc.devRef .tc main_v7_1))) := by
  rw [body1Ops_parts, b6_3, b5_v30, b4_call5_v0, b4_call5_c, state_eq]
  rw [bKeep4 _ main_v7_3 (by decide), bKeep3 _ main_v7_3 (by decide), bKeep2 _ main_v7_3 (by decide), bKeep1 _ main_v7_3 (by decide), bKeep0 _ main_v7_3 (by decide), bKeep4 _ main_while1b_v10 (by decide), bKeep3 _ main_while1b_v10 (by decide), bKeep2 _ main_while1b_v10 (by decide), bKeep1 _ main_while1b_v10 (by decide)]
  rw [b0_v10]
  rfl

end Cert.ReferenceIdeal.Hand

end
-- ==== Proof.R.Fiber.lean ====
/- The two minimum reductions over a pair: the value, and the position of the smaller entry. -/
module

public import proofs.«01_k».proof.Proof.R.Step
import Mathlib.Tactic.FinCases
import Mathlib.Data.List.Sort

@[expose] public section

noncomputable section

namespace Cert.ReferenceIdeal.Hand

open Cert.ReferenceIdeal Cert.ReferenceIdeal.Gen
open Idealize.ShloMosaic Idealize.ShloMosaic.TcCoe Idealize.ShloMosaic.ValueIdx

set_option maxRecDepth 8192

/-- The two positions a pair reduction reads at `(b, s)`, in order. -/
theorem pair_fiber (b : Fin 512) (s : Fin 16) :
    ((List.finRange S512x16x2.numel).filter fun n => (reducesTo_S512x16x2_S512x16_d2 : S512x16x2.ReducesTo [2] S512x16).drop (S512x16x2.rowMajor.symm n) = ix2 b s)
      = [S512x16x2.rowMajor (ix3 b s (0 : Fin 2)), S512x16x2.rowMajor (ix3 b s (1 : Fin 2))] := by
  have hd : ∀ i : S512x16x2.Idx, (reducesTo_S512x16x2_S512x16_d2 : S512x16x2.ReducesTo [2] S512x16).drop i = ix2 b s ↔ (i = ix3 b s (0 : Fin 2) ∨ i = ix3 b s (1 : Fin 2)) := by
    intro i
    have h0 : ((reducesTo_S512x16x2_S512x16_d2 : S512x16x2.ReducesTo [2] S512x16).drop i 0 : Nat) = i 0 := Shape.ReducesTo.drop_apply_val _ i 0
    have h1 : ((reducesTo_S512x16x2_S512x16_d2 : S512x16x2.ReducesTo [2] S512x16).drop i 1 : Nat) = i 1 := Shape.ReducesTo.drop_apply_val _ i 1
    constructor
    · intro e
      rw [e] at h0 h1
      have a0 : i 0 = b := Fin.ext h0.symm
      have a1 : i 1 = s := Fin.ext h1.symm
      have h2 : (i 2).val < 2 := (i 2).isLt
      rcases (by omega : (i 2).val = 0 ∨ (i 2).val = 1) with h | h
      · left; funext a; fin_cases a
        · exact a0
        · exact a1
        · exact Fin.ext h
      · right; funext a; fin_cases a
        · exact a0
        · exact a1
        · exact Fin.ext h
    · intro e
      have a0 : i 0 = b := by rcases e with rfl | rfl <;> rfl
      have a1 : i 1 = s := by rcases e with rfl | rfl <;> rfl
      funext c
      fin_cases c
      · exact Fin.ext (h0.trans (congrArg Fin.val a0))
      · exact Fin.ext (h1.trans (congrArg Fin.val a1))
  have hlt : S512x16x2.rowMajor (ix3 b s (0 : Fin 2)) < S512x16x2.rowMajor (ix3 b s (1 : Fin 2)) := by
    show (S512x16x2.rowMajor (ix3 b s (0 : Fin 2))).val < (S512x16x2.rowMajor (ix3 b s (1 : Fin 2))).val
    rw [show (S512x16x2.rowMajor (ix3 b s (0 : Fin 2))).val = _ from Shape.rowMajor_val_three _, show (S512x16x2.rowMajor (ix3 b s (1 : Fin 2))).val = _ from Shape.rowMajor_val_three _]
    simp [ix3]
  have hp : (List.filter (fun n => decide ((reducesTo_S512x16x2_S512x16_d2 : S512x16x2.ReducesTo [2] S512x16).drop (S512x16x2.rowMajor.symm n) = ix2 b s)) (List.finRange S512x16x2.numel)).Perm
      [S512x16x2.rowMajor (ix3 b s (0 : Fin 2)), S512x16x2.rowMajor (ix3 b s (1 : Fin 2))] := by
    refine (List.perm_ext_iff_of_nodup ((List.nodup_finRange _).filter _) (by simp [hlt.ne])).2 fun n => ?_
    simp only [List.mem_filter, List.mem_finRange, true_and, decide_eq_true_eq, hd, List.mem_cons, List.not_mem_nil, or_false]
    rw [Equiv.symm_apply_eq, Equiv.symm_apply_eq]
  refine hp.eq_of_pairwise' (r := (· < ·)) ?_ ?_
  · exact (List.pairwise_lt_finRange _).filter _
  · simp [hlt]

/-- The word of plus infinity. -/
theorem inf_bits : Ideal.ofBits .f32 0x7F800000#32 = (⊤ : EReal) := by
  simp [Ideal.ofBits, Ideal.ieee]

/-- The cheaper entry of the pair. -/
theorem rCost_apply (v : FVec Ideal S512x16x2 .f32) (b : Fin 512) (s : Fin 16) :
    rCost v (ix2 b s) = min (v (ix3 b s (0 : Fin 2))) (v (ix3 b s (1 : Fin 2))) := by
  unfold rCost Host.reduce
  rw [pair_fiber]
  simp only [List.foldl_cons, List.foldl_nil, Equiv.symm_apply_apply]
  show min (min (Ideal.ofBits .f32 0x7F800000#32) _) _ = _
  rw [inf_bits, min_eq_right le_top]

/-- The position of the cheaper entry: the second's only where it is strictly cheaper. -/
theorem rArg_apply (v : FVec Ideal S512x16x2 .f32) (b : Fin 512) (s : Fin 16) :
    rArg v (ix2 b s) = if v (ix3 b s (1 : Fin 2)) < v (ix3 b s (0 : Fin 2)) then 1#32 else 0#32 := by
  unfold rArg
  rw [Ideal.argReduce_eq_reduce2]
  unfold Host.reduce2
  rw [pair_fiber]
  simp only [List.foldl_cons, List.foldl_nil, Equiv.symm_apply_apply]
  generalize hx : v (ix3 b s (0 : Fin 2)) = x
  generalize hy : v (ix3 b s (1 : Fin 2)) = y
  rw [show iotaInDim S512x16x2 32 2 (ix3 b s (0 : Fin 2)) = 0#32 from rfl, show iotaInDim S512x16x2 32 2 (ix3 b s (1 : Fin 2)) = 1#32 from rfl]
  have ht : (constant (F := Ideal) S_ .f32 0x7F800000#32 (Shape.Idx.first h_S_)) = (⊤ : EReal) := inf_bits
  rw [ht]
  have h1 : reducer_argmin_f32_i32 (F := Ideal) ((⊤ : EReal), constantI S_ 32 0#32 (Shape.Idx.first h_S_)) (x, 0#32) = (x, 0#32) := by
    unfold reducer_argmin_f32_i32
    simp [Ideal.cmpf_def, Ideal.cmp, IntOp.ori, IntOp.andi, IntOp.cmpi, Scalar.select, constantI]
  rw [h1]
  unfold reducer_argmin_f32_i32
  rcases lt_trichotomy x y with h | h | h
  · simp [Ideal.cmpf_def, Ideal.cmp, IntOp.ori, IntOp.andi, IntOp.cmpi, Scalar.select, h, h.le, h.ne, not_lt.2 h.le]
  · subst h
    simp [Ideal.cmpf_def, Ideal.cmp, IntOp.ori, IntOp.andi, IntOp.cmpi, Scalar.select]
  · simp [Ideal.cmpf_def, Ideal.cmp, IntOp.ori, IntOp.andi, IntOp.cmpi, Scalar.select, h, h.ne', not_lt.2 h.le]

end Cert.ReferenceIdeal.Hand

end
-- ==== Proof.R.Index.lean ====
/- The functions of one trip of each of the reference's loops, read at an index. -/
module

public import proofs.«01_k».proof.Proof.R.Fiber
public import proofs.«01_k».proof.Proof.M.Model
public import Idealize.ShloMosaic.Lib.StackMember
public import Idealize.ShloMosaic.Lib.WordCmp
import Mathlib.Tactic.FinCases

@[expose] public section

noncomputable section

namespace Cert.ReferenceIdeal.Hand

open Cert.ReferenceIdeal Cert.ReferenceIdeal.Gen
open Idealize.ShloMosaic Idealize.ShloMosaic.TcCoe Idealize.ShloMosaic.ValueIdx Idealize.ShloMosaic.Pipeline

set_option maxRecDepth 8192

/-- A word that is the number `n`. -/
theorem word_toInt (n : ℕ) (h : n < 2 ^ 31) : (BitVec.ofNat 32 n).toInt = (n : Int) := toInt_ofNat_of_lt h

theorem rRow_apply (y : S2048x512.Idx → EReal) (k : S_.Idx → BitVec 32) (n : Fin 2048) (hk : ∀ i, (k i).toInt = (n.val : Int)) (b : Fin 512) :
    rRow y k (ix2 b (0 : Fin 1)) = y (ix2 n b) := by
  unfold rRow rCol
  rw [broadcastInDim_apply _ _ _ _ (ix1 b) (fun a => by fin_cases a; rfl)]
  rw [shapeCast_apply _ _ _ (ix2 (0 : Fin 1) b) (by
    rw [show (S1x512.rowMajor (ix2 (0 : Fin 1) b)).val = _ from Shape.rowMajor_val_two _]; rw [show (S512.rowMajor (ix1 b)).val = _ from Shape.rowMajor_val_one _]; simp [ix2, ix1])]
  rw [WordCmp.dynamicSlice_eq_extract S1x512 y _ _ ![n.val, 0] ⟨rfl, fun a => by fin_cases a <;> simp <;> omega⟩ (fun a => by
    fin_cases a
    · exact hk _
    · rfl)]
  exact extractStridedSlice_apply _ _ _ _ (ix2 n b) (fun a => by fin_cases a <;> simp [ix2])

theorem rHid1_apply (x : S512x1.Idx → EReal) (w1 : S1x100.Idx → EReal) (b1 : S100.Idx → EReal) (b : Fin 512) (j : Fin 100) :
    rHid1 x w1 b1 (ix2 b j) = Ideal.div 1 (1 + Ideal.exp (-(x (ix2 b (0 : Fin 1)) * w1 (ix2 (0 : Fin 1) j) + b1 (ix1 j)))) := by
  unfold rHid1
  show Ideal.div (broadcastInDim S512x100 ![] bcast_S_S512x100 (constant (F := Ideal) S_ .f32 0x3F800000#32) (ix2 b j))
    (broadcastInDim S512x100 ![] bcast_S_S512x100 (constant (F := Ideal) S_ .f32 0x3F800000#32) (ix2 b j)
      + Ideal.exp (-(Host.dotGeneral (F := Ideal) (φ₁ := .f32) (φ₂ := .f32) (DotDims.plain 512 1 100) none x w1 (ix2 b j)
        + broadcastInDim S512x100 ![0, 1] bcast_S1x100_S512x100_0_1 (broadcastInDim S1x100 ![1] bcast_S100_S1x100_1 b1) (ix2 b j)))) = _
  rw [StackMember.dotGeneral_plain_apply, broadcastInDim_scalar_apply,
    broadcastInDim_apply _ _ _ _ (ix2 (0 : Fin 1) j) (fun a => by fin_cases a <;> rfl),
    broadcastInDim_apply _ _ b1 _ (ix1 j) (fun a => by fin_cases a; rfl)]
  rw [show constant (F := Ideal) S_ .f32 0x3F800000#32 ix0 = (1 : EReal) from Ideal.ofBits_one_f32]
  simp

theorem rHid2_apply (h1 : FVec Ideal S512x100 .f32) (w2 : S100x50.Idx → EReal) (b2 : S50.Idx → EReal) (b : Fin 512) (i : Fin 50) :
    rHid2 h1 w2 b2 (ix2 b i) = max ((∑ j : Fin 100, h1 (ix2 b j) * w2 (ix2 j i)) + b2 (ix1 i)) 0 := by
  unfold rHid2
  show max (Host.dotGeneral (F := Ideal) (φ₁ := .f32) (φ₂ := .f32) (DotDims.plain 512 100 50) none h1 w2 (ix2 b i)
      + broadcastInDim S512x50 ![0, 1] bcast_S1x50_S512x50_0_1 (broadcastInDim S1x50 ![1] bcast_S50_S1x50_1 b2) (ix2 b i))
    (broadcastInDim S512x50 ![] bcast_S_S512x50 (constant (F := Ideal) S_ .f32 0x00000000#32) (ix2 b i)) = _
  rw [StackMember.dotGeneral_plain_apply, broadcastInDim_scalar_apply,
    broadcastInDim_apply _ _ _ _ (ix2 (0 : Fin 1) i) (fun a => by fin_cases a <;> rfl),
    broadcastInDim_apply _ _ b2 _ (ix1 i) (fun a => by fin_cases a; rfl)]
  rw [show constant (F := Ideal) S_ .f32 0x00000000#32 ix0 = (0 : EReal) from Ideal.ofBits_zero_f32]

theorem rPrior_apply (h2 : FVec Ideal S512x50 .f32) (w3 : S50x16.Idx → EReal) (b3 : S16.Idx → EReal) (b : Fin 512) (s : Fin 16) :
    rPrior h2 w3 b3 (ix2 b s) = (∑ i : Fin 50, h2 (ix2 b i) * w3 (ix2 i s)) + b3 (ix1 s) := by
  unfold rPrior
  show Host.dotGeneral (F := Ideal) (φ₁ := .f32) (φ₂ := .f32) (DotDims.plain 512 50 16) none h2 w3 (ix2 b s)
      + broadcastInDim S512x16 ![0, 1] bcast_S1x16_S512x16_0_1 (broadcastInDim S1x16 ![1] bcast_S16_S1x16_1 b3) (ix2 b s) = _
  rw [StackMember.dotGeneral_plain_apply,
    broadcastInDim_apply _ _ _ _ (ix2 (0 : Fin 1) s) (fun a => by fin_cases a <;> rfl),
    broadcastInDim_apply _ _ b3 _ (ix1 s) (fun a => by fin_cases a; rfl)]

/-- The table of predecessors. -/
def tab : S16x2.Idx → BitVec 32 := fun i => lit0 (S16x2.rowMajor i)

/-- The `e`-th predecessor of state `s`. -/
def pred (s : Fin 16) (e : Fin 2) : Fin 16 := ⟨s.val / 2 + 8 * e.val, by omega⟩

theorem tab_apply (s : Fin 16) (e : Fin 2) : tab (ix2 s e) = BitVec.ofNat 32 (pred s e).val := by
  unfold tab
  have h : S16x2.rowMajor (ix2 s e) = (⟨s.val * 2 + e.val, by omega⟩ : Fin 32) := Fin.ext (Shape.rowMajor_val_two _)
  rw [h]
  fin_cases s <;> fin_cases e <;> rfl

/-- An index that is not negative is used as it stands. -/
theorem wrap_apply {s : Shape} (x w : s.Idx → BitVec 32) (z : s.Idx → BitVec 32) (j : s.Idx) (n : ℕ) (hn : n < 2 ^ 31)
    (hx : x j = BitVec.ofNat 32 n) (hz : z j = 0#32) : select (cmpi .slt x z) w x j = BitVec.ofNat 32 n := by
  show Scalar.select (IntOp.cmpi .slt (x j) (z j)) (w j) (x j) = _
  rw [hx, hz]
  have h : (BitVec.ofNat 32 n).slt 0#32 = false := by
    rw [BitVec.slt, word_toInt n hn]; simp
  simp [IntOp.cmpi, Scalar.select, h]

theorem rPair_apply (K : S512x16.Idx → EReal) (p : FVec Ideal S512x16 .f32) (b : Fin 512) (s : Fin 16) (e : Fin 2) :
    rPair tab K p (ix3 b s e) = K (ix2 b (pred s e)) + p (ix2 b s) := by
  unfold rPair
  show _ + _ = _
  congr 1
  · generalize hi : broadcastInDim (s := S16x2) S16x2x1 ![0, 1] bcast_S16x2_S16x2x1_0_1 _ = idx
    have hidx : idx (ix3 s e (0 : Fin 1)) = BitVec.ofNat 32 (pred s e).val := by
      rw [← hi, broadcastInDim_apply _ _ _ _ (ix2 s e) (fun a => by fin_cases a <;> rfl)]
      exact wrap_apply _ _ _ _ _ (by have := (pred s e).isLt; omega) (tab_apply s e) (by rw [broadcastInDim_scalar_apply]; rfl)
    unfold Host.gather
    congr 1
    funext a
    refine Fin.ext ?_
    show GatherDims.start gather_S512x16_S16x2x1_S512x16x2_0_1_n_n_1_2_5121 (ix3 b s e) idx a
      + GatherDims.batchCoord gather_S512x16_S16x2x1_S512x16x2_0_1_n_n_1_2_5121 (ix3 b s e) a
      + GatherDims.offCoord gather_S512x16_S16x2x1_S512x16x2_0_1_n_n_1_2_5121 (ix3 b s e) a = _
    rw [GatherDims.batchCoord_eq_zero _ _ _ List.not_mem_nil]
    fin_cases a
    · unfold GatherDims.start GatherDims.offCoord
      rw [dif_neg (by decide), dif_pos (by decide)]
      simp only [Nat.zero_add, Nat.add_zero]
      rfl
    · unfold GatherDims.start GatherDims.offCoord
      rw [dif_pos (by decide), dif_neg (by decide)]
      have hsi : ∀ h, GatherDims.siIdx gather_S512x16_S16x2x1_S512x16x2_0_1_n_n_1_2_5121 (ix3 b s e) ⟨List.idxOf (1 : Fin 2) [1], h⟩ = ix3 s e (0 : Fin 1) := by
        intro h
        funext c; refine Fin.ext ?_
        fin_cases c <;> rfl
      refine (congrArg (fun i => min (idx i).toInt.toNat (16 - 1) + 0 + 0) (hsi _)).trans ?_
      show min (idx (ix3 s e (0 : Fin 1))).toInt.toNat 15 = (pred s e).val
      rw [hidx, word_toInt _ (by have := (pred s e).isLt; omega)]
      have := (pred s e).isLt
      simp; omega
  · rw [broadcastInDim_apply _ _ _ _ (ix3 b s (0 : Fin 1)) (fun a => by fin_cases a <;> rfl),
      broadcastInDim_apply _ _ p _ (ix2 b s) (fun a => by fin_cases a <;> rfl)]

end Cert.ReferenceIdeal.Hand

end
-- ==== Proof.R.Index2.lean ====
/- The functions of one trip of each of the reference's loops, read at an index: the stored predecessors and the
   walk back. -/
module

public import proofs.«01_k».proof.Proof.R.Index
import Mathlib.Tactic.FinCases

@[expose] public section

noncomputable section

namespace Cert.ReferenceIdeal.Hand

open Cert.ReferenceIdeal Cert.ReferenceIdeal.Gen
open Idealize.ShloMosaic Idealize.ShloMosaic.TcCoe Idealize.ShloMosaic.ValueIdx Idealize.ShloMosaic.Pipeline

set_option maxRecDepth 8192

/-- The two-coordinate lookup in a table, at coordinates within it. -/
theorem rPrev_apply (a : S512x16.Idx → BitVec 32) (b : Fin 512) (s : Fin 16) (e : Fin 2) (ha : a (ix2 b s) = BitVec.ofNat 32 e.val) :
    rPrev tab (iotaInDim S16 32 0) a (ix2 b s) = BitVec.ofNat 32 (pred s e).val := by
  unfold rPrev
  generalize hL : broadcastInDim (s := S512x16) S512x16x1 ![0, 1] bcast_S512x16_S512x16x1_0_1 (broadcastInDim (s := S1x16) S512x16 ![0, 1] bcast_S1x16_S512x16_0_1 _) = L
  generalize hR : broadcastInDim (s := S512x16) S512x16x1 ![0, 1] bcast_S512x16_S512x16x1_0_1 (select _ _ a) = R
  have hLv : L (ix3 b s (0 : Fin 1)) = BitVec.ofNat 32 s.val := by
    rw [← hL, broadcastInDim_apply _ _ _ _ (ix2 b s) (fun c => by fin_cases c <;> rfl),
      broadcastInDim_apply _ _ _ _ (ix2 (0 : Fin 1) s) (fun c => by fin_cases c <;> rfl)]
    refine wrap_apply _ _ _ _ _ (by have := s.isLt; omega) ?_ (by rw [broadcastInDim_scalar_apply]; rfl)
    rw [broadcastInDim_apply _ _ _ _ (ix1 s) (fun c => by fin_cases c; rfl)]
    rfl
  have hRv : R (ix3 b s (0 : Fin 1)) = BitVec.ofNat 32 e.val := by
    rw [← hR, broadcastInDim_apply _ _ _ _ (ix2 b s) (fun c => by fin_cases c <;> rfl)]
    exact wrap_apply _ _ _ _ _ (by have := e.isLt; omega) ha (by rw [broadcastInDim_scalar_apply]; rfl)
  generalize hI : concatenate S512x16x2 2 _ _ = idx
  have i0 : idx (ix3 b s (0 : Fin 2)) = BitVec.ofNat 32 s.val := by
    rw [← hI]
    refine (concatenate_pair_apply_left (t := S512x16x2) (s₁ := S512x16x1) (s₂ := S512x16x1) (2 : Fin 3) _ _ _ _ rfl (ix3 b s 0) ?_).trans hLv
    intro c; fin_cases c <;> rfl
  have i1 : idx (ix3 b s (1 : Fin 2)) = BitVec.ofNat 32 e.val := by
    rw [← hI]
    refine (concatenate_pair_apply_right (t := S512x16x2) (s₁ := S512x16x1) (s₂ := S512x16x1) (2 : Fin 3) _ _ _ _ rfl rfl (ix3 b s 0) ?_ ?_).trans hRv
    · intro c hc; fin_cases c
      · rfl
      · rfl
      · exact absurd rfl hc
    · rfl
  rw [← tab_apply]
  unfold Host.gather
  congr 1
  funext c
  refine Fin.ext ?_
  show GatherDims.start gather_S16x2_S512x16x2_S512x16_n_01_n_n_01_2_11 (ix2 b s) idx c
    + GatherDims.batchCoord gather_S16x2_S512x16x2_S512x16_n_01_n_n_01_2_11 (ix2 b s) c
    + GatherDims.offCoord gather_S16x2_S512x16x2_S512x16_n_01_n_n_01_2_11 (ix2 b s) c = _
  rw [GatherDims.batchCoord_eq_zero _ _ _ List.not_mem_nil]
  fin_cases c
  · unfold GatherDims.start GatherDims.offCoord
    rw [dif_pos (by decide), dif_neg (by decide)]
    have hsi : ∀ h, GatherDims.siIdx gather_S16x2_S512x16x2_S512x16_n_01_n_n_01_2_11 (ix2 b s) ⟨List.idxOf (0 : Fin 2) [0, 1], h⟩ = ix3 b s (0 : Fin 2) := by
      intro h
      funext d; refine Fin.ext ?_
      fin_cases d <;> rfl
    refine (congrArg (fun i => min (idx i).toInt.toNat (16 - 1) + 0 + 0) (hsi _)).trans ?_
    show min (idx (ix3 b s (0 : Fin 2))).toInt.toNat 15 = s.val
    rw [i0, word_toInt _ (by have := s.isLt; omega)]
    have := s.isLt
    simp; omega
  · unfold GatherDims.start GatherDims.offCoord
    rw [dif_pos (by decide), dif_neg (by decide)]
    have hsi : ∀ h, GatherDims.siIdx gather_S16x2_S512x16x2_S512x16_n_01_n_n_01_2_11 (ix2 b s) ⟨List.idxOf (1 : Fin 2) [0, 1], h⟩ = ix3 b s (1 : Fin 2) := by
      intro h
      funext d; refine Fin.ext ?_
      fin_cases d <;> rfl
    refine (congrArg (fun i => min (idx i).toInt.toNat (2 - 1) + 0 + 0) (hsi _)).trans ?_
    show min (idx (ix3 b s (1 : Fin 2))).toInt.toNat 1 = e.val
    rw [i1, word_toInt _ (by have := e.isLt; omega)]
    have := e.isLt
    simp; omega

theorem rState_apply (A : S512x16.Idx → BitVec 32) (x : S512.Idx → BitVec 32) (b : Fin 512) (s : Fin 16) (hx : x (ix1 b) = BitVec.ofNat 32 s.val) :
    rState A x (ix1 b) = A (ix2 b s) := by
  unfold rState
  generalize hL : broadcastInDim (s := S512) S512x1 ![0] bcast_S512_S512x1_0 (select _ _ (iotaInDim S512 32 0)) = L
  generalize hR : broadcastInDim (s := S512) S512x1 ![0] bcast_S512_S512x1_0 (select _ _ x) = R
  have hLv : L (ix2 b (0 : Fin 1)) = BitVec.ofNat 32 b.val := by
    rw [← hL, broadcastInDim_apply _ _ _ _ (ix1 b) (fun c => by fin_cases c; rfl)]
    exact wrap_apply _ _ _ _ _ (by have := b.isLt; omega) rfl (by rw [broadcastInDim_scalar_apply]; rfl)
  have hRv : R (ix2 b (0 : Fin 1)) = BitVec.ofNat 32 s.val := by
    rw [← hR, broadcastInDim_apply _ _ _ _ (ix1 b) (fun c => by fin_cases c; rfl)]
    exact wrap_apply _ _ _ _ _ (by have := s.isLt; omega) hx (by rw [broadcastInDim_scalar_apply]; rfl)
  generalize hI : concatenate S512x2 1 _ _ = idx
  have i0 : idx (ix2 b (0 : Fin 2)) = BitVec.ofNat 32 b.val := by
    rw [← hI]
    refine (concatenate_pair_apply_left (t := S512x2) (s₁ := S512x1) (s₂ := S512x1) (1 : Fin 2) _ _ _ _ rfl (ix2 b 0) ?_).trans hLv
    intro c; fin_cases c <;> rfl
  have i1 : idx (ix2 b (1 : Fin 2)) = BitVec.ofNat 32 s.val := by
    rw [← hI]
    refine (concatenate_pair_apply_right (t := S512x2) (s₁ := S512x1) (s₂ := S512x1) (1 : Fin 2) _ _ _ _ rfl rfl (ix2 b 0) ?_ ?_).trans hRv
    · intro c hc; fin_cases c
      · rfl
      · exact absurd rfl hc
    · rfl
  unfold Host.gather
  congr 1
  funext c
  refine Fin.ext ?_
  show GatherDims.start gather_S512x16_S512x2_S512_n_01_n_n_01_1_11 (ix1 b) idx c
    + GatherDims.batchCoord gather_S512x16_S512x2_S512_n_01_n_n_01_1_11 (ix1 b) c
    + GatherDims.offCoord gather_S512x16_S512x2_S512_n_01_n_n_01_1_11 (ix1 b) c = _
  rw [GatherDims.batchCoord_eq_zero _ _ _ List.not_mem_nil]
  fin_cases c
  · unfold GatherDims.start GatherDims.offCoord
    rw [dif_pos (by decide), dif_neg (by decide)]
    have hsi : ∀ h, GatherDims.siIdx gather_S512x16_S512x2_S512_n_01_n_n_01_1_11 (ix1 b) ⟨List.idxOf (0 : Fin 2) [0, 1], h⟩ = ix2 b (0 : Fin 2) := by
      intro h
      funext d; refine Fin.ext ?_
      fin_cases d <;> rfl
    refine (congrArg (fun i => min (idx i).toInt.toNat (512 - 1) + 0 + 0) (hsi _)).trans ?_
    show min (idx (ix2 b (0 : Fin 2))).toInt.toNat 511 = b.val
    rw [i0, word_toInt _ (by have := b.isLt; omega)]
    have := b.isLt
    simp; omega
  · unfold GatherDims.start GatherDims.offCoord
    rw [dif_pos (by decide), dif_neg (by decide)]
    have hsi : ∀ h, GatherDims.siIdx gather_S512x16_S512x2_S512_n_01_n_n_01_1_11 (ix1 b) ⟨List.idxOf (1 : Fin 2) [0, 1], h⟩ = ix2 b (1 : Fin 2) := by
      intro h
      funext d; refine Fin.ext ?_
      fin_cases d <;> rfl
    refine (congrArg (fun i => min (idx i).toInt.toNat (16 - 1) + 0 + 0) (hsi _)).trans ?_
    show min (idx (ix2 b (1 : Fin 2))).toInt.toNat 15 = s.val
    rw [i1, word_toInt _ (by have := s.isLt; omega)]
    have := s.isLt
    simp; omega

theorem rStore_apply (A : S2048x512x16.Idx → BitVec 32) (v : S512x16.Idx → BitVec 32) (k : S_.Idx → BitVec 32) (n : Fin 2048)
    (hk : ∀ i, (k i).toInt = (n.val : Int)) (t : Fin 2048) (b : Fin 512) (s : Fin 16) :
    rStore A v k (ix3 t b s) = if t = n then v (ix2 b s) else A (ix3 t b s) := by
  unfold rStore
  rw [WordCmp.dynamicUpdateSlice_eq_update (s := S2048x512x16) (u := S1x512x16) A _ _ _ ![n.val, 0, 0] ⟨rfl, fun a => by fin_cases a <;> simp <;> omega⟩ (fun a => by
    fin_cases a
    · exact hk _
    · rfl
    · rfl)]
  unfold updateSlice
  by_cases h : t = n
  · subst h
    rw [if_pos rfl, dif_pos (fun a => by fin_cases a <;> simp [ix3])]
    rw [broadcastInDim_apply _ _ v _ (ix2 b s) (fun a => by fin_cases a <;> simp [ix2, ix3])]
  · rw [if_neg h, dif_neg]
    intro hin
    have h0 := hin 0
    simp [ix3] at h0
    exact h (Fin.ext (by omega))

theorem rSlab_apply (A : S2048x512x16.Idx → BitVec 32) (k : S_.Idx → BitVec 32) (n : Fin 2048)
    (hk : ∀ i, (k i).toInt = (n.val : Int)) (b : Fin 512) (s : Fin 16) :
    rSlab A k (ix2 b s) = A (ix3 n b s) := by
  unfold rSlab
  rw [shapeCast_apply _ _ _ (ix3 (0 : Fin 1) b s) (by
    rw [show (S1x512x16.rowMajor (ix3 (0 : Fin 1) b s)).val = _ from Shape.rowMajor_val_three _, show (S512x16.rowMajor (ix2 b s)).val = _ from Shape.rowMajor_val_two _]; simp [ix2, ix3])]
  rw [WordCmp.dynamicSlice_eq_extract S1x512x16 A _ _ ![n.val, 0, 0] ⟨rfl, fun a => by fin_cases a <;> simp <;> omega⟩ (fun a => by
    fin_cases a
    · exact hk _
    · rfl
    · rfl)]
  exact extractStridedSlice_apply _ _ _ _ (ix3 n b s) (fun a => by fin_cases a <;> simp [ix3])

theorem rOut_apply (B : S2048x512.Idx → EReal) (x : S512.Idx → BitVec 32) (k : S_.Idx → BitVec 32) (n : Fin 2048)
    (hk : ∀ i, (k i).toInt = (n.val : Int)) (t : Fin 2048) (b : Fin 512) (v : ℕ) (hv : v < 16) (hx : x (ix1 b) = BitVec.ofNat 32 v) :
    rOut B x k (ix2 t b) = if t = n then (((if 8 ≤ v then 1 else 0 : ℕ) : ℝ) : EReal) else B (ix2 t b) := by
  unfold rOut
  rw [WordCmp.dynamicUpdateSlice_eq_update (s := S2048x512) (u := S1x512) B _ _ _ ![n.val, 0] ⟨rfl, fun a => by fin_cases a <;> simp <;> omega⟩ (fun a => by
    fin_cases a
    · exact hk _
    · rfl)]
  unfold updateSlice
  by_cases h : t = n
  · subst h
    rw [if_pos rfl, dif_pos (fun a => by fin_cases a <;> simp [ix2])]
    unfold rPut
    rw [broadcastInDim_apply _ _ _ _ (ix1 b) (fun a => by fin_cases a; simp [ix1, ix2])]
    show (((IntOp.cmpi .sge (x (ix1 b)) (broadcastInDim S512 ![] bcast_S_S512 (constantI S_ 32 8#32) (ix1 b))).toNat : ℝ) : EReal) = _
    rw [hx, broadcastInDim_scalar_apply]
    show (((IntOp.cmpi .sge (BitVec.ofNat 32 v) 8#32).toNat : ℝ) : EReal) = _
    interval_cases v <;> rfl
  · rw [if_neg h, dif_neg]
    intro hin
    have h0 := hin 0
    simp [ix2] at h0
    exact h (Fin.ext (by omega))

/-- The time of the `n`-th step back. -/
theorem rTime_toInt (k : S_.Idx → BitVec 32) (n : ℕ) (hn : n < 2048) (hk : k = fun _ => BitVec.ofNat 32 n) (i : S_.Idx) :
    (rTime k i).toInt = ((2047 - n : ℕ) : Int) := by
  subst hk
  show ((2048#32 - BitVec.ofNat 32 n) - 1#32).toInt = _
  rw [show (2048#32 - BitVec.ofNat 32 n) - 1#32 = BitVec.ofNat 32 (2047 - n) from ?_, word_toInt _ (by omega)]
  apply BitVec.eq_of_toNat_eq
  simp [BitVec.toNat_sub]
  omega

end Cert.ReferenceIdeal.Hand

end
-- ==== Proof.R.Value.lean ====
/- What the reference's two loops compute: the path costs and the predecessors taken, then the decoded bits of the
   walk back; and the reference's result. -/
module

public import proofs.«01_k».proof.Proof.R.Index2
import Mathlib.Tactic.FinCases

@[expose] public section

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx Idealize.ShloMosaic.Pipeline
open Idealize.ShloMosaic.StableHlo Idealize.SL.Sem

set_option maxRecDepth 8192

/-- The prior of state `s` at time `t` for batch `b`, of the arguments. -/
def rprior (y : S512x2048.Idx → EReal) (w1 : S1x100.Idx → EReal) (b1 : S100.Idx → EReal) (w2 : S100x50.Idx → EReal) (b2 : S50.Idx → EReal)
    (w3 : S50x16.Idx → EReal) (b3 : S16.Idx → EReal) (t : Fin 2048) (s : Fin 16) (b : Fin 512) : EReal :=
  (∑ i : Fin 50, max ((∑ j : Fin 100, Ideal.div 1 (1 + Ideal.exp (-(y (ix2 b t) * w1 (ix2 (0 : Fin 1) j) + b1 (ix1 j)))) * w2 (ix2 j i)) + b2 (ix1 i)) 0
    * w3 (ix2 i s)) + b3 (ix1 s)

variable (m : (ℓ : Loc nD τ sig) → Buf (Elt Ideal) ℓ) (ρ : Dev nD → PrngReg)

section Entry
variable (c : Dev nD)

theorem W1_0 : W1 m c (Proc.devRef .tc main_v4_0) = transpose S2048x512 [1, 0] (m ((c : Thread nD τ).loc main_arg0) : S512x2048.Idx → EReal) transposes_S512x2048_S2048x512_1_0 := by
  show after preOps (W0 m c) _ = _
  after_results; rfl
theorem W1_1 : W1 m c (Proc.devRef .tc main_v4_1) = m ((c : Thread nD τ).loc main_arg1) := by
  show after preOps (W0 m c) _ = _
  after_results; rfl
theorem W1_2 : W1 m c (Proc.devRef .tc main_v4_2) = m ((c : Thread nD τ).loc main_arg2) := by
  show after preOps (W0 m c) _ = _
  after_results; rfl
theorem W1_3 : W1 m c (Proc.devRef .tc main_v4_3) = m ((c : Thread nD τ).loc main_arg3) := by
  show after preOps (W0 m c) _ = _
  after_results; rfl
theorem W1_4 : W1 m c (Proc.devRef .tc main_v4_4) = m ((c : Thread nD τ).loc main_arg4) := by
  show after preOps (W0 m c) _ = _
  after_results; rfl
theorem W1_5 : W1 m c (Proc.devRef .tc main_v4_5) = m ((c : Thread nD τ).loc main_arg5) := by
  show after preOps (W0 m c) _ = _
  after_results; rfl
theorem W1_6 : W1 m c (Proc.devRef .tc main_v4_6) = m ((c : Thread nD τ).loc main_arg6) := by
  show after preOps (W0 m c) _ = _
  after_results; rfl
theorem W1_7 : W1 m c (Proc.devRef .tc main_v4_7) = tab := by
  show after preOps (W0 m c) _ = _
  after_results; rfl
theorem W1_8 : W1 m c (Proc.devRef .tc main_v4_8) = iotaInDim S16 32 0 := by
  show after preOps (W0 m c) _ = _
  after_results; rfl
theorem W1_10 (b : Fin 512) (s : Fin 16) : (W1 m c (Proc.devRef .tc main_v4_10) : S512x16.Idx → EReal) (ix2 b s) = (0 : EReal) := by
  have h : W1 m c (Proc.devRef .tc main_v4_10) = broadcastInDim S512x16 ![] bcast_S_S512x16 (constant (F := Ideal) S_ .f32 0x00000000#32) := by
    show after preOps (W0 m c) _ = _
    after_results; rfl
  rw [h, broadcastInDim_scalar_apply]
  exact Ideal.ofBits_zero_f32

/-- A trip's body finds the arguments as the loop's entry leaves them. -/
theorem at0 (n : ℕ) {b : Ref sig .tc} (hc : b ∉ cond0Ops_W) (hb : b ∉ body0Ops_W) :
    after cond0Ops (W1k m n c) (Proc.devRef .tc b) = W1 m c (Proc.devRef .tc b) := by
  rw [after_of_writes_sub cond0Ops _ cond0Ops_writes hc, W1k_keep m c hc hb n]

theorem at0' (n : ℕ) {b : Ref sig .tc} (hc : b ∉ cond0Ops_W) :
    after cond0Ops (W1k m n c) (Proc.devRef .tc b) = W1k m n c (Proc.devRef .tc b) :=
  after_of_writes_sub cond0Ops _ cond0Ops_writes hc

theorem at1' (n : ℕ) {b : Ref sig .tc} (hc : b ∉ cond1Ops_W) :
    after cond1Ops (W3k m n c) (Proc.devRef .tc b) = W3k m n c (Proc.devRef .tc b) :=
  after_of_writes_sub cond1Ops _ cond1Ops_writes hc

end Entry

/-- The counter before the `n`-th trip. -/
theorem iv_eq (n : ℕ) : Scf.iv (0#32 : BitVec 32) 1#32 n = BitVec.ofNat 32 n := by
  simp [Scf.iv]

/-- The priors the reference computes, by time. -/
abbrev rp (c : Dev nD) : ℕ → Fin 16 → Fin 512 → EReal := fun t s b =>
  if h : t < 2048 then rprior (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) ⟨t, h⟩ s b
  else 0

/-- The candidate costs of trip `n`. -/
theorem pair_at (c : Dev nD) (n : Fin 2048) (b : Fin 512) (s : Fin 16) (e : Fin 2) (Kn : S512x16.Idx → EReal)
    (hK : W1k m n.val c (Proc.devRef .tc main_v4_10) = Kn) :
    pairOf (after cond0Ops (W1k m n.val c)) (ix3 b s e)
      = Kn (ix2 b (pred s e)) + rp m c n.val s b := by
  unfold pairOf
  rw [at0 m c n.val (b := main_v4_0) (by decide) (by decide), at0 m c n.val (b := main_v4_1) (by decide) (by decide),
    at0 m c n.val (b := main_v4_2) (by decide) (by decide), at0 m c n.val (b := main_v4_3) (by decide) (by decide),
    at0 m c n.val (b := main_v4_4) (by decide) (by decide), at0 m c n.val (b := main_v4_5) (by decide) (by decide),
    at0 m c n.val (b := main_v4_6) (by decide) (by decide), at0 m c n.val (b := main_v4_7) (by decide) (by decide),
    at0' m c n.val (b := main_v4_9) (by decide), at0' m c n.val (b := main_v4_10) (by decide),
    W1_0, W1_1, W1_2, W1_3, W1_4, W1_5, W1_6, W1_7, ctr0_at, hK]
  rw [rPair_apply, rPrior_apply]
  rw [show rp m c n.val s b = _ from dif_pos n.isLt]
  unfold rprior
  congr 2
  refine Finset.sum_congr rfl fun i _ => ?_
  rw [rHid2_apply]
  congr 3
  refine Finset.sum_congr rfl fun j _ => ?_
  rw [rHid1_apply, rRow_apply _ _ n (fun i => by rw [iv_eq]; exact word_toInt _ (by have := n.isLt; omega))]
  rw [transpose_apply (t := S2048x512) [1, 0] _ _ (ix2 n b) (ix2 b n) (fun b => by fin_cases b <;> rfl)]

/-- What holds before trip `n` of the first loop. -/
theorem loop0 (c : Dev nD) (hfin : ∀ t < 2048, ∀ s b, rp m c t s b ≠ ⊤ ∧ rp m c t s b ≠ ⊥) : ∀ n ≤ 2048,
    (∀ b s, (W1k m n c (Proc.devRef .tc main_v4_10) : S512x16.Idx → EReal) (ix2 b s) = Viterbi.K (rp m c) n s b)
    ∧ (∀ t : Fin 2048, t.val < n → ∀ b s, (W1k m n c (Proc.devRef .tc main_v4_11) : S2048x512x16.Idx → BitVec 32) (ix3 t b s)
        = BitVec.ofNat 32 (s.val / 2 + 8 * Viterbi.bit (rp m c) t.val (Viterbi.half s) b))
  | 0, _ => ⟨fun b s => W1_10 m c b s, fun t ht => absurd ht (by omega)⟩
  | n + 1, hn => by
    obtain ⟨ihK, ihD⟩ := loop0 c hfin n (by omega)
    have hnn : n < 2048 := by omega
    have hp : ∀ b s e, pairOf (after cond0Ops (W1k m n c)) (ix3 b s e) = Viterbi.K (rp m c) n (pred s e) b + rp m c n s b := fun b s e => by
      rw [pair_at m c ⟨n, hnn⟩ b s e _ rfl, ihK]
    refine ⟨fun b s => ?_, fun t ht b s => ?_⟩
    · rw [W1k_succ, step_cost, rCost_apply, hp, hp]
      show _ = rp m c n s b + min (Viterbi.K (rp m c) n (Viterbi.lo s) b) (Viterbi.K (rp m c) n (Viterbi.hi s) b)
      rw [show pred s 0 = Viterbi.lo s from Fin.ext (by simp [pred, Viterbi.lo]), show pred s 1 = Viterbi.hi s from Fin.ext (by simp [pred, Viterbi.hi])]
      rw [min_add_add_right, add_comm]
    · rw [W1k_succ, step_prev, at0' m c n (b := main_v4_9) (by decide), ctr0_at,
        rStore_apply _ _ _ ⟨n, hnn⟩ (fun i => by rw [iv_eq]; exact word_toInt _ (by omega))]
      by_cases h : t = ⟨n, hnn⟩
      · rw [if_pos h]
        subst h
        rw [at0 m c n (b := main_v4_7) (by decide) (by decide), at0 m c n (b := main_v4_8) (by decide) (by decide), W1_7, W1_8]
        obtain ⟨x, hx⟩ : ∃ x : ℝ, rp m c n s b = (x : EReal) := ⟨_, (EReal.coe_toReal (hfin n hnn s b).1 (hfin n hnn s b).2).symm⟩
        have hlt : (Viterbi.K (rp m c) n (pred s 1) b + rp m c n s b < Viterbi.K (rp m c) n (pred s 0) b + rp m c n s b)
            ↔ Viterbi.dec (rp m c) n (Viterbi.half s) b := by
          rw [hx]
          unfold Viterbi.dec
          rw [show pred s 0 = ⟨(Viterbi.half s).val, by omega⟩ from Fin.ext (by simp [pred, Viterbi.half]), show pred s 1 = ⟨(Viterbi.half s).val + 8, by omega⟩ from Fin.ext (by simp [pred, Viterbi.half])]
          exact ⟨fun h => lt_of_not_ge fun h' => absurd h (not_lt.2 (add_le_add h' le_rfl)), fun h => EReal.add_lt_add_right_coe h x⟩
        rw [rPrev_apply _ b s ⟨Viterbi.bit (rp m c) n (Viterbi.half s) b, by have := Viterbi.bit_le (rp m c) n (Viterbi.half s) b; omega⟩ ?_]
        · rfl
        · rw [rArg_apply, hp, hp]
          unfold Viterbi.bit
          by_cases hd : Viterbi.dec (rp m c) n (Viterbi.half s) b
          · simp [hd, hlt.2 hd]
          · simp [hd, mt hlt.1 hd]
      · rw [if_neg h, at0' m c n (b := main_v4_11) (by decide)]
        exact ihD t (by have : t.val ≠ n := fun e => h (Fin.ext e); omega) b s

/-- What the walk back reads: the predecessors taken. -/
theorem W3_0 (c : Dev nD) : W3 m c (Proc.devRef .tc main_v7_0) = W1k m 2048 c (Proc.devRef .tc main_v4_11) := by
  rw [show W3 m c (Proc.devRef .tc main_v7_0) = W2 m c (Proc.devRef .tc main_v4_11) from ?_]
  · exact at0' m c 2048 (by decide)
  · simp only [W3]
    generalize W2 m c = X
    after_results; rfl

theorem W3_2 (c : Dev nD) (b : Fin 512) : (W3 m c (Proc.devRef .tc main_v7_2) : S512.Idx → BitVec 32) (ix1 b) = 0#32 := by
  have h : W3 m c (Proc.devRef .tc main_v7_2) = broadcastInDim S512 ![] bcast_S_S512 (constantI S_ 32 0#32) := by
    simp only [W3]
    generalize W2 m c = X
    after_results; rfl
  rw [h, broadcastInDim_scalar_apply]
  rfl

/-- What holds before trip `n` of the second loop. -/
theorem loop1 (c : Dev nD) (hfin : ∀ t < 2048, ∀ s b, rp m c t s b ≠ ⊤ ∧ rp m c t s b ≠ ⊥) : ∀ n ≤ 2048,
    (∀ b, (W3k m n c (Proc.devRef .tc main_v7_2) : S512.Idx → BitVec 32) (ix1 b) = BitVec.ofNat 32 (Viterbi.st (rp m c) n b).val)
    ∧ (∀ t : Fin 2048, 2048 - n ≤ t.val → ∀ b, (W3k m n c (Proc.devRef .tc main_v7_3) : S2048x512.Idx → EReal) (ix2 t b)
        = (((Viterbi.out (rp m c) (2047 - t.val) b : ℕ) : ℝ) : EReal))
  | 0, _ => ⟨fun b => W3_2 m c b, fun t ht => absurd ht (by have := t.isLt; omega)⟩
  | n + 1, hn => by
    obtain ⟨ihS, ihO⟩ := loop1 c hfin n (by omega)
    have hnn : n < 2048 := by omega
    have hk : ∀ i, (rTime (W3k m n c (Proc.devRef .tc main_v7_1)) i).toInt = ((2047 - n : ℕ) : Int) :=
      fun i => rTime_toInt _ n hnn (by rw [ctr1_at]; exact funext fun _ => iv_eq n) i
    have hst : ∀ b, stateOf (after cond1Ops (W3k m n c)) (ix1 b) = BitVec.ofNat 32 (Viterbi.st (rp m c) (n + 1) b).val := fun b => by
      unfold stateOf
      rw [at1' m c n (b := main_v7_0) (by decide), at1' m c n (b := main_v7_1) (by decide), at1' m c n (b := main_v7_2) (by decide)]
      rw [rState_apply _ _ b (Viterbi.st (rp m c) n b) (ihS b), rSlab_apply _ _ ⟨2047 - n, by omega⟩ hk,
        W3k_keep m c (b := main_v7_0) (by decide) (by decide) n, W3_0,
        (loop0 m c hfin 2048 le_rfl).2 ⟨2047 - n, by omega⟩ (by show 2047 - n < 2048; omega)]
      rfl
    refine ⟨fun b => ?_, fun t ht b => ?_⟩
    · rw [W3k_succ, step_state]; exact hst b
    · rw [W3k_succ, step_out, at1' m c n (b := main_v7_1) (by decide), at1' m c n (b := main_v7_3) (by decide),
        rOut_apply _ _ _ ⟨2047 - n, by omega⟩ hk t b _ (Viterbi.st (rp m c) (n + 1) b).isLt (hst b)]
      by_cases h : t = ⟨2047 - n, by omega⟩
      · rw [if_pos h]
        have hn' : 2047 - t.val = n := by rw [h]; show 2047 - (2047 - n) = n; omega
        rw [hn']
        congr 2
        have hv : (Viterbi.st (rp m c) (n + 1) b).val = (Viterbi.st (rp m c) n b).val / 2 + 8 * Viterbi.out (rp m c) n b := rfl
        have h1 := (Viterbi.st (rp m c) n b).isLt
        have h2 : Viterbi.out (rp m c) n b ≤ 1 := Viterbi.bit_le _ _ _ _
        rw [hv]
        split <;> omega
      · rw [if_neg h]
        exact ihO t (by have : t.val ≠ 2047 - n := fun e => h (Fin.ext e); omega) b

/-- The reference's result. -/
theorem result_at (c : Dev nD) (hfin : ∀ t < 2048, ∀ s b, rp m c t s b ≠ ⊤ ∧ rp m c t s b ≠ ⊥) :
    W5 m c (Proc.devRef .tc main_v8) = fun i : S512x2048.Idx => (((Viterbi.out (rp m c) (2047 - (i 1).val) (i 0) : ℕ) : ℝ) : EReal) := by
  have h : W5 m c (Proc.devRef .tc main_v8) = transpose S512x2048 [1, 0] (W4 m c (Proc.devRef .tc main_v7_3) : S2048x512.Idx → EReal) transposes_S2048x512_S512x2048_1_0 := by
    simp only [W5]
    generalize W4 m c = X
    after_results
  rw [h]
  funext i
  obtain ⟨b, t, rfl⟩ : ∃ (b : Fin 512) (t : Fin 2048), i = ix2 b t := ⟨_, _, eq_ix2 i⟩
  rw [transpose_apply (t := S512x2048) [1, 0] _ _ (ix2 b t) (ix2 t b) (fun b => by fin_cases b <;> rfl)]
  rw [show W4 m c (Proc.devRef .tc main_v7_3) = W3k m 2048 c (Proc.devRef .tc main_v7_3) from at1' m c 2048 (by decide)]
  exact (loop1 m c hfin 2048 le_rfl).2 t (by omega) b

end Cert.ReferenceIdeal.Hand

end
-- ==== Proof.M.Alg.lean ====
/- The kernel's priors and the reference's are the same finite numbers: the logistic function at a power of two and
   at a power of `e`, the products in either order, no bias. And the walk back depends on the priors of the 2048
   time steps only. -/
module

public import proofs.«01_k».proof.Proof.PI.Final
public import proofs.«01_k».proof.Proof.R.Value

@[expose] public section

noncomputable section

namespace Viterbi

open Idealize.ShloMosaic

theorem bit_congr (p q : ℕ → Fin 16 → Fin 512 → EReal) (h : ∀ t < 2048, p t = q t) (t : ℕ) (ht : t < 2048) (j : Fin 8) (b : Fin 512) :
    bit p t j b = bit q t j b := by
  unfold bit dec
  rw [K_congr t (fun u hu => h u (by omega)) t le_rfl]

theorem st_congr (p q : ℕ → Fin 16 → Fin 512 → EReal) (h : ∀ t < 2048, p t = q t) : ∀ (i : ℕ) (b : Fin 512), st p i b = st q i b
  | 0, _ => rfl
  | i + 1, b => by
    refine Fin.ext ?_
    rw [st_succ_val, st_succ_val, st_congr p q h i b]
    unfold out
    rw [st_congr p q h i b, bit_congr p q h _ (by omega)]

theorem out_congr (p q : ℕ → Fin 16 → Fin 512 → EReal) (h : ∀ t < 2048, p t = q t) (i : ℕ) (b : Fin 512) : out p i b = out q i b := by
  unfold out
  rw [st_congr p q h i b, bit_congr p q h _ (by omega)]

/-- The power of two of `-x / log 2` is the power of `e` of `-x`. -/
theorem exp2_eq (x : EReal) : Ideal.exp2 (((-((Real.log 2)⁻¹) : ℝ) : EReal) * x) = Ideal.exp (-x) := by
  have hl : 0 < Real.log 2 := Real.log_pos (by norm_num)
  have hn : (-((Real.log 2)⁻¹) : ℝ) < 0 := neg_lt_zero.2 (inv_pos.2 hl)
  induction x with
  | bot => rw [EReal.coe_mul_bot_of_neg hn]; rfl
  | top => rw [EReal.coe_mul_top_of_neg hn]; rfl
  | coe r =>
    rw [← EReal.coe_mul, ← EReal.coe_neg, Ideal.exp2_coe, Ideal.exp_coe]
    congr 1
    show (2 : ℝ) ^ (-((Real.log 2)⁻¹) * r) = Real.exp (-r)
    rw [Real.rpow_def_of_pos (by norm_num)]
    congr 1
    field_simp

/-- The logistic function's value is a number. -/
theorem sig_real (x : EReal) : ∃ r : ℝ, Ideal.div 1 (1 + Ideal.exp x) = (r : EReal) := by
  have h : ∀ z : ℝ, 0 ≤ z → ∃ r : ℝ, Ideal.div 1 (1 + (z : EReal)) = (r : EReal) := fun z hz => by
    have hne : (1 + z : ℝ) ≠ 0 := by positivity
    refine ⟨1 / (1 + z), ?_⟩
    rw [show (1 : EReal) + (z : EReal) = ((1 + z : ℝ) : EReal) from by push_cast; rfl, Ideal.div_coe hne, one_mul]
  induction x with
  | bot => exact h 0 le_rfl
  | coe r => exact h (Real.exp r) (Real.exp_pos r).le
  | top =>
    refine ⟨0, ?_⟩
    rw [Ideal.exp_top, show (1 : EReal) + ⊤ = ⊤ from rfl]
    simp [Ideal.div]

theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy
  exact ⟨a * b, (EReal.coe_mul a b).symm⟩

theorem real_sum {n : ℕ} (f : Fin n → EReal) (h : ∀ i, ∃ r : ℝ, f i = (r : EReal)) : ∃ r : ℝ, ∑ i, f i = (r : EReal) := by
  choose g hg using h
  refine ⟨∑ i, g i, ?_⟩
  rw [Finset.sum_congr rfl fun i _ => hg i]
  exact (map_sum (⟨⟨Real.toEReal, EReal.coe_zero⟩, EReal.coe_add⟩ : ℝ →+ EReal) g Finset.univ).symm

theorem real_max {x : EReal} (hx : ∃ r : ℝ, x = (r : EReal)) : ∃ r : ℝ, max x 0 = (r : EReal) := by
  obtain ⟨a, rfl⟩ := hx
  rcases le_total (a : EReal) 0 with h | h
  · exact ⟨0, max_eq_right h⟩
  · exact ⟨a, max_eq_left h⟩

end Viterbi

namespace Cert.ReferenceIdeal.Hand

open Cert.ReferenceIdeal Idealize.ShloMosaic Idealize.ShloMosaic.ValueIdx Viterbi

variable (y : S512x2048.Idx → EReal) (w1 : S1x100.Idx → EReal) (b1 : S100.Idx → EReal) (w2 : S100x50.Idx → EReal) (b2 : S50.Idx → EReal)
    (w3 : S50x16.Idx → EReal) (b3 : S16.Idx → EReal) (t : Fin 2048) (s : Fin 16) (b : Fin 512)

/-- The same priors, with no bias. -/
theorem rprior_eq (h1 : ∀ i, b1 i = 0) (h2 : ∀ i, b2 i = 0) (h3 : ∀ i, b3 i = 0) :
    rprior y w1 b1 w2 b2 w3 b3 t s b = Cert.KernelIdeal.Hand.prior y w1 w2 w3 t s b := by
  unfold rprior Cert.KernelIdeal.Hand.prior
  rw [h3, add_zero]
  refine Finset.sum_congr rfl fun i _ => ?_
  rw [h2, add_zero, mul_comm]
  congr 2
  refine Finset.sum_congr rfl fun j _ => ?_
  rw [h1, add_zero, mul_comm, mul_assoc, exp2_eq, mul_comm (y _)]

/-- They are numbers, with finite weights. -/
theorem rprior_real (h2 : ∀ i, b2 i = 0) (h3 : ∀ i, b3 i = 0) (hw2 : ∀ i, ∃ r : ℝ, w2 i = (r : EReal)) (hw3 : ∀ i, ∃ r : ℝ, w3 i = (r : EReal)) :
    ∃ r : ℝ, rprior y w1 b1 w2 b2 w3 b3 t s b = (r : EReal) := by
  unfold rprior
  rw [h3, add_zero]
  refine real_sum _ fun i => real_mul ?_ (hw3 _)
  rw [h2, add_zero]
  exact real_max (real_sum _ fun j => real_mul (sig_real _) (hw2 _))

end Cert.ReferenceIdeal.Hand

end
-- ==== Proof.Alg.lean ====
/- The ideal kernel's result is the ideal reference's, with no bias and finite second and third weights. -/
module

public import proofs.«01_k».proof.Defs
public import proofs.«01_k».proof.Proof.M.Pre
public import proofs.«01_k».proof.Proof.M.Alg

@[expose] public section

noncomputable section

namespace Cert.Proof

open Idealize.ShloMosaic Idealize.ShloMosaic.ValueIdx Idealize.SL.Sem

theorem algebraic : Cert.algebraic_KernelIdeal_ReferenceIdeal_pre_biases_absent_weights_finite := by
  intro m g m' g' hpre hargs
  refine ⟨fun c => fun i : Cert.KernelIdeal.S512x2048.Idx => Cert.KernelIdeal.Hand.G m c (ix2 (i 1) (i 0)), Cert.KernelIdeal.Hand.run_final m g, ?_⟩
  refine (θ_run Cert.ReferenceIdeal.defs _ _).mono (fun r h c => ?_) (Cert.ReferenceIdeal.Hand.run_main m' g')
  have hk : ∀ a ∈ Cert.ReferenceIdeal.Hand.argRefs, (Proc.devRef .tc a : DevRef Cert.ReferenceIdeal.τ Cert.ReferenceIdeal.sig).isScoped = false := by decide
  have ha : ∀ a ∈ Cert.ReferenceIdeal.Hand.argRefs, _ := fun a ha =>
    (Cert.ReferenceIdeal.Hand.run_main_at m' h.1 c a (hk a ha)).trans (Cert.ReferenceIdeal.Hand.W5_args m' c a ha)
  refine ⟨?_, ha Cert.ReferenceIdeal.main_arg0 (by decide), ha Cert.ReferenceIdeal.main_arg1 (by decide), ha Cert.ReferenceIdeal.main_arg2 (by decide),
    ha Cert.ReferenceIdeal.main_arg3 (by decide), ha Cert.ReferenceIdeal.main_arg4 (by decide), ha Cert.ReferenceIdeal.main_arg5 (by decide),
    ha Cert.ReferenceIdeal.main_arg6 (by decide)⟩
  obtain ⟨h1, h2, h3, hw2, hw3⟩ := Cert.Pre_biases_absent_weights_finite.read _ _ _ _ _ _ _ (hpre c)
  obtain ⟨e0, e1, e2, e3, e4, e5, e6⟩ := hargs c
  have hrp : ∀ (t : ℕ) (ht : t < 2048) (s : Fin 16) (b : Fin 512), Cert.ReferenceIdeal.Hand.rp m' c t s b
      = Cert.ReferenceIdeal.Hand.rprior (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) ⟨t, ht⟩ s b := fun t ht s b => by
    rw [← e0, ← e1, ← e2, ← e3, ← e4, ← e5, ← e6]
    exact dif_pos ht
  refine (Cert.ReferenceIdeal.Hand.run_main_at m' h.1 c Cert.ReferenceIdeal.main_v8 rfl).trans
    ((Cert.ReferenceIdeal.Hand.result_at m' c fun t ht s b => ?_).trans ?_)
  · obtain ⟨x, hx⟩ := Cert.ReferenceIdeal.Hand.rprior_real _ _ _ _ _ _ _ ⟨t, ht⟩ s b h2 h3 hw2 hw3
    rw [hrp t ht s b]
    exact ⟨fun e => EReal.coe_ne_top x (hx.symm.trans e), fun e => EReal.coe_ne_bot x (hx.symm.trans e)⟩
  · funext i
    refine congrArg (fun n : ℕ => ((n : ℝ) : EReal)) (Viterbi.out_congr _ _ (fun t ht => ?_) _ _)
    funext s b
    rw [hrp t ht s b]
    exact (Cert.ReferenceIdeal.Hand.rprior_eq _ _ _ _ _ _ _ ⟨t, ht⟩ s b h1 h2 h3).trans (Cert.KernelIdeal.Hand.priors_eq m c ⟨t, ht⟩ s b).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.P.Body
public import proofs.«01_k».proof.Proof.PI.Body
public import proofs.«01_k».proof.Proof.R.Run
public import proofs.«01_k».proof.Proof.M.Pre
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_biases_absent_weights_finite.facts,
  fun m g _ => Cert.Kernel.Hand.frame m g,
  fun m g _ => Cert.KernelIdeal.Hand.frame m g,
  fun m g _ => Cert.KernelIdeal.Hand.frame m g,
  fun m g _ => Cert.ReferenceIdeal.Hand.frame m g,
  fun m g _ => Cert.ReferenceIdeal.Hand.frame m g,
  IdealRules.named_const.statement Cert.KernelIdeal.κ "neg_log2_e" .f32 0xBFB8AA3B#32 ((-((Real.log 2)⁻¹) : ℝ) : EReal) rfl,
  algebraic⟩

end Cert.Proof

end
